-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.Statement Cert.KernelIdeal.S1x56x2x128 Cert.KernelIdeal.S1x56x1x128
  ∧ IdealRules.bf16_pair.Statement Cert.KernelIdeal.S112x128 Cert.KernelIdeal.S56x128
  ∧ IdealRules.bf16_pair.Statement Cert.KernelIdeal.S1x192x2x128 Cert.KernelIdeal.S1x192x1x128
  ∧ IdealRules.bf16_pair.Statement Cert.KernelIdeal.S192x128 Cert.KernelIdeal.S96x128
  ∧ IdealRules.bf16_pair.Statement Cert.KernelIdeal.S192x256 Cert.KernelIdeal.S96x256
  ∧ IdealRules.bf16_pair.Statement Cert.KernelIdeal.S1x144x2x128 Cert.KernelIdeal.S1x144x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1024x7168 : Shape := ⟨3, ![6, 1024, 7168]⟩
abbrev S56x56 : Shape := ⟨2, ![56, 56]⟩
abbrev S128x128 : Shape := ⟨2, ![128, 128]⟩
abbrev S7168x4608 : Shape := ⟨2, ![7168, 4608]⟩
abbrev S18432 : Shape := ⟨1, ![18432]⟩
abbrev S96x96 : Shape := ⟨2, ![96, 96]⟩
abbrev S192x192 : Shape := ⟨2, ![192, 192]⟩
abbrev S2x2 : Shape := ⟨2, ![2, 2]⟩
abbrev S_ : Shape := ⟨0, ![]⟩
abbrev S128x64 : Shape := ⟨2, ![128, 64]⟩
abbrev S56x1x56x1 : Shape := ⟨4, ![56, 1, 56, 1]⟩
abbrev S1x2x1x2 : Shape := ⟨4, ![1, 2, 1, 2]⟩
abbrev S56x2x56x2 : Shape := ⟨4, ![56, 2, 56, 2]⟩
abbrev S112x112 : Shape := ⟨2, ![112, 112]⟩
abbrev S768x8x56x128 : Shape := ⟨4, ![768, 8, 56, 128]⟩
abbrev S768x56x8x128 : Shape := ⟨4, ![768, 56, 8, 128]⟩
abbrev S16x56x8x128 : Shape := ⟨4, ![16, 56, 8, 128]⟩
abbrev S16x56x4x128 : Shape := ⟨4, ![16, 56, 4, 128]⟩
abbrev S1x56x1x128 : Shape := ⟨4, ![1, 56, 1, 128]⟩
abbrev S1x56x2x128 : Shape := ⟨4, ![1, 56, 2, 128]⟩
abbrev S56x128 : Shape := ⟨2, ![56, 128]⟩
abbrev S112x128 : Shape := ⟨2, ![112, 128]⟩
abbrev S6144x7168 : Shape := ⟨2, ![6144, 7168]⟩
abbrev S4608x4 : Shape := ⟨2, ![4608, 4]⟩
abbrev S4x4608 : Shape := ⟨2, ![4, 4608]⟩
abbrev S1x4x4608 : Shape := ⟨3, ![1, 4, 4608]⟩
abbrev S48x4x192 : Shape := ⟨3, ![48, 4, 192]⟩
abbrev S4x48x192 : Shape := ⟨3, ![4, 48, 192]⟩
abbrev S192x256 : Shape := ⟨2, ![192, 256]⟩
abbrev S6144x24576 : Shape := ⟨2, ![6144, 24576]⟩
abbrev S512x7168 : Shape := ⟨2, ![512, 7168]⟩
abbrev S7168x384 : Shape := ⟨2, ![7168, 384]⟩
abbrev S1x4x384 : Shape := ⟨3, ![1, 4, 384]⟩
abbrev S512x2048 : Shape := ⟨2, ![512, 2048]⟩
abbrev S7168x512 : Shape := ⟨2, ![7168, 512]⟩
abbrev S4x512x384 : Shape := ⟨3, ![4, 512, 384]⟩
abbrev S32x128 : Shape := ⟨2, ![32, 128]⟩
abbrev S64x128 : Shape := ⟨2, ![64, 128]⟩
abbrev S512x512 : Shape := ⟨2, ![512, 512]⟩
abbrev S512x128 : Shape := ⟨2, ![512, 128]⟩
abbrev S1x1x128 : Shape := ⟨3, ![1, 1, 128]⟩
abbrev S1x128 : Shape := ⟨2, ![1, 128]⟩
abbrev S1x512x128 : Shape := ⟨3, ![1, 512, 128]⟩
abbrev S1x512x48 : Shape := ⟨3, ![1, 512, 48]⟩
abbrev S512x48 : Shape := ⟨2, ![512, 48]⟩
abbrev S512x192 : Shape := ⟨2, ![512, 192]⟩
abbrev S512x256 : Shape := ⟨2, ![512, 256]⟩
abbrev S96x1x96x1 : Shape := ⟨4, ![96, 1, 96, 1]⟩
abbrev S96x2x96x2 : Shape := ⟨4, ![96, 2, 96, 2]⟩
abbrev S768x8x192x128 : Shape := ⟨4, ![768, 8, 192, 128]⟩
abbrev S768x192x8x128 : Shape := ⟨4, ![768, 192, 8, 128]⟩
abbrev S768x144x8x128 : Shape := ⟨4, ![768, 144, 8, 128]⟩
abbrev S4x192x8x128 : Shape := ⟨4, ![4, 192, 8, 128]⟩
abbrev S4x144x8x128 : Shape := ⟨4, ![4, 144, 8, 128]⟩
abbrev S4x192x4x128 : Shape := ⟨4, ![4, 192, 4, 128]⟩
abbrev S1x192x1x128 : Shape := ⟨4, ![1, 192, 1, 128]⟩
abbrev S1x192x2x128 : Shape := ⟨4, ![1, 192, 2, 128]⟩
abbrev S192x128 : Shape := ⟨2, ![192, 128]⟩
abbrev S96x2x128 : Shape := ⟨3, ![96, 2, 128]⟩
abbrev S96x1x128 : Shape := ⟨3, ![96, 1, 128]⟩
abbrev S96x128 : Shape := ⟨2, ![96, 128]⟩
abbrev S96x256 : Shape := ⟨2, ![96, 256]⟩
abbrev S48x2x256 : Shape := ⟨3, ![48, 2, 256]⟩
abbrev S48x1x192 : Shape := ⟨3, ![48, 1, 192]⟩
abbrev S48x192 : Shape := ⟨2, ![48, 192]⟩
abbrev S48x384 : Shape := ⟨2, ![48, 384]⟩
abbrev S144x128 : Shape := ⟨2, ![144, 128]⟩
abbrev S4x144x4x128 : Shape := ⟨4, ![4, 144, 4, 128]⟩
abbrev S1x144x1x128 : Shape := ⟨4, ![1, 144, 1, 128]⟩
abbrev S1x144x2x128 : Shape := ⟨4, ![1, 144, 2, 128]⟩
abbrev S768x8x144x128 : Shape := ⟨4, ![768, 8, 144, 128]⟩
abbrev S6x1024x18432 : Shape := ⟨3, ![6, 1024, 18432]⟩

abbrev nBuf : Space → Nat
  | .hbm => 51
  | .vmem => 22
  | .smem => 0
  | _ => 0

abbrev bufTy : (tb : Table) → Fin (tcTables nBuf tb) → BufTy
  | .hbm, ⟨0, _⟩ => ⟨S6x1024x7168, .bf16⟩
  | .hbm, ⟨1, _⟩ => ⟨S56x56, .bf16⟩
  | .hbm, ⟨2, _⟩ => ⟨S128x128, .bf16⟩
  | .hbm, ⟨3, _⟩ => ⟨S7168x4608, .i8⟩
  | .hbm, ⟨4, _⟩ => ⟨S18432, .f32⟩
  | .hbm, ⟨5, _⟩ => ⟨S96x96, .bf16⟩
  | .hbm, ⟨6, _⟩ => ⟨S192x192, .bf16⟩
  | .hbm, ⟨7, _⟩ => ⟨S2x2, .i32⟩
  | .hbm, ⟨8, _⟩ => ⟨S2x2, .i32⟩
  | .hbm, ⟨9, _⟩ => ⟨S_, .i32⟩
  | .hbm, ⟨10, _⟩ => ⟨S2x2, .i32⟩
  | .hbm, ⟨11, _⟩ => ⟨S2x2, .i32⟩
  | .hbm, ⟨12, _⟩ => ⟨S2x2, .i1⟩
  | .hbm, ⟨13, _⟩ => ⟨S2x2, .bf16⟩
  | .hbm, ⟨14, _⟩ => ⟨S128x64, .bf16⟩
  | .hbm, ⟨15, _⟩ => ⟨S128x64, .bf16⟩
  | .hbm, ⟨16, _⟩ => ⟨S128x128, .bf16⟩
  | .hbm, ⟨17, _⟩ => ⟨S56x56, .bf16⟩
  | .hbm, ⟨18, _⟩ => ⟨S56x1x56x1, .bf16⟩
  | .hbm, ⟨19, _⟩ => ⟨S1x2x1x2, .bf16⟩
  | .hbm, ⟨20, _⟩ => ⟨S56x2x56x2, .bf16⟩
  | .hbm, ⟨21, _⟩ => ⟨S56x2x56x2, .bf16⟩
  | .hbm, ⟨22, _⟩ => ⟨S56x2x56x2, .bf16⟩
  | .hbm, ⟨23, _⟩ => ⟨S112x112, .bf16⟩
  | .hbm, ⟨24, _⟩ => ⟨S768x8x56x128, .bf16⟩
  | .hbm, ⟨25, _⟩ => ⟨S768x56x8x128, .bf16⟩
  | .hbm, ⟨26, _⟩ => ⟨S768x56x8x128, .bf16⟩
  | .hbm, ⟨27, _⟩ => ⟨S768x8x56x128, .bf16⟩
  | .hbm, ⟨28, _⟩ => ⟨S6144x7168, .bf16⟩
  | .hbm, ⟨29, _⟩ => ⟨S4608x4, .f32⟩
  | .hbm, ⟨30, _⟩ => ⟨S4x4608, .f32⟩
  | .hbm, ⟨31, _⟩ => ⟨S1x4x4608, .f32⟩
  | .hbm, ⟨32, _⟩ => ⟨S192x192, .bf16⟩
  | .hbm, ⟨33, _⟩ => ⟨S48x4x192, .bf16⟩
  | .hbm, ⟨34, _⟩ => ⟨S4x48x192, .bf16⟩
  | .hbm, ⟨35, _⟩ => ⟨S192x192, .bf16⟩
  | .hbm, ⟨36, _⟩ => ⟨S_, .i32⟩
  | .hbm, ⟨37, _⟩ => ⟨S_, .bf16⟩
  | .hbm, ⟨38, _⟩ => ⟨S192x256, .bf16⟩
  | .hbm, ⟨39, _⟩ => ⟨S6144x24576, .bf16⟩
  | .hbm, ⟨40, _⟩ => ⟨S96x1x96x1, .bf16⟩
  | .hbm, ⟨41, _⟩ => ⟨S1x2x1x2, .bf16⟩
  | .hbm, ⟨42, _⟩ => ⟨S96x2x96x2, .bf16⟩
  | .hbm, ⟨43, _⟩ => ⟨S96x2x96x2, .bf16⟩
  | .hbm, ⟨44, _⟩ => ⟨S96x2x96x2, .bf16⟩
  | .hbm, ⟨45, _⟩ => ⟨S192x192, .bf16⟩
  | .hbm, ⟨46, _⟩ => ⟨S768x8x192x128, .bf16⟩
  | .hbm, ⟨47, _⟩ => ⟨S768x192x8x128, .bf16⟩
  | .hbm, ⟨48, _⟩ => ⟨S768x144x8x128, .bf16⟩
  | .hbm, ⟨49, _⟩ => ⟨S768x8x144x128, .bf16⟩
  | .hbm, ⟨50, _⟩ => ⟨S6x1024x18432, .bf16⟩
  | .local _ .vmem, ⟨0, _⟩ => ⟨S16x56x8x128, .bf16⟩
  | .local _ .vmem, ⟨1, _⟩ => ⟨S16x56x8x128, .bf16⟩
  | .local _ .vmem, ⟨2, _⟩ => ⟨S128x128, .bf16⟩
  | .local _ .vmem, ⟨3, _⟩ => ⟨S112x112, .bf16⟩
  | .local _ .vmem, ⟨4, _⟩ => ⟨S16x56x8x128, .bf16⟩
  | .local _ .vmem, ⟨5, _⟩ => ⟨S16x56x8x128, .bf16⟩
  | .local _ .vmem, ⟨6, _⟩ => ⟨S512x7168, .bf16⟩
  | .local _ .vmem, ⟨7, _⟩ => ⟨S512x7168, .bf16⟩
  | .local _ .vmem, ⟨8, _⟩ => ⟨S7168x384, .i8⟩
  | .local _ .vmem, ⟨9, _⟩ => ⟨S7168x384, .i8⟩
  | .local _ .vmem, ⟨10, _⟩ => ⟨S1x4x384, .f32⟩
  | .local _ .vmem, ⟨11, _⟩ => ⟨S1x4x384, .f32⟩
  | .local _ .vmem, ⟨12, _⟩ => ⟨S192x256, .bf16⟩
  | .local _ .vmem, ⟨13, _⟩ => ⟨S512x2048, .bf16⟩
  | .local _ .vmem, ⟨14, _⟩ => ⟨S512x2048, .bf16⟩
  | .local _ .vmem, ⟨15, _⟩ => ⟨S7168x512, .bf16⟩
  | .local _ .vmem, ⟨16, _⟩ => ⟨S4x512x384, .bf16⟩
  | .local _ .vmem, ⟨17, _⟩ => ⟨S4x192x8x128, .bf16⟩
  | .local _ .vmem, ⟨18, _⟩ => ⟨S4x192x8x128, .bf16⟩
  | .local _ .vmem, ⟨19, _⟩ => ⟨S192x192, .bf16⟩
  | .local _ .vmem, ⟨20, _⟩ => ⟨S4x144x8x128, .bf16⟩
  | .local _ .vmem, ⟨21, _⟩ => ⟨S4x144x8x128, .bf16⟩
  | _, _ => ⟨S6x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_0 : Ref sig .tc := ⟨.hbm, 36, rfl⟩
abbrev main_call1_v0 : Ref sig .tc := ⟨.hbm, 37, rfl⟩
abbrev main_v23 : Ref sig .tc := ⟨.hbm, 38, rfl⟩
abbrev main_v24 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc1_scratch1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19

abbrev nD : Nat := 1
abbrev τ : Topo := Topo.v7x

variable {F : FTy → Type} [BitOps F]

abbrev grid0 : Pipeline.Grid := ⟨1, ![48], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 4 → Nat :=
  let c0_i32 : BitVec 32 := 0#32
  let c1_i32 : BitVec 32 := 1#32
  let arg5 : BitVec 32 := Scf.iv c0_i32 c1_i32 k0_t1
  let v2 : Index := Scalar.indexCast arg5
  let c0 : Index := 0#32
  let c0_2 : Index := 0#32
  ![v2.toNat, 0, 0, 0]
def k0_off2 (k0_t1 : Fin k0_t1_loop.trips) : Fin 4 → Nat :=
  let c0_i32 : BitVec 32 := 0#32
  let c1_i32 : BitVec 32 := 1#32
  let arg5 : BitVec 32 := Scf.iv c0_i32 c1_i32 k0_t1
  let v21 : Index := Scalar.indexCast arg5
  let c0_11 : Index := 0#32
  let c0_12 : Index := 0#32
  ![v21.toNat, 0, 2, 0]
def k0_off3 (k0_t1 : Fin k0_t1_loop.trips) : Fin 4 → Nat :=
  let c0_i32 : BitVec 32 := 0#32
  let c1_i32 : BitVec 32 := 1#32
  let arg5 : BitVec 32 := Scf.iv c0_i32 c1_i32 k0_t1
  let v40 : Index := Scalar.indexCast arg5
  let c0_22 : Index := 0#32
  let c0_23 : Index := 0#32
  ![v40.toNat, 0, 4, 0]
def k0_off4 (k0_t1 : Fin k0_t1_loop.trips) : Fin 4 → Nat :=
  let c0_i32 : BitVec 32 := 0#32
  let c1_i32 : BitVec 32 := 1#32
  let arg5 : BitVec 32 := Scf.iv c0_i32 c1_i32 k0_t1
  let v59 : Index := Scalar.indexCast arg5
  let c0_33 : Index := 0#32
  let c0_34 : Index := 0#32
  ![v59.toNat, 0, 6, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x56x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S112x112 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x56x8x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![12, 12], ![false, false]⟩

@[reducible] def k1_t1_loop : Scf.Loop 32 :=
  let c0_i32 : BitVec 32 := 0#32
  let c56_i32 : BitVec 32 := 56#32
  let v0 : BitVec 32 := Scalar.addi c0_i32 c56_i32
  let c1_i32 : BitVec 32 := 1#32
  ⟨c0_i32, v0, c1_i32⟩
def k1_off1 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v235 : BitVec 32 := Scalar.muli arg9 c128_i32
  let v236 : Index := Scalar.indexCast v235
  let c0_212 : Index := 0#32
  ![v236.toNat, 0]
def k1_off2 (k1_t1 : Fin k1_t1_loop.trips) (c0_i32_215 : BitVec 32) : Fin 2 → Nat :=
  let c0_i32 : BitVec 32 := 0#32
  let c1_i32 : BitVec 32 := 1#32
  let arg9 : BitVec 32 := Scf.iv c0_i32 c1_i32 k1_t1
  let c128_i32_214 : BitVec 32 := 128#32
  let v248 : BitVec 32 := Scalar.muli arg9 c128_i32_214
  let v249 : BitVec 32 := Scalar.addi v248 c0_i32_215
  let v250 : Index := Scalar.indexCast v249
  let c0_216 : Index := 0#32
  ![v250.toNat, 0]
def k1_off3 (k1_t1 : Fin k1_t1_loop.trips) (c0_i32_227 : BitVec 32) : Fin 2 → Nat :=
  let c0_i32 : BitVec 32 := 0#32
  let c1_i32 : BitVec 32 := 1#32
  let arg9 : BitVec 32 := Scf.iv c0_i32 c1_i32 k1_t1
  let c128_i32_226 : BitVec 32 := 128#32
  let v278 : BitVec 32 := Scalar.muli arg9 c128_i32_226
  let v279 : BitVec 32 := Scalar.addi v278 c0_i32_227
  let v280 : Index := Scalar.indexCast v279
  let c128_228 : Index := 128#32
  ![v280.toNat, 128]
def k1_off4 (k1_t1 : Fin k1_t1_loop.trips) (c0_i32_241 : BitVec 32) : Fin 2 → Nat :=
  let c0_i32 : BitVec 32 := 0#32
  let c1_i32 : BitVec 32 := 1#32
  let arg9 : BitVec 32 := Scf.iv c0_i32 c1_i32 k1_t1
  let c128_i32_240 : BitVec 32 := 128#32
  let v308 : BitVec 32 := Scalar.muli arg9 c128_i32_240
  let v309 : BitVec 32 := Scalar.addi v308 c0_i32_241
  let v310 : Index := Scalar.indexCast v309
  let c256_242 : Index := 256#32
  ![v310.toNat, 256]
def k1_off5 (k1_t1 : Fin k1_t1_loop.trips) (c0_i32_254 : BitVec 32) : Fin 2 → Nat :=
  let c0_i32 : BitVec 32 := 0#32
  let c1_i32 : BitVec 32 := 1#32
  let arg9 : BitVec 32 := Scf.iv c0_i32 c1_i32 k1_t1
  let c128_i32_253 : BitVec 32 := 128#32
  let v338 : BitVec 32 := Scalar.muli arg9 c128_i32_253
  let v339 : BitVec 32 := Scalar.addi v338 c0_i32_254
  let v340 : Index := Scalar.indexCast v339
  let c384 : Index := 384#32
  ![v340.toNat, 384]
@[reducible] def k1_t2_loop : Scf.Loop 32 :=
  let c0_i32_25 : BitVec 32 := 0#32
  let c56_i32_26 : BitVec 32 := 56#32
  let v41 : BitVec 32 := Scalar.addi c0_i32_25 c56_i32_26
  let c1_i32_27 : BitVec 32 := 1#32
  ⟨c0_i32_25, v41, c1_i32_27⟩
def k1_off6 (k1_t2 : Fin k1_t2_loop.trips) : Fin 2 → Nat :=
  let c0_i32_25 : BitVec 32 := 0#32
  let c1_i32_27 : BitVec 32 := 1#32
  let arg9 : BitVec 32 := Scf.iv c0_i32_25 c1_i32_27 k1_t2
  let c128_i32 : BitVec 32 := 128#32
  let v235 : BitVec 32 := Scalar.muli arg9 c128_i32
  let v236 : Index := Scalar.indexCast v235
  let c128_212 : Index := 128#32
  ![v236.toNat, 128]
def k1_off7 (k1_t2 : Fin k1_t2_loop.trips) (c0_i32_215 : BitVec 32) : Fin 2 → Nat :=
  let c0_i32_25 : BitVec 32 := 0#32
  let c1_i32_27 : BitVec 32 := 1#32
  let arg9 : BitVec 32 := Scf.iv c0_i32_25 c1_i32_27 k1_t2
  let c128_i32_214 : BitVec 32 := 128#32
  let v248 : BitVec 32 := Scalar.muli arg9 c128_i32_214
  let v249 : BitVec 32 := Scalar.addi v248 c0_i32_215
  let v250 : Index := Scalar.indexCast v249
  let c0_216 : Index := 0#32
  ![v250.toNat, 0]
def k1_off8 (k1_t2 : Fin k1_t2_loop.trips) (c0_i32_227 : BitVec 32) : Fin 2 → Nat :=
  let c0_i32_25 : BitVec 32 := 0#32
  let c1_i32_27 : BitVec 32 := 1#32
  let arg9 : BitVec 32 := Scf.iv c0_i32_25 c1_i32_27 k1_t2
  let c128_i32_226 : BitVec 32 := 128#32
  let v278 : BitVec 32 := Scalar.muli arg9 c128_i32_226
  let v279 : BitVec 32 := Scalar.addi v278 c0_i32_227
  let v280 : Index := Scalar.indexCast v279
  let c128_228 : Index := 128#32
  ![v280.toNat, 128]
def k1_off9 (k1_t2 : Fin k1_t2_loop.trips) (c0_i32_241 : BitVec 32) : Fin 2 → Nat :=
  let c0_i32_25 : BitVec 32 := 0#32
  let c1_i32_27 : BitVec 32 := 1#32
  let arg9 : BitVec 32 := Scf.iv c0_i32_25 c1_i32_27 k1_t2
  let c128_i32_240 : BitVec 32 := 128#32
  let v308 : BitVec 32 := Scalar.muli arg9 c128_i32_240
  let v309 : BitVec 32 := Scalar.addi v308 c0_i32_241
  let v310 : Index := Scalar.indexCast v309
  let c256_242 : Index := 256#32
  ![v310.toNat, 256]
def k1_off10 (k1_t2 : Fin k1_t2_loop.trips) (c0_i32_254 : BitVec 32) : Fin 2 → Nat :=
  let c0_i32_25 : BitVec 32 := 0#32
  let c1_i32_27 : BitVec 32 := 1#32
  let arg9 : BitVec 32 := Scf.iv c0_i32_25 c1_i32_27 k1_t2
  let c128_i32_253 : BitVec 32 := 128#32
  let v338 : BitVec 32 := Scalar.muli arg9 c128_i32_253
  let v339 : BitVec 32 := Scalar.addi v338 c0_i32_254
  let v340 : Index := Scalar.indexCast v339
  let c384 : Index := 384#32
  ![v340.toNat, 384]
@[reducible] def k1_t3_loop : Scf.Loop 32 :=
  let c0_i32_57 : BitVec 32 := 0#32
  let c56_i32_58 : BitVec 32 := 56#32
  let v82 : BitVec 32 := Scalar.addi c0_i32_57 c56_i32_58
  let c1_i32_59 : BitVec 32 := 1#32
  ⟨c0_i32_57, v82, c1_i32_59⟩
def k1_off11 (k1_t3 : Fin k1_t3_loop.trips) : Fin 2 → Nat :=
  let c0_i32_57 : BitVec 32 := 0#32
  let c1_i32_59 : BitVec 32 := 1#32
  let arg9 : BitVec 32 := Scf.iv c0_i32_57 c1_i32_59 k1_t3
  let c128_i32 : BitVec 32 := 128#32
  let v235 : BitVec 32 := Scalar.muli arg9 c128_i32
  let v236 : Index := Scalar.indexCast v235
  let c256_212 : Index := 256#32
  ![v236.toNat, 256]
def k1_off12 (k1_t3 : Fin k1_t3_loop.trips) (c0_i32_215 : BitVec 32) : Fin 2 → Nat :=
  let c0_i32_57 : BitVec 32 := 0#32
  let c1_i32_59 : BitVec 32 := 1#32
  let arg9 : BitVec 32 := Scf.iv c0_i32_57 c1_i32_59 k1_t3
  let c128_i32_214 : BitVec 32 := 128#32
  let v248 : BitVec 32 := Scalar.muli arg9 c128_i32_214
  let v249 : BitVec 32 := Scalar.addi v248 c0_i32_215
  let v250 : Index := Scalar.indexCast v249
  let c0_216 : Index := 0#32
  ![v250.toNat, 0]
def k1_off13 (k1_t3 : Fin k1_t3_loop.trips) (c0_i32_227 : BitVec 32) : Fin 2 → Nat :=
  let c0_i32_57 : BitVec 32 := 0#32
  let c1_i32_59 : BitVec 32 := 1#32
  let arg9 : BitVec 32 := Scf.iv c0_i32_57 c1_i32_59 k1_t3
  let c128_i32_226 : BitVec 32 := 128#32
  let v278 : BitVec 32 := Scalar.muli arg9 c128_i32_226
  let v279 : BitVec 32 := Scalar.addi v278 c0_i32_227
  let v280 : Index := Scalar.indexCast v279
  let c128_228 : Index := 128#32
  ![v280.toNat, 128]
def k1_off14 (k1_t3 : Fin k1_t3_loop.trips) (c0_i32_241 : BitVec 32) : Fin 2 → Nat :=
  let c0_i32_57 : BitVec 32 := 0#32
  let c1_i32_59 : BitVec 32 := 1#32
  let arg9 : BitVec 32 := Scf.iv c0_i32_57 c1_i32_59 k1_t3
  let c128_i32_240 : BitVec 32 := 128#32
  let v308 : BitVec 32 := Scalar.muli arg9 c128_i32_240
  let v309 : BitVec 32 := Scalar.addi v308 c0_i32_241
  let v310 : Index := Scalar.indexCast v309
  let c256_242 : Index := 256#32
  ![v310.toNat, 256]
def k1_off15 (k1_t3 : Fin k1_t3_loop.trips) (c0_i32_254 : BitVec 32) : Fin 2 → Nat :=
  let c0_i32_57 : BitVec 32 := 0#32
  let c1_i32_59 : BitVec 32 := 1#32
  let arg9 : BitVec 32 := Scf.iv c0_i32_57 c1_i32_59 k1_t3
  let c128_i32_253 : BitVec 32 := 128#32
  let v338 : BitVec 32 := Scalar.muli arg9 c128_i32_253
  let v339 : BitVec 32 := Scalar.addi v338 c0_i32_254
  let v340 : Index := Scalar.indexCast v339
  let c384 : Index := 384#32
  ![v340.toNat, 384]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x7168 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S7168x384 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x4x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S192x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![192], ![false]⟩

@[reducible] def k2_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k2_off1 (k2_t1 : Fin k2_t1_loop.trips) : Fin 4 → Nat :=
  let c0_i32 : BitVec 32 := 0#32
  let c1_i32 : BitVec 32 := 1#32
  let arg4 : BitVec 32 := Scf.iv c0_i32 c1_i32 k2_t1
  let v2 : Index := Scalar.indexCast arg4
  let c0 : Index := 0#32
  let c0_2 : Index := 0#32
  ![v2.toNat, 0, 0, 0]
def k2_off2 (k2_t1 : Fin k2_t1_loop.trips) : Fin 4 → Nat :=
  let c0_i32 : BitVec 32 := 0#32
  let c1_i32 : BitVec 32 := 1#32
  let arg4 : BitVec 32 := Scf.iv c0_i32 c1_i32 k2_t1
  let v26 : Index := Scalar.indexCast arg4
  let c0_5 : Index := 0#32
  let c0_7 : Index := 0#32
  ![v26.toNat, 0, 0, 0]
def k2_off3 (k2_t1 : Fin k2_t1_loop.trips) : Fin 4 → Nat :=
  let c0_i32 : BitVec 32 := 0#32
  let c1_i32 : BitVec 32 := 1#32
  let arg4 : BitVec 32 := Scf.iv c0_i32 c1_i32 k2_t1
  let v31 : Index := Scalar.indexCast arg4
  let c0_8 : Index := 0#32
  let c0_9 : Index := 0#32
  ![v31.toNat, 0, 2, 0]
def k2_off4 (k2_t1 : Fin k2_t1_loop.trips) : Fin 4 → Nat :=
  let c0_i32 : BitVec 32 := 0#32
  let c1_i32 : BitVec 32 := 1#32
  let arg4 : BitVec 32 := Scf.iv c0_i32 c1_i32 k2_t1
  let v55 : Index := Scalar.indexCast arg4
  let c0_13 : Index := 0#32
  let c0_15 : Index := 0#32
  ![v55.toNat, 0, 2, 0]
def k2_off5 (k2_t1 : Fin k2_t1_loop.trips) : Fin 4 → Nat :=
  let c0_i32 : BitVec 32 := 0#32
  let c1_i32 : BitVec 32 := 1#32
  let arg4 : BitVec 32 := Scf.iv c0_i32 c1_i32 k2_t1
  let v60 : Index := Scalar.indexCast arg4
  let c0_16 : Index := 0#32
  let c0_17 : Index := 0#32
  ![v60.toNat, 0, 4, 0]
def k2_off6 (k2_t1 : Fin k2_t1_loop.trips) : Fin 4 → Nat :=
  let c0_i32 : BitVec 32 := 0#32
  let c1_i32 : BitVec 32 := 1#32
  let arg4 : BitVec 32 := Scf.iv c0_i32 c1_i32 k2_t1
  let v84 : Index := Scalar.indexCast arg4
  let c0_21 : Index := 0#32
  let c0_23 : Index := 0#32
  ![v84.toNat, 0, 4, 0]
def k2_off7 (k2_t1 : Fin k2_t1_loop.trips) : Fin 4 → Nat :=
  let c0_i32 : BitVec 32 := 0#32
  let c1_i32 : BitVec 32 := 1#32
  let arg4 : BitVec 32 := Scf.iv c0_i32 c1_i32 k2_t1
  let v89 : Index := Scalar.indexCast arg4
  let c0_24 : Index := 0#32
  let c0_25 : Index := 0#32
  ![v89.toNat, 0, 6, 0]
def k2_off8 (k2_t1 : Fin k2_t1_loop.trips) : Fin 4 → Nat :=
  let c0_i32 : BitVec 32 := 0#32
  let c1_i32 : BitVec 32 := 1#32
  let arg4 : BitVec 32 := Scf.iv c0_i32 c1_i32 k2_t1
  let v113 : Index := Scalar.indexCast arg4
  let c0_29 : Index := 0#32
  let c0_31 : Index := 0#32
  ![v113.toNat, 0, 6, 0]
def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S4x192x8x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S192x192 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4x144x8x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== KernelIdeal.lean ====
variable {F : FTy → Type} [FloatOps F]
-- ==== ReferenceIdeal.lean ====
abbrev S6x1024x7168 : Shape := ⟨3, ![6, 1024, 7168]⟩
abbrev S56x56 : Shape := ⟨2, ![56, 56]⟩
abbrev S128x128 : Shape := ⟨2, ![128, 128]⟩
abbrev S7168x4608 : Shape := ⟨2, ![7168, 4608]⟩
abbrev S18432 : Shape := ⟨1, ![18432]⟩
abbrev S96x96 : Shape := ⟨2, ![96, 96]⟩
abbrev S192x192 : Shape := ⟨2, ![192, 192]⟩
abbrev S6144x56x128 : Shape := ⟨3, ![6144, 56, 128]⟩
abbrev S56x6144x128 : Shape := ⟨3, ![56, 6144, 128]⟩
abbrev S6144x7168 : Shape := ⟨2, ![6144, 7168]⟩
abbrev S4608x4 : Shape := ⟨2, ![4608, 4]⟩
abbrev S_ : Shape := ⟨0, ![]⟩
abbrev S6144x4608 : Shape := ⟨2, ![6144, 4608]⟩
abbrev S4608x1 : Shape := ⟨2, ![4608, 1]⟩
abbrev S4608 : Shape := ⟨1, ![4608]⟩
abbrev S1x4608 : Shape := ⟨2, ![1, 4608]⟩
abbrev S6144x4608x1 : Shape := ⟨3, ![6144, 4608, 1]⟩
abbrev S6144x4608x4 : Shape := ⟨3, ![6144, 4608, 4]⟩
abbrev S6144x18432 : Shape := ⟨2, ![6144, 18432]⟩
abbrev S6144x96x192 : Shape := ⟨3, ![6144, 96, 192]⟩
abbrev S6144x192x96 : Shape := ⟨3, ![6144, 192, 96]⟩
abbrev S6x1024x18432 : Shape := ⟨3, ![6, 1024, 18432]⟩

abbrev nBuf : Space → Nat
  | .hbm => 97
  | .vmem => 0
  | .smem => 0
  | _ => 0

abbrev bufTy : (tb : Table) → Fin (tcTables nBuf tb) → BufTy
  | .hbm, ⟨0, _⟩ => ⟨S6x1024x7168, .bf16⟩
  | .hbm, ⟨1, _⟩ => ⟨S56x56, .bf16⟩
  | .hbm, ⟨2, _⟩ => ⟨S128x128, .bf16⟩
  | .hbm, ⟨3, _⟩ => ⟨S7168x4608, .i8⟩
  | .hbm, ⟨4, _⟩ => ⟨S18432, .f32⟩
  | .hbm, ⟨5, _⟩ => ⟨S96x96, .bf16⟩
  | .hbm, ⟨6, _⟩ => ⟨S192x192, .bf16⟩
  | .hbm, ⟨7, _⟩ => ⟨S6144x56x128, .bf16⟩
  | .hbm, ⟨8, _⟩ => ⟨S6144x56x128, .f32⟩
  | .hbm, ⟨9, _⟩ => ⟨S6144x56x128, .bf16⟩
  | .hbm, ⟨10, _⟩ => ⟨S56x6144x128, .f32⟩
  | .hbm, ⟨11, _⟩ => ⟨S6144x56x128, .f32⟩
  | .hbm, ⟨12, _⟩ => ⟨S6144x56x128, .bf16⟩
  | .hbm, ⟨13, _⟩ => ⟨S6144x7168, .bf16⟩
  | .hbm, ⟨14, _⟩ => ⟨S4608x4, .f32⟩
  | .hbm, ⟨15, _⟩ => ⟨S7168x4608, .i32⟩
  | .hbm, ⟨16, _⟩ => ⟨S_, .i32⟩
  | .hbm, ⟨17, _⟩ => ⟨S7168x4608, .i32⟩
  | .hbm, ⟨18, _⟩ => ⟨S7168x4608, .i32⟩
  | .hbm, ⟨19, _⟩ => ⟨S_, .i32⟩
  | .hbm, ⟨20, _⟩ => ⟨S7168x4608, .i32⟩
  | .hbm, ⟨21, _⟩ => ⟨S7168x4608, .i32⟩
  | .hbm, ⟨22, _⟩ => ⟨S7168x4608, .bf16⟩
  | .hbm, ⟨23, _⟩ => ⟨S_, .bf16⟩
  | .hbm, ⟨24, _⟩ => ⟨S7168x4608, .bf16⟩
  | .hbm, ⟨25, _⟩ => ⟨S7168x4608, .bf16⟩
  | .hbm, ⟨26, _⟩ => ⟨S6144x4608, .f32⟩
  | .hbm, ⟨27, _⟩ => ⟨S4608x1, .f32⟩
  | .hbm, ⟨28, _⟩ => ⟨S4608, .f32⟩
  | .hbm, ⟨29, _⟩ => ⟨S1x4608, .f32⟩
  | .hbm, ⟨30, _⟩ => ⟨S6144x4608, .f32⟩
  | .hbm, ⟨31, _⟩ => ⟨S6144x4608, .f32⟩
  | .hbm, ⟨32, _⟩ => ⟨S7168x4608, .i32⟩
  | .hbm, ⟨33, _⟩ => ⟨S_, .i32⟩
  | .hbm, ⟨34, _⟩ => ⟨S7168x4608, .i32⟩
  | .hbm, ⟨35, _⟩ => ⟨S7168x4608, .i32⟩
  | .hbm, ⟨36, _⟩ => ⟨S_, .i32⟩
  | .hbm, ⟨37, _⟩ => ⟨S7168x4608, .i32⟩
  | .hbm, ⟨38, _⟩ => ⟨S7168x4608, .i32⟩
  | .hbm, ⟨39, _⟩ => ⟨S7168x4608, .bf16⟩
  | .hbm, ⟨40, _⟩ => ⟨S_, .bf16⟩
  | .hbm, ⟨41, _⟩ => ⟨S7168x4608, .bf16⟩
  | .hbm, ⟨42, _⟩ => ⟨S7168x4608, .bf16⟩
  | .hbm, ⟨43, _⟩ => ⟨S6144x4608, .f32⟩
  | .hbm, ⟨44, _⟩ => ⟨S4608x1, .f32⟩
  | .hbm, ⟨45, _⟩ => ⟨S4608, .f32⟩
  | .hbm, ⟨46, _⟩ => ⟨S1x4608, .f32⟩
  | .hbm, ⟨47, _⟩ => ⟨S6144x4608, .f32⟩
  | .hbm, ⟨48, _⟩ => ⟨S6144x4608, .f32⟩
  | .hbm, ⟨49, _⟩ => ⟨S7168x4608, .i32⟩
  | .hbm, ⟨50, _⟩ => ⟨S_, .i32⟩
  | .hbm, ⟨51, _⟩ => ⟨S7168x4608, .i32⟩
  | .hbm, ⟨52, _⟩ => ⟨S7168x4608, .i32⟩
  | .hbm, ⟨53, _⟩ => ⟨S_, .i32⟩
  | .hbm, ⟨54, _⟩ => ⟨S7168x4608, .i32⟩
  | .hbm, ⟨55, _⟩ => ⟨S7168x4608, .i32⟩
  | .hbm, ⟨56, _⟩ => ⟨S7168x4608, .bf16⟩
  | .hbm, ⟨57, _⟩ => ⟨S_, .bf16⟩
  | .hbm, ⟨58, _⟩ => ⟨S7168x4608, .bf16⟩
  | .hbm, ⟨59, _⟩ => ⟨S7168x4608, .bf16⟩
  | .hbm, ⟨60, _⟩ => ⟨S6144x4608, .f32⟩
  | .hbm, ⟨61, _⟩ => ⟨S4608x1, .f32⟩
  | .hbm, ⟨62, _⟩ => ⟨S4608, .f32⟩
  | .hbm, ⟨63, _⟩ => ⟨S1x4608, .f32⟩
  | .hbm, ⟨64, _⟩ => ⟨S6144x4608, .f32⟩
  | .hbm, ⟨65, _⟩ => ⟨S6144x4608, .f32⟩
  | .hbm, ⟨66, _⟩ => ⟨S7168x4608, .i32⟩
  | .hbm, ⟨67, _⟩ => ⟨S_, .i32⟩
  | .hbm, ⟨68, _⟩ => ⟨S7168x4608, .i32⟩
  | .hbm, ⟨69, _⟩ => ⟨S7168x4608, .i32⟩
  | .hbm, ⟨70, _⟩ => ⟨S_, .i32⟩
  | .hbm, ⟨71, _⟩ => ⟨S7168x4608, .i32⟩
  | .hbm, ⟨72, _⟩ => ⟨S7168x4608, .i32⟩
  | .hbm, ⟨73, _⟩ => ⟨S7168x4608, .bf16⟩
  | .hbm, ⟨74, _⟩ => ⟨S_, .bf16⟩
  | .hbm, ⟨75, _⟩ => ⟨S7168x4608, .bf16⟩
  | .hbm, ⟨76, _⟩ => ⟨S7168x4608, .bf16⟩
  | .hbm, ⟨77, _⟩ => ⟨S6144x4608, .f32⟩
  | .hbm, ⟨78, _⟩ => ⟨S4608x1, .f32⟩
  | .hbm, ⟨79, _⟩ => ⟨S4608, .f32⟩
  | .hbm, ⟨80, _⟩ => ⟨S1x4608, .f32⟩
  | .hbm, ⟨81, _⟩ => ⟨S6144x4608, .f32⟩
  | .hbm, ⟨82, _⟩ => ⟨S6144x4608, .f32⟩
  | .hbm, ⟨83, _⟩ => ⟨S6144x4608x1, .f32⟩
  | .hbm, ⟨84, _⟩ => ⟨S6144x4608x1, .f32⟩
  | .hbm, ⟨85, _⟩ => ⟨S6144x4608x1, .f32⟩
  | .hbm, ⟨86, _⟩ => ⟨S6144x4608x1, .f32⟩
  | .hbm, ⟨87, _⟩ => ⟨S6144x4608x4, .f32⟩
  | .hbm, ⟨88, _⟩ => ⟨S6144x18432, .f32⟩
  | .hbm, ⟨89, _⟩ => ⟨S6144x18432, .bf16⟩
  | .hbm, ⟨90, _⟩ => ⟨S6144x96x192, .bf16⟩
  | .hbm, ⟨91, _⟩ => ⟨S6144x96x192, .f32⟩
  | .hbm, ⟨92, _⟩ => ⟨S6144x96x192, .bf16⟩
  | .hbm, ⟨93, _⟩ => ⟨S6144x192x96, .f32⟩
  | .hbm, ⟨94, _⟩ => ⟨S6144x96x192, .f32⟩
  | .hbm, ⟨95, _⟩ => ⟨S6144x96x192, .bf16⟩
  | .hbm, ⟨96, _⟩ => ⟨S6x1024x18432, .bf16⟩
  | _, _ => ⟨S6x1024x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_1 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_4 : Ref sig .tc := ⟨.hbm, 50, rfl⟩
abbrev main_v37 : Ref sig .tc := ⟨.hbm, 51, rfl⟩
abbrev main_v38 : Ref sig .tc := ⟨.hbm, 52, rfl⟩
abbrev main_c_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_7 : Ref sig .tc := ⟨.hbm, 67, rfl⟩
abbrev main_v51 : Ref sig .tc := ⟨.hbm, 68, rfl⟩
abbrev main_v52 : Ref sig .tc := ⟨.hbm, 69, rfl⟩
abbrev main_c_8 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩

abbrev nD : Nat := 1
abbrev τ : Topo := Topo.v7x

variable {F : FTy → Type} [FloatOps F]
-- ==== Proof.Kernel.Region0.lean ====
/-
The input rotation (`rotate_in`) as a pipelined region: its blocks, its run and its obligation.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_rotate_in` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 3, through which its contents are stated (`View.read_writes_of_cover`: the
    choice does not matter). -/
abbrev VO0_3 : View sig .tc .vmem S16x56x8x128 .bf16 := (Memref.whole cc0_stg3_0 : Memref sig .tc .vmem S16x56x8x128 .bf16).view
/-- Each window's current staging memref at point `t`, spelled as the pipeline passes it (`bodyAt0`), and its wholeness. -/
abbrev ms0_0 (t : Fin cfg0.N) : Memref sig .tc .vmem S16x56x8x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S112x112 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x56x8x128 .bf16 := win0_3.stage (cfg0.slots t 3)
abbrev hs0_3 (t : Fin cfg0.N) : (ms0_3 t).IsWhole := hstage0_3 ((cfg0.slots t 3).cast nbuf0_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S16x56x8x128 .bf16) (harg1 : arg1.IsWhole) (arg2 : Memref sig .tc .vmem S128x128 .bf16) (harg2 : arg2.IsWhole) (arg3 : Memref sig .tc .vmem S112x112 .bf16) (harg3 : arg3.IsWhole) (arg4 : Memref sig .tc .vmem S16x56x8x128 .bf16) (harg4 : arg4.IsWhole)
    (x0 : Vec F S16x56x8x128 .bf16) (x1 : Vec F S128x128 .bf16) (x2 : Vec F S112x112 .bf16) :
    { L3 : List (View.Piece (Elt F) S16x56x8x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0_rotate_in i arg1 harg1 arg2 harg2 arg3 harg3 arg4 harg4) K } := by
  refine ⟨?_, fun E K => ?run⟩
  case run =>
    simp only [cc0_rotate_in_eq_skeleton]; unfold cc0_rotate_in_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The run's pieces for output 3 tile its block (64 stores of `S1x56x2x128`, checked by the kernel's evaluation: Lib/Ring.lean `Piece.tiledL`, linear in the pieces, through a loop's `@[irreducible]` trip theorem too), so they cover it. -/
theorem cover0_A_3 (c : Dev nD) (i : grid0.Coords) (arg1 : Memref sig .tc .vmem S16x56x8x128 .bf16) (harg1 : arg1.IsWhole) (arg2 : Memref sig .tc .vmem S128x128 .bf16) (harg2 : arg2.IsWhole) (arg3 : Memref sig .tc .vmem S112x112 .bf16) (harg3 : arg3.IsWhole) (arg4 : Memref sig .tc .vmem S16x56x8x128 .bf16) (harg4 : arg4.IsWhole)
    (x0 : Vec F S16x56x8x128 .bf16) (x1 : Vec F S128x128 .bf16) (x2 : Vec F S112x112 .bf16) (y : S16x56x8x128.Idx) :
    ∃ pc ∈ (kernelRun0_A c i arg1 harg1 arg2 harg2 arg3 harg3 arg4 harg4 x0 x1 x2).1, y ∈ pc.1.set :=
  View.cover_of_tiledL (kernelRun0_A c i arg1 harg1 arg2 harg2 arg3 harg3 arg4 harg4 x0 x1 x2).1 S1x56x2x128.size (by sl_kernel_rfl) y

/-- What the run leaves in output 3's staging buffer: its pieces read back over junk. -/
def out0_A_3 (c : Dev nD) (i : grid0.Coords) (arg1 : Memref sig .tc .vmem S16x56x8x128 .bf16) (harg1 : arg1.IsWhole) (arg2 : Memref sig .tc .vmem S128x128 .bf16) (harg2 : arg2.IsWhole) (arg3 : Memref sig .tc .vmem S112x112 .bf16) (harg3 : arg3.IsWhole) (arg4 : Memref sig .tc .vmem S16x56x8x128 .bf16) (harg4 : arg4.IsWhole)
    (x0 : Vec F S16x56x8x128 .bf16) (x1 : Vec F S128x128 .bf16) (x2 : Vec F S112x112 .bf16) : Vec F S16x56x8x128 .bf16 :=
  VO0_3.read (Elt F) (VO0_3.writes (Elt F) VO0_3.junk (kernelRun0_A c i arg1 harg1 arg2 harg2 arg3 harg3 arg4 harg4 x0 x1 x2).1)

/-! ## What the outputs hold after each point -/

/-- What the outputs' staging buffers hold after the body at point `t`: the run's contents at
    the point's memrefs and input blocks. -/
def outsAt0 (c : Dev nD) (t : Fin cfg0.N) : Vec F S16x56x8x128 .bf16 :=
  out0_A_3 c (grid0.coords t) (ms0_0 t) (hs0_0 t) (ms0_1 t) (hs0_1 t) (ms0_2 t) (hs0_2 t) (ms0_3 t) (hs0_3 t) (iblk0 V c 0 t) (iblk0 V c 1 t) (iblk0 V c 2 t)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold outsAt0
  unfold out0_A_3
  iintro ⟨HΦ, Ho, ⟨%d0, H0⟩, ⟨%d1, H1⟩, ⟨%d2, H2⟩, ⟨%d3, H3⟩⟩
  iapply ((kernelRun0_A c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_A_3 c _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Run

end
-- ==== Proof.Kernel.Decode.lean ====
/-
What one decode loop of the product kernel leaves in its weight scratch: the decoded weights of one column tile, as a
function of the code block alone, whatever the scratch held before.
-/
module

public import proofs.«01_k».proof.Proof.Gen.Kernel.Loops
public import Idealize.ShloMosaic.Lib.ValueIdxCore
public import Idealize.ShloMosaic.Lib.Pipeline.FrameBody
public import Idealize.ShloMosaic.Lib.Tactic

@[expose] public section

set_option maxRecDepth 16384

noncomputable section

namespace Cert.Kernel.Run

open Cert.Kernel.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- One trip's eight tiles of decoded weights, from its 128 by 128 bytes of codes: `o` is the row parity the tile holds,
    `f` the two-bit field. -/
def wtile (V : Vec F S128x128 .i8) (o : Fin 2) (f : Fin 4) : FVec F S64x128 .bf16 :=
  match o, f with
  | 0, 0 => k1_pay3 V
  | 1, 0 => k1_pay4 V
  | 0, 1 => k1_pay6 (k1_pay5 V) 1082146944#32
  | 1, 1 => k1_pay7 (k1_pay2 V)
  | 0, 2 => k1_pay9 (k1_pay8 (k1_pay2 V))
  | 1, 2 => k1_pay10 (k1_pay2 V)
  | 0, 3 => k1_pay11 (k1_pay2 V)
  | 1, 3 => k1_pay38 (k1_pay12 (k1_pay2 V)) k1_pay13

/-- The 128 by 128 bytes trip `a` of column tile `jt` reads out of the code block. -/
def blk (x1 : Vec F S7168x384 .i8) (jt : Fin 3) (a : Fin 56) : Vec F S128x128 .i8 := fun j =>
  x1 (ix2 ⟨128 * a.val + (j 0).val, by have := idx2_lt0 j; omega⟩ ⟨128 * jt.val + (j 1).val, by have := idx2_lt1 j; omega⟩)

/-- The weight scratch after the decode loop of column tile `jt`. -/
def wdec (x1 : Vec F S7168x384 .i8) (jt : Fin 3) : Vec F S7168x512 .bf16 := fun y =>
  wtile (blk x1 jt ⟨(y 0).val / 128, by have := idx2_lt0 y; omega⟩) ⟨(y 0).val % 128 / 64, by omega⟩
    ⟨(y 1).val / 128, by have := idx2_lt1 y; omega⟩ (ix2 ⟨(y 0).val % 64, by omega⟩ ⟨(y 1).val % 128, by omega⟩)

/-- `wdec` at a place given by its trip, tile and place in the tile. -/
theorem wdec_at (x1 : Vec F S7168x384 .i8) (jt : Fin 3) (y : S7168x512.Idx) (a : Fin 56) (o : Fin 2) (f : Fin 4) (x : S64x128.Idx)
    (h0 : (y 0).val = 128 * a.val + 64 * o.val + (x 0).val) (h1 : (y 1).val = 128 * f.val + (x 1).val) :
    wdec x1 jt y = wtile (blk x1 jt a) o f x := by
  have hx0 : (x 0).val < 64 := idx2_lt0 x
  have hx1 : (x 1).val < 128 := idx2_lt1 x
  have ha := a.isLt; have ho := o.isLt; have hf := f.isLt
  unfold wdec
  have e1 : (⟨(y 0).val / 128, by have := idx2_lt0 y; omega⟩ : Fin 56) = a := Fin.ext (by simp only; omega)
  have e2 : (⟨(y 0).val % 128 / 64, by omega⟩ : Fin 2) = o := Fin.ext (by simp only; omega)
  have e3 : (⟨(y 1).val / 128, by have := idx2_lt1 y; omega⟩ : Fin 4) = f := Fin.ext (by simp only; omega)
  have e4 : (ix2 ⟨(y 0).val % 64, by omega⟩ ⟨(y 1).val % 128, by omega⟩ : S64x128.Idx) = x := by
    funext d
    match d with
    | ⟨0, _⟩ => exact Fin.ext (by show (y 0).val % 64 = (x 0).val; omega)
    | ⟨1, _⟩ => exact Fin.ext (by show (y 1).val % 128 = (x 1).val; omega)
  rw [e1, e2, e3, e4]

/-- A tile's piece agrees with `wdec`. -/
theorem piece_wdec (x1 : Vec F S7168x384 .i8) (jt : Fin 3) (a : Fin 56) (o : Fin 2) (f : Fin 4) {off : Fin 2 → ℕ}
    (hoff : off = ![128 * a.val + 64 * o.val, 128 * f.val]) (inb : ∀ d, off d + S64x128.size d ≤ S7168x512.size d)
    (x : S64x128.Idx) :
    wtile (blk x1 jt a) o f x = wdec x1 jt ((Rect.unit (s := S7168x512) off S64x128.size inb).emb x) := by
  subst hoff
  refine (wdec_at x1 jt _ a o f x ?_ ?_).symm
  · show 128 * a.val + 64 * o.val + 1 * (x 0).val = _; omega
  · show 128 * f.val + 1 * (x 1).val = _; omega

theorem trip1_lt (k : Fin k1_t1_loop.trips) : k.val < 56 := Nat.lt_of_lt_of_le k.isLt k1_t1_abs.2.1

/-- The bytes trip `k` of loop 1 reads. -/
theorem codes1 (arg3 : Memref sig .tc .vmem S7168x384 .i8) (X : BufTy.Contents (Elt F) arg3.view.ty) (k : Fin k1_t1_loop.trips)
    (inb : ∀ d, k1_off1 k d + S128x128.size d ≤ S7168x384.size d) :
    View.readAt (Elt F) arg3.view (Rect.unit (s := S7168x384) (k1_off1 k) S128x128.size inb).toLoadRect X
      = blk (arg3.view.read (Elt F) X) 0 ⟨k.val, trip1_lt k⟩ := by
  have hoff := k1_off1_eq k
  funext j
  refine congrArg (arg3.view.read (Elt F) X) (funext fun d => Fin.ext ?_)
  match d with
  | ⟨0, _⟩ => show k1_off1 k 0 + 1 * (j 0).val = 128 * k.val + (j 0).val; have h0 : k1_off1 k 0 = 128 * k.val := congrFun hoff 0; omega
  | ⟨1, _⟩ => show k1_off1 k 1 + 1 * (j 1).val = 128 * 0 + (j 1).val; have h1 : k1_off1 k 1 = 0 := congrFun hoff 1; omega

/-- The pieces trip `k` of loop 1 writes, spelt out. -/
theorem tripL1_eq (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (X : BufTy.Contents (Elt F) arg3.view.ty) (k : Fin k1_t1_loop.trips) :
    tripL_k1_t1 (F := F) 𝒱 c bd i arg2 harg2 arg3 harg3 arg4 harg4 arg5 harg5 arg6 harg6 arg7 harg7 arg8 harg8 X k = [⟨Rect.unit (s := S7168x512) (k1_off5 k 64#32) S64x128.size (k1_off5_inb k 1), wtile (blk (arg3.view.read (Elt F) X) 0 ⟨k.val, trip1_lt k⟩) 1 3⟩,
      ⟨Rect.unit (s := S7168x512) (k1_off5 k 0#32) S64x128.size (k1_off5_inb k 0), wtile (blk (arg3.view.read (Elt F) X) 0 ⟨k.val, trip1_lt k⟩) 0 3⟩,
      ⟨Rect.unit (s := S7168x512) (k1_off4 k 64#32) S64x128.size (k1_off4_inb k 1), wtile (blk (arg3.view.read (Elt F) X) 0 ⟨k.val, trip1_lt k⟩) 1 2⟩,
      ⟨Rect.unit (s := S7168x512) (k1_off4 k 0#32) S64x128.size (k1_off4_inb k 0), wtile (blk (arg3.view.read (Elt F) X) 0 ⟨k.val, trip1_lt k⟩) 0 2⟩,
      ⟨Rect.unit (s := S7168x512) (k1_off3 k 64#32) S64x128.size (k1_off3_inb k 1), wtile (blk (arg3.view.read (Elt F) X) 0 ⟨k.val, trip1_lt k⟩) 1 1⟩,
      ⟨Rect.unit (s := S7168x512) (k1_off3 k 0#32) S64x128.size (k1_off3_inb k 0), wtile (blk (arg3.view.read (Elt F) X) 0 ⟨k.val, trip1_lt k⟩) 0 1⟩,
      ⟨Rect.unit (s := S7168x512) (k1_off2 k 64#32) S64x128.size (k1_off2_inb k 1), wtile (blk (arg3.view.read (Elt F) X) 0 ⟨k.val, trip1_lt k⟩) 1 0⟩,
      ⟨Rect.unit (s := S7168x512) (k1_off2 k 0#32) S64x128.size (k1_off2_inb k 0), wtile (blk (arg3.view.read (Elt F) X) 0 ⟨k.val, trip1_lt k⟩) 0 0⟩] := by
  have hc := codes1 arg3 X k (k1_off1_inb k)
  unfold tripL_k1_t1 trip_k1_t1
  rw [← hc]
  rfl

/-- Every piece of the trips before `k` agrees with `wdec`. -/
theorem pb1_agree (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (X : BufTy.Contents (Elt F) arg3.view.ty) :
    ∀ k, k ≤ 56 → ∀ p ∈ pb_k1_t1 (F := F) 𝒱 c bd i arg2 harg2 arg3 harg3 arg4 harg4 arg5 harg5 arg6 harg6 arg7 harg7 arg8 harg8 X k, ∀ x : p.1.shape.Idx,
      p.2 x = wdec (arg3.view.read (Elt F) X) 0 (p.1.emb x)
  | 0, _, p, hp, _ => absurd hp List.not_mem_nil
  | k + 1, hk, p, hp, x => by
    have hk' : k < k1_t1_loop.trips := hk
    rw [show pb_k1_t1 (F := F) 𝒱 c bd i arg2 harg2 arg3 harg3 arg4 harg4 arg5 harg5 arg6 harg6 arg7 harg7 arg8 harg8 X (k + 1) = _ from pb_k1_t1_succ (F := F) 𝒱 c bd i arg2 harg2 arg3 harg3 arg4 harg4 arg5 harg5 arg6 harg6 arg7 harg7 arg8 harg8 X ⟨k, hk'⟩, tripL1_eq] at hp
    rcases List.mem_append.mp hp with h | h
    · simp only [List.mem_cons, List.not_mem_nil, or_false] at h
      rcases h with rfl | rfl | rfl | rfl | rfl | rfl | rfl | rfl
      · exact piece_wdec _ 0 ⟨k, hk⟩ 1 3 (k1_off5_eq ⟨k, hk'⟩ 1) (k1_off5_inb ⟨k, hk'⟩ 1) x
      · exact piece_wdec _ 0 ⟨k, hk⟩ 0 3 (k1_off5_eq ⟨k, hk'⟩ 0) (k1_off5_inb ⟨k, hk'⟩ 0) x
      · exact piece_wdec _ 0 ⟨k, hk⟩ 1 2 (k1_off4_eq ⟨k, hk'⟩ 1) (k1_off4_inb ⟨k, hk'⟩ 1) x
      · exact piece_wdec _ 0 ⟨k, hk⟩ 0 2 (k1_off4_eq ⟨k, hk'⟩ 0) (k1_off4_inb ⟨k, hk'⟩ 0) x
      · exact piece_wdec _ 0 ⟨k, hk⟩ 1 1 (k1_off3_eq ⟨k, hk'⟩ 1) (k1_off3_inb ⟨k, hk'⟩ 1) x
      · exact piece_wdec _ 0 ⟨k, hk⟩ 0 1 (k1_off3_eq ⟨k, hk'⟩ 0) (k1_off3_inb ⟨k, hk'⟩ 0) x
      · exact piece_wdec _ 0 ⟨k, hk⟩ 1 0 (k1_off2_eq ⟨k, hk'⟩ 1) (k1_off2_inb ⟨k, hk'⟩ 1) x
      · exact piece_wdec _ 0 ⟨k, hk⟩ 0 0 (k1_off2_eq ⟨k, hk'⟩ 0) (k1_off2_inb ⟨k, hk'⟩ 0) x
    · exact pb1_agree 𝒱 c bd i arg2 harg2 arg3 harg3 arg4 harg4 arg5 harg5 arg6 harg6 arg7 harg7 arg8 harg8 X k (by omega) p h x

/-- The pieces of the trips before `k` cover the rows below `128 * k`. -/
theorem pb1_cover (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (X : BufTy.Contents (Elt F) arg3.view.ty) (y : S7168x512.Idx) :
    ∀ k, k ≤ 56 → (y 0).val < 128 * k → ∃ p ∈ pb_k1_t1 (F := F) 𝒱 c bd i arg2 harg2 arg3 harg3 arg4 harg4 arg5 harg5 arg6 harg6 arg7 harg7 arg8 harg8 X k, y ∈ p.1.set
  | 0, _, hy => absurd hy (by omega)
  | k + 1, hk, hy => by
    have hk' : k < k1_t1_loop.trips := hk
    rw [show pb_k1_t1 (F := F) 𝒱 c bd i arg2 harg2 arg3 harg3 arg4 harg4 arg5 harg5 arg6 harg6 arg7 harg7 arg8 harg8 X (k + 1) = _ from pb_k1_t1_succ (F := F) 𝒱 c bd i arg2 harg2 arg3 harg3 arg4 harg4 arg5 harg5 arg6 harg6 arg7 harg7 arg8 harg8 X ⟨k, hk'⟩, tripL1_eq]
    by_cases hlo : (y 0).val < 128 * k
    · obtain ⟨p, hp, hm⟩ := pb1_cover 𝒱 c bd i arg2 harg2 arg3 harg3 arg4 harg4 arg5 harg5 arg6 harg6 arg7 harg7 arg8 harg8 X y k (by omega) hlo
      exact ⟨p, List.mem_append_right _ hp, hm⟩
    · have hy1 : (y 1).val < 512 := idx2_lt1 y
      have key : ∀ (o : Fin 2) (f : Fin 4) (off : Fin 2 → ℕ) (inb : ∀ d, off d + S64x128.size d ≤ S7168x512.size d),
          off = ![128 * k + 64 * o.val, 128 * f.val] → 128 * k + 64 * o.val ≤ (y 0).val → (y 0).val < 128 * k + 64 * o.val + 64 →
          128 * f.val ≤ (y 1).val → (y 1).val < 128 * f.val + 128 → y ∈ (Rect.unit (s := S7168x512) off S64x128.size inb).set := by
        intro o f off inb h a1 a2 a3 a4
        subst h
        rw [Rect.mem_set_unit]
        intro d
        match d with
        | ⟨0, _⟩ => exact ⟨a1, a2⟩
        | ⟨1, _⟩ => exact ⟨a3, a4⟩
      rcases (show (y 0).val < 128 * k + 64 ∨ 128 * k + 64 ≤ (y 0).val by omega) with h0 | h0
      · rcases (show (y 1).val < 128 ∨ (128 ≤ (y 1).val ∧ (y 1).val < 256) ∨ (256 ≤ (y 1).val ∧ (y 1).val < 384) ∨ 384 ≤ (y 1).val by omega) with h1 | h1 | h1 | h1
        · exact ⟨_, List.mem_append_left _ (List.mem_of_getElem? (i := 7) rfl), key 0 0 _ (k1_off2_inb ⟨k, hk'⟩ 0) (k1_off2_eq ⟨k, hk'⟩ 0) (by simp only [Fin.val_zero, Fin.val_one]; omega) (by simp only [Fin.val_zero, Fin.val_one]; omega) (by first | omega | (show 0 ≤ _; omega)) (by first | omega | (show _ < 128; omega))⟩
        · exact ⟨_, List.mem_append_left _ (List.mem_of_getElem? (i := 5) rfl), key 0 1 _ (k1_off3_inb ⟨k, hk'⟩ 0) (k1_off3_eq ⟨k, hk'⟩ 0) (by simp only [Fin.val_zero, Fin.val_one]; omega) (by simp only [Fin.val_zero, Fin.val_one]; omega) (by first | omega | (show 128 ≤ _; omega)) (by first | omega | (show _ < 256; omega))⟩
        · exact ⟨_, List.mem_append_left _ (List.mem_of_getElem? (i := 3) rfl), key 0 2 _ (k1_off4_inb ⟨k, hk'⟩ 0) (k1_off4_eq ⟨k, hk'⟩ 0) (by simp only [Fin.val_zero, Fin.val_one]; omega) (by simp only [Fin.val_zero, Fin.val_one]; omega) (by first | omega | (show 256 ≤ _; omega)) (by first | omega | (show _ < 384; omega))⟩
        · exact ⟨_, List.mem_append_left _ (List.mem_of_getElem? (i := 1) rfl), key 0 3 _ (k1_off5_inb ⟨k, hk'⟩ 0) (k1_off5_eq ⟨k, hk'⟩ 0) (by simp only [Fin.val_zero, Fin.val_one]; omega) (by simp only [Fin.val_zero, Fin.val_one]; omega) (by first | omega | (show 384 ≤ _; omega)) (by first | omega | (show _ < 512; omega))⟩
      · rcases (show (y 1).val < 128 ∨ (128 ≤ (y 1).val ∧ (y 1).val < 256) ∨ (256 ≤ (y 1).val ∧ (y 1).val < 384) ∨ 384 ≤ (y 1).val by omega) with h1 | h1 | h1 | h1
        · exact ⟨_, List.mem_append_left _ (List.mem_of_getElem? (i := 6) rfl), key 1 0 _ (k1_off2_inb ⟨k, hk'⟩ 1) (k1_off2_eq ⟨k, hk'⟩ 1) (by simp only [Fin.val_zero, Fin.val_one]; omega) (by simp only [Fin.val_zero, Fin.val_one]; omega) (by first | omega | (show 0 ≤ _; omega)) (by first | omega | (show _ < 128; omega))⟩
        · exact ⟨_, List.mem_append_left _ (List.mem_of_getElem? (i := 4) rfl), key 1 1 _ (k1_off3_inb ⟨k, hk'⟩ 1) (k1_off3_eq ⟨k, hk'⟩ 1) (by simp only [Fin.val_zero, Fin.val_one]; omega) (by simp only [Fin.val_zero, Fin.val_one]; omega) (by first | omega | (show 128 ≤ _; omega)) (by first | omega | (show _ < 256; omega))⟩
        · exact ⟨_, List.mem_append_left _ (List.mem_of_getElem? (i := 2) rfl), key 1 2 _ (k1_off4_inb ⟨k, hk'⟩ 1) (k1_off4_eq ⟨k, hk'⟩ 1) (by simp only [Fin.val_zero, Fin.val_one]; omega) (by simp only [Fin.val_zero, Fin.val_one]; omega) (by first | omega | (show 256 ≤ _; omega)) (by first | omega | (show _ < 384; omega))⟩
        · exact ⟨_, List.mem_append_left _ (List.mem_of_getElem? (i := 0) rfl), key 1 3 _ (k1_off5_inb ⟨k, hk'⟩ 1) (k1_off5_eq ⟨k, hk'⟩ 1) (by simp only [Fin.val_zero, Fin.val_one]; omega) (by simp only [Fin.val_zero, Fin.val_one]; omega) (by first | omega | (show 384 ≤ _; omega)) (by first | omega | (show _ < 512; omega))⟩

/-- After all 56 trips the scratch holds the decoded weights, whatever it held before. -/
theorem loop1_final (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (X : BufTy.Contents (Elt F) arg3.view.ty) (G : BufTy.Contents (Elt F) arg7.view.ty) :
    arg7.view.writes (Elt F) G (pb_k1_t1 (F := F) 𝒱 c bd i arg2 harg2 arg3 harg3 arg4 harg4 arg5 harg5 arg6 harg6 arg7 harg7 arg8 harg8 X k1_t1_loop.trips)
      = harg7.unread (wdec (arg3.view.read (Elt F) X) 0) :=
  harg7.eq_unread (funext fun y => View.read_writes_apply_of_pieces _ _ _ _
    (pb1_agree 𝒱 c bd i arg2 harg2 arg3 harg3 arg4 harg4 arg5 harg5 arg6 harg6 arg7 harg7 arg8 harg8 X 56 le_rfl) y
    (pb1_cover 𝒱 c bd i arg2 harg2 arg3 harg3 arg4 harg4 arg5 harg5 arg6 harg6 arg7 harg7 arg8 harg8 X y 56 le_rfl (by have := idx2_lt0 y; omega)))

theorem trip2_lt (k : Fin k1_t2_loop.trips) : k.val < 56 := Nat.lt_of_lt_of_le k.isLt k1_t2_abs.2.1

/-- The bytes trip `k` of loop 2 reads. -/
theorem codes2 (arg3 : Memref sig .tc .vmem S7168x384 .i8) (X : BufTy.Contents (Elt F) arg3.view.ty) (k : Fin k1_t2_loop.trips)
    (inb : ∀ d, k1_off6 k d + S128x128.size d ≤ S7168x384.size d) :
    View.readAt (Elt F) arg3.view (Rect.unit (s := S7168x384) (k1_off6 k) S128x128.size inb).toLoadRect X
      = blk (arg3.view.read (Elt F) X) 1 ⟨k.val, trip2_lt k⟩ := by
  have hoff := k1_off6_eq k
  funext j
  refine congrArg (arg3.view.read (Elt F) X) (funext fun d => Fin.ext ?_)
  match d with
  | ⟨0, _⟩ => show k1_off6 k 0 + 1 * (j 0).val = 128 * k.val + (j 0).val; have h0 : k1_off6 k 0 = 128 * k.val := congrFun hoff 0; omega
  | ⟨1, _⟩ => show k1_off6 k 1 + 1 * (j 1).val = 128 * 1 + (j 1).val; have h1 : k1_off6 k 1 = 128 := congrFun hoff 1; omega

/-- The pieces trip `k` of loop 2 writes, spelt out. -/
theorem tripL2_eq (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (v4 : FVec F S512x512 .f32) (v28 : FVec F S512x128 .bf16) (X : BufTy.Contents (Elt F) arg3.view.ty) (k : Fin k1_t2_loop.trips) :
    tripL_k1_t2 (F := F) 𝒱 c bd i arg2 harg2 arg3 harg3 arg4 harg4 arg5 harg5 arg6 harg6 arg7 harg7 arg8 harg8 v4 v28 X k = [⟨Rect.unit (s := S7168x512) (k1_off10 k 64#32) S64x128.size (k1_off10_inb k 1), wtile (blk (arg3.view.read (Elt F) X) 1 ⟨k.val, trip2_lt k⟩) 1 3⟩,
      ⟨Rect.unit (s := S7168x512) (k1_off10 k 0#32) S64x128.size (k1_off10_inb k 0), wtile (blk (arg3.view.read (Elt F) X) 1 ⟨k.val, trip2_lt k⟩) 0 3⟩,
      ⟨Rect.unit (s := S7168x512) (k1_off9 k 64#32) S64x128.size (k1_off9_inb k 1), wtile (blk (arg3.view.read (Elt F) X) 1 ⟨k.val, trip2_lt k⟩) 1 2⟩,
      ⟨Rect.unit (s := S7168x512) (k1_off9 k 0#32) S64x128.size (k1_off9_inb k 0), wtile (blk (arg3.view.read (Elt F) X) 1 ⟨k.val, trip2_lt k⟩) 0 2⟩,
      ⟨Rect.unit (s := S7168x512) (k1_off8 k 64#32) S64x128.size (k1_off8_inb k 1), wtile (blk (arg3.view.read (Elt F) X) 1 ⟨k.val, trip2_lt k⟩) 1 1⟩,
      ⟨Rect.unit (s := S7168x512) (k1_off8 k 0#32) S64x128.size (k1_off8_inb k 0), wtile (blk (arg3.view.read (Elt F) X) 1 ⟨k.val, trip2_lt k⟩) 0 1⟩,
      ⟨Rect.unit (s := S7168x512) (k1_off7 k 64#32) S64x128.size (k1_off7_inb k 1), wtile (blk (arg3.view.read (Elt F) X) 1 ⟨k.val, trip2_lt k⟩) 1 0⟩,
      ⟨Rect.unit (s := S7168x512) (k1_off7 k 0#32) S64x128.size (k1_off7_inb k 0), wtile (blk (arg3.view.read (Elt F) X) 1 ⟨k.val, trip2_lt k⟩) 0 0⟩] := by
  have hc := codes2 arg3 X k (k1_off6_inb k)
  unfold tripL_k1_t2 trip_k1_t2
  rw [← hc]
  rfl

/-- Every piece of the trips before `k` agrees with `wdec`. -/
theorem pb2_agree (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (v4 : FVec F S512x512 .f32) (v28 : FVec F S512x128 .bf16) (X : BufTy.Contents (Elt F) arg3.view.ty) :
    ∀ k, k ≤ 56 → ∀ p ∈ pb_k1_t2 (F := F) 𝒱 c bd i arg2 harg2 arg3 harg3 arg4 harg4 arg5 harg5 arg6 harg6 arg7 harg7 arg8 harg8 v4 v28 X k, ∀ x : p.1.shape.Idx,
      p.2 x = wdec (arg3.view.read (Elt F) X) 1 (p.1.emb x)
  | 0, _, p, hp, _ => absurd hp List.not_mem_nil
  | k + 1, hk, p, hp, x => by
    have hk' : k < k1_t2_loop.trips := hk
    rw [show pb_k1_t2 (F := F) 𝒱 c bd i arg2 harg2 arg3 harg3 arg4 harg4 arg5 harg5 arg6 harg6 arg7 harg7 arg8 harg8 v4 v28 X (k + 1) = _ from pb_k1_t2_succ (F := F) 𝒱 c bd i arg2 harg2 arg3 harg3 arg4 harg4 arg5 harg5 arg6 harg6 arg7 harg7 arg8 harg8 v4 v28 X ⟨k, hk'⟩, tripL2_eq] at hp
    rcases List.mem_append.mp hp with h | h
    · simp only [List.mem_cons, List.not_mem_nil, or_false] at h
      rcases h with rfl | rfl | rfl | rfl | rfl | rfl | rfl | rfl
      · exact piece_wdec _ 1 ⟨k, hk⟩ 1 3 (k1_off10_eq ⟨k, hk'⟩ 1) (k1_off10_inb ⟨k, hk'⟩ 1) x
      · exact piece_wdec _ 1 ⟨k, hk⟩ 0 3 (k1_off10_eq ⟨k, hk'⟩ 0) (k1_off10_inb ⟨k, hk'⟩ 0) x
      · exact piece_wdec _ 1 ⟨k, hk⟩ 1 2 (k1_off9_eq ⟨k, hk'⟩ 1) (k1_off9_inb ⟨k, hk'⟩ 1) x
      · exact piece_wdec _ 1 ⟨k, hk⟩ 0 2 (k1_off9_eq ⟨k, hk'⟩ 0) (k1_off9_inb ⟨k, hk'⟩ 0) x
      · exact piece_wdec _ 1 ⟨k, hk⟩ 1 1 (k1_off8_eq ⟨k, hk'⟩ 1) (k1_off8_inb ⟨k, hk'⟩ 1) x
      · exact piece_wdec _ 1 ⟨k, hk⟩ 0 1 (k1_off8_eq ⟨k, hk'⟩ 0) (k1_off8_inb ⟨k, hk'⟩ 0) x
      · exact piece_wdec _ 1 ⟨k, hk⟩ 1 0 (k1_off7_eq ⟨k, hk'⟩ 1) (k1_off7_inb ⟨k, hk'⟩ 1) x
      · exact piece_wdec _ 1 ⟨k, hk⟩ 0 0 (k1_off7_eq ⟨k, hk'⟩ 0) (k1_off7_inb ⟨k, hk'⟩ 0) x
    · exact pb2_agree 𝒱 c bd i arg2 harg2 arg3 harg3 arg4 harg4 arg5 harg5 arg6 harg6 arg7 harg7 arg8 harg8 v4 v28 X k (by omega) p h x

/-- The pieces of the trips before `k` cover the rows below `128 * k`. -/
theorem pb2_cover (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (v4 : FVec F S512x512 .f32) (v28 : FVec F S512x128 .bf16) (X : BufTy.Contents (Elt F) arg3.view.ty) (y : S7168x512.Idx) :
    ∀ k, k ≤ 56 → (y 0).val < 128 * k → ∃ p ∈ pb_k1_t2 (F := F) 𝒱 c bd i arg2 harg2 arg3 harg3 arg4 harg4 arg5 harg5 arg6 harg6 arg7 harg7 arg8 harg8 v4 v28 X k, y ∈ p.1.set
  | 0, _, hy => absurd hy (by omega)
  | k + 1, hk, hy => by
    have hk' : k < k1_t2_loop.trips := hk
    rw [show pb_k1_t2 (F := F) 𝒱 c bd i arg2 harg2 arg3 harg3 arg4 harg4 arg5 harg5 arg6 harg6 arg7 harg7 arg8 harg8 v4 v28 X (k + 1) = _ from pb_k1_t2_succ (F := F) 𝒱 c bd i arg2 harg2 arg3 harg3 arg4 harg4 arg5 harg5 arg6 harg6 arg7 harg7 arg8 harg8 v4 v28 X ⟨k, hk'⟩, tripL2_eq]
    by_cases hlo : (y 0).val < 128 * k
    · obtain ⟨p, hp, hm⟩ := pb2_cover 𝒱 c bd i arg2 harg2 arg3 harg3 arg4 harg4 arg5 harg5 arg6 harg6 arg7 harg7 arg8 harg8 v4 v28 X y k (by omega) hlo
      exact ⟨p, List.mem_append_right _ hp, hm⟩
    · have hy1 : (y 1).val < 512 := idx2_lt1 y
      have key : ∀ (o : Fin 2) (f : Fin 4) (off : Fin 2 → ℕ) (inb : ∀ d, off d + S64x128.size d ≤ S7168x512.size d),
          off = ![128 * k + 64 * o.val, 128 * f.val] → 128 * k + 64 * o.val ≤ (y 0).val → (y 0).val < 128 * k + 64 * o.val + 64 →
          128 * f.val ≤ (y 1).val → (y 1).val < 128 * f.val + 128 → y ∈ (Rect.unit (s := S7168x512) off S64x128.size inb).set := by
        intro o f off inb h a1 a2 a3 a4
        subst h
        rw [Rect.mem_set_unit]
        intro d
        match d with
        | ⟨0, _⟩ => exact ⟨a1, a2⟩
        | ⟨1, _⟩ => exact ⟨a3, a4⟩
      rcases (show (y 0).val < 128 * k + 64 ∨ 128 * k + 64 ≤ (y 0).val by omega) with h0 | h0
      · rcases (show (y 1).val < 128 ∨ (128 ≤ (y 1).val ∧ (y 1).val < 256) ∨ (256 ≤ (y 1).val ∧ (y 1).val < 384) ∨ 384 ≤ (y 1).val by omega) with h1 | h1 | h1 | h1
        · exact ⟨_, List.mem_append_left _ (List.mem_of_getElem? (i := 7) rfl), key 0 0 _ (k1_off7_inb ⟨k, hk'⟩ 0) (k1_off7_eq ⟨k, hk'⟩ 0) (by simp only [Fin.val_zero, Fin.val_one]; omega) (by simp only [Fin.val_zero, Fin.val_one]; omega) (by first | omega | (show 0 ≤ _; omega)) (by first | omega | (show _ < 128; omega))⟩
        · exact ⟨_, List.mem_append_left _ (List.mem_of_getElem? (i := 5) rfl), key 0 1 _ (k1_off8_inb ⟨k, hk'⟩ 0) (k1_off8_eq ⟨k, hk'⟩ 0) (by simp only [Fin.val_zero, Fin.val_one]; omega) (by simp only [Fin.val_zero, Fin.val_one]; omega) (by first | omega | (show 128 ≤ _; omega)) (by first | omega | (show _ < 256; omega))⟩
        · exact ⟨_, List.mem_append_left _ (List.mem_of_getElem? (i := 3) rfl), key 0 2 _ (k1_off9_inb ⟨k, hk'⟩ 0) (k1_off9_eq ⟨k, hk'⟩ 0) (by simp only [Fin.val_zero, Fin.val_one]; omega) (by simp only [Fin.val_zero, Fin.val_one]; omega) (by first | omega | (show 256 ≤ _; omega)) (by first | omega | (show _ < 384; omega))⟩
        · exact ⟨_, List.mem_append_left _ (List.mem_of_getElem? (i := 1) rfl), key 0 3 _ (k1_off10_inb ⟨k, hk'⟩ 0) (k1_off10_eq ⟨k, hk'⟩ 0) (by simp only [Fin.val_zero, Fin.val_one]; omega) (by simp only [Fin.val_zero, Fin.val_one]; omega) (by first | omega | (show 384 ≤ _; omega)) (by first | omega | (show _ < 512; omega))⟩
      · rcases (show (y 1).val < 128 ∨ (128 ≤ (y 1).val ∧ (y 1).val < 256) ∨ (256 ≤ (y 1).val ∧ (y 1).val < 384) ∨ 384 ≤ (y 1).val by omega) with h1 | h1 | h1 | h1
        · exact ⟨_, List.mem_append_left _ (List.mem_of_getElem? (i := 6) rfl), key 1 0 _ (k1_off7_inb ⟨k, hk'⟩ 1) (k1_off7_eq ⟨k, hk'⟩ 1) (by simp only [Fin.val_zero, Fin.val_one]; omega) (by simp only [Fin.val_zero, Fin.val_one]; omega) (by first | omega | (show 0 ≤ _; omega)) (by first | omega | (show _ < 128; omega))⟩
        · exact ⟨_, List.mem_append_left _ (List.mem_of_getElem? (i := 4) rfl), key 1 1 _ (k1_off8_inb ⟨k, hk'⟩ 1) (k1_off8_eq ⟨k, hk'⟩ 1) (by simp only [Fin.val_zero, Fin.val_one]; omega) (by simp only [Fin.val_zero, Fin.val_one]; omega) (by first | omega | (show 128 ≤ _; omega)) (by first | omega | (show _ < 256; omega))⟩
        · exact ⟨_, List.mem_append_left _ (List.mem_of_getElem? (i := 2) rfl), key 1 2 _ (k1_off9_inb ⟨k, hk'⟩ 1) (k1_off9_eq ⟨k, hk'⟩ 1) (by simp only [Fin.val_zero, Fin.val_one]; omega) (by simp only [Fin.val_zero, Fin.val_one]; omega) (by first | omega | (show 256 ≤ _; omega)) (by first | omega | (show _ < 384; omega))⟩
        · exact ⟨_, List.mem_append_left _ (List.mem_of_getElem? (i := 0) rfl), key 1 3 _ (k1_off10_inb ⟨k, hk'⟩ 1) (k1_off10_eq ⟨k, hk'⟩ 1) (by simp only [Fin.val_zero, Fin.val_one]; omega) (by simp only [Fin.val_zero, Fin.val_one]; omega) (by first | omega | (show 384 ≤ _; omega)) (by first | omega | (show _ < 512; omega))⟩

/-- After all 56 trips the scratch holds the decoded weights, whatever it held before. -/
theorem loop2_final (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (v4 : FVec F S512x512 .f32) (v28 : FVec F S512x128 .bf16) (X : BufTy.Contents (Elt F) arg3.view.ty) (G : BufTy.Contents (Elt F) arg7.view.ty) :
    arg7.view.writes (Elt F) G (pb_k1_t2 (F := F) 𝒱 c bd i arg2 harg2 arg3 harg3 arg4 harg4 arg5 harg5 arg6 harg6 arg7 harg7 arg8 harg8 v4 v28 X k1_t2_loop.trips)
      = harg7.unread (wdec (arg3.view.read (Elt F) X) 1) :=
  harg7.eq_unread (funext fun y => View.read_writes_apply_of_pieces _ _ _ _
    (pb2_agree 𝒱 c bd i arg2 harg2 arg3 harg3 arg4 harg4 arg5 harg5 arg6 harg6 arg7 harg7 arg8 harg8 v4 v28 X 56 le_rfl) y
    (pb2_cover 𝒱 c bd i arg2 harg2 arg3 harg3 arg4 harg4 arg5 harg5 arg6 harg6 arg7 harg7 arg8 harg8 v4 v28 X y 56 le_rfl (by have := idx2_lt0 y; omega)))

theorem trip3_lt (k : Fin k1_t3_loop.trips) : k.val < 56 := Nat.lt_of_lt_of_le k.isLt k1_t3_abs.2.1

/-- The bytes trip `k` of loop 3 reads. -/
theorem codes3 (arg3 : Memref sig .tc .vmem S7168x384 .i8) (X : BufTy.Contents (Elt F) arg3.view.ty) (k : Fin k1_t3_loop.trips)
    (inb : ∀ d, k1_off11 k d + S128x128.size d ≤ S7168x384.size d) :
    View.readAt (Elt F) arg3.view (Rect.unit (s := S7168x384) (k1_off11 k) S128x128.size inb).toLoadRect X
      = blk (arg3.view.read (Elt F) X) 2 ⟨k.val, trip3_lt k⟩ := by
  have hoff := k1_off11_eq k
  funext j
  refine congrArg (arg3.view.read (Elt F) X) (funext fun d => Fin.ext ?_)
  match d with
  | ⟨0, _⟩ => show k1_off11 k 0 + 1 * (j 0).val = 128 * k.val + (j 0).val; have h0 : k1_off11 k 0 = 128 * k.val := congrFun hoff 0; omega
  | ⟨1, _⟩ => show k1_off11 k 1 + 1 * (j 1).val = 128 * 2 + (j 1).val; have h1 : k1_off11 k 1 = 256 := congrFun hoff 1; omega

/-- The pieces trip `k` of loop 3 writes, spelt out. -/
theorem tripL3_eq (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (v45 : FVec F S512x512 .f32) (v59 : FVec F S512x128 .f32) (X : BufTy.Contents (Elt F) arg3.view.ty) (k : Fin k1_t3_loop.trips) :
    tripL_k1_t3 (F := F) 𝒱 c bd i arg2 harg2 arg3 harg3 arg4 harg4 arg5 harg5 arg6 harg6 arg7 harg7 arg8 harg8 v45 v59 X k = [⟨Rect.unit (s := S7168x512) (k1_off15 k 64#32) S64x128.size (k1_off15_inb k 1), wtile (blk (arg3.view.read (Elt F) X) 2 ⟨k.val, trip3_lt k⟩) 1 3⟩,
      ⟨Rect.unit (s := S7168x512) (k1_off15 k 0#32) S64x128.size (k1_off15_inb k 0), wtile (blk (arg3.view.read (Elt F) X) 2 ⟨k.val, trip3_lt k⟩) 0 3⟩,
      ⟨Rect.unit (s := S7168x512) (k1_off14 k 64#32) S64x128.size (k1_off14_inb k 1), wtile (blk (arg3.view.read (Elt F) X) 2 ⟨k.val, trip3_lt k⟩) 1 2⟩,
      ⟨Rect.unit (s := S7168x512) (k1_off14 k 0#32) S64x128.size (k1_off14_inb k 0), wtile (blk (arg3.view.read (Elt F) X) 2 ⟨k.val, trip3_lt k⟩) 0 2⟩,
      ⟨Rect.unit (s := S7168x512) (k1_off13 k 64#32) S64x128.size (k1_off13_inb k 1), wtile (blk (arg3.view.read (Elt F) X) 2 ⟨k.val, trip3_lt k⟩) 1 1⟩,
      ⟨Rect.unit (s := S7168x512) (k1_off13 k 0#32) S64x128.size (k1_off13_inb k 0), wtile (blk (arg3.view.read (Elt F) X) 2 ⟨k.val, trip3_lt k⟩) 0 1⟩,
      ⟨Rect.unit (s := S7168x512) (k1_off12 k 64#32) S64x128.size (k1_off12_inb k 1), wtile (blk (arg3.view.read (Elt F) X) 2 ⟨k.val, trip3_lt k⟩) 1 0⟩,
      ⟨Rect.unit (s := S7168x512) (k1_off12 k 0#32) S64x128.size (k1_off12_inb k 0), wtile (blk (arg3.view.read (Elt F) X) 2 ⟨k.val, trip3_lt k⟩) 0 0⟩] := by
  have hc := codes3 arg3 X k (k1_off11_inb k)
  unfold tripL_k1_t3 trip_k1_t3
  rw [← hc]
  rfl

/-- Every piece of the trips before `k` agrees with `wdec`. -/
theorem pb3_agree (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (v45 : FVec F S512x512 .f32) (v59 : FVec F S512x128 .f32) (X : BufTy.Contents (Elt F) arg3.view.ty) :
    ∀ k, k ≤ 56 → ∀ p ∈ pb_k1_t3 (F := F) 𝒱 c bd i arg2 harg2 arg3 harg3 arg4 harg4 arg5 harg5 arg6 harg6 arg7 harg7 arg8 harg8 v45 v59 X k, ∀ x : p.1.shape.Idx,
      p.2 x = wdec (arg3.view.read (Elt F) X) 2 (p.1.emb x)
  | 0, _, p, hp, _ => absurd hp List.not_mem_nil
  | k + 1, hk, p, hp, x => by
    have hk' : k < k1_t3_loop.trips := hk
    rw [show pb_k1_t3 (F := F) 𝒱 c bd i arg2 harg2 arg3 harg3 arg4 harg4 arg5 harg5 arg6 harg6 arg7 harg7 arg8 harg8 v45 v59 X (k + 1) = _ from pb_k1_t3_succ (F := F) 𝒱 c bd i arg2 harg2 arg3 harg3 arg4 harg4 arg5 harg5 arg6 harg6 arg7 harg7 arg8 harg8 v45 v59 X ⟨k, hk'⟩, tripL3_eq] at hp
    rcases List.mem_append.mp hp with h | h
    · simp only [List.mem_cons, List.not_mem_nil, or_false] at h
      rcases h with rfl | rfl | rfl | rfl | rfl | rfl | rfl | rfl
      · exact piece_wdec _ 2 ⟨k, hk⟩ 1 3 (k1_off15_eq ⟨k, hk'⟩ 1) (k1_off15_inb ⟨k, hk'⟩ 1) x
      · exact piece_wdec _ 2 ⟨k, hk⟩ 0 3 (k1_off15_eq ⟨k, hk'⟩ 0) (k1_off15_inb ⟨k, hk'⟩ 0) x
      · exact piece_wdec _ 2 ⟨k, hk⟩ 1 2 (k1_off14_eq ⟨k, hk'⟩ 1) (k1_off14_inb ⟨k, hk'⟩ 1) x
      · exact piece_wdec _ 2 ⟨k, hk⟩ 0 2 (k1_off14_eq ⟨k, hk'⟩ 0) (k1_off14_inb ⟨k, hk'⟩ 0) x
      · exact piece_wdec _ 2 ⟨k, hk⟩ 1 1 (k1_off13_eq ⟨k, hk'⟩ 1) (k1_off13_inb ⟨k, hk'⟩ 1) x
      · exact piece_wdec _ 2 ⟨k, hk⟩ 0 1 (k1_off13_eq ⟨k, hk'⟩ 0) (k1_off13_inb ⟨k, hk'⟩ 0) x
      · exact piece_wdec _ 2 ⟨k, hk⟩ 1 0 (k1_off12_eq ⟨k, hk'⟩ 1) (k1_off12_inb ⟨k, hk'⟩ 1) x
      · exact piece_wdec _ 2 ⟨k, hk⟩ 0 0 (k1_off12_eq ⟨k, hk'⟩ 0) (k1_off12_inb ⟨k, hk'⟩ 0) x
    · exact pb3_agree 𝒱 c bd i arg2 harg2 arg3 harg3 arg4 harg4 arg5 harg5 arg6 harg6 arg7 harg7 arg8 harg8 v45 v59 X k (by omega) p h x

/-- The pieces of the trips before `k` cover the rows below `128 * k`. -/
theorem pb3_cover (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (v45 : FVec F S512x512 .f32) (v59 : FVec F S512x128 .f32) (X : BufTy.Contents (Elt F) arg3.view.ty) (y : S7168x512.Idx) :
    ∀ k, k ≤ 56 → (y 0).val < 128 * k → ∃ p ∈ pb_k1_t3 (F := F) 𝒱 c bd i arg2 harg2 arg3 harg3 arg4 harg4 arg5 harg5 arg6 harg6 arg7 harg7 arg8 harg8 v45 v59 X k, y ∈ p.1.set
  | 0, _, hy => absurd hy (by omega)
  | k + 1, hk, hy => by
    have hk' : k < k1_t3_loop.trips := hk
    rw [show pb_k1_t3 (F := F) 𝒱 c bd i arg2 harg2 arg3 harg3 arg4 harg4 arg5 harg5 arg6 harg6 arg7 harg7 arg8 harg8 v45 v59 X (k + 1) = _ from pb_k1_t3_succ (F := F) 𝒱 c bd i arg2 harg2 arg3 harg3 arg4 harg4 arg5 harg5 arg6 harg6 arg7 harg7 arg8 harg8 v45 v59 X ⟨k, hk'⟩, tripL3_eq]
    by_cases hlo : (y 0).val < 128 * k
    · obtain ⟨p, hp, hm⟩ := pb3_cover 𝒱 c bd i arg2 harg2 arg3 harg3 arg4 harg4 arg5 harg5 arg6 harg6 arg7 harg7 arg8 harg8 v45 v59 X y k (by omega) hlo
      exact ⟨p, List.mem_append_right _ hp, hm⟩
    · have hy1 : (y 1).val < 512 := idx2_lt1 y
      have key : ∀ (o : Fin 2) (f : Fin 4) (off : Fin 2 → ℕ) (inb : ∀ d, off d + S64x128.size d ≤ S7168x512.size d),
          off = ![128 * k + 64 * o.val, 128 * f.val] → 128 * k + 64 * o.val ≤ (y 0).val → (y 0).val < 128 * k + 64 * o.val + 64 →
          128 * f.val ≤ (y 1).val → (y 1).val < 128 * f.val + 128 → y ∈ (Rect.unit (s := S7168x512) off S64x128.size inb).set := by
        intro o f off inb h a1 a2 a3 a4
        subst h
        rw [Rect.mem_set_unit]
        intro d
        match d with
        | ⟨0, _⟩ => exact ⟨a1, a2⟩
        | ⟨1, _⟩ => exact ⟨a3, a4⟩
      rcases (show (y 0).val < 128 * k + 64 ∨ 128 * k + 64 ≤ (y 0).val by omega) with h0 | h0
      · rcases (show (y 1).val < 128 ∨ (128 ≤ (y 1).val ∧ (y 1).val < 256) ∨ (256 ≤ (y 1).val ∧ (y 1).val < 384) ∨ 384 ≤ (y 1).val by omega) with h1 | h1 | h1 | h1
        · exact ⟨_, List.mem_append_left _ (List.mem_of_getElem? (i := 7) rfl), key 0 0 _ (k1_off12_inb ⟨k, hk'⟩ 0) (k1_off12_eq ⟨k, hk'⟩ 0) (by simp only [Fin.val_zero, Fin.val_one]; omega) (by simp only [Fin.val_zero, Fin.val_one]; omega) (by first | omega | (show 0 ≤ _; omega)) (by first | omega | (show _ < 128; omega))⟩
        · exact ⟨_, List.mem_append_left _ (List.mem_of_getElem? (i := 5) rfl), key 0 1 _ (k1_off13_inb ⟨k, hk'⟩ 0) (k1_off13_eq ⟨k, hk'⟩ 0) (by simp only [Fin.val_zero, Fin.val_one]; omega) (by simp only [Fin.val_zero, Fin.val_one]; omega) (by first | omega | (show 128 ≤ _; omega)) (by first | omega | (show _ < 256; omega))⟩
        · exact ⟨_, List.mem_append_left _ (List.mem_of_getElem? (i := 3) rfl), key 0 2 _ (k1_off14_inb ⟨k, hk'⟩ 0) (k1_off14_eq ⟨k, hk'⟩ 0) (by simp only [Fin.val_zero, Fin.val_one]; omega) (by simp only [Fin.val_zero, Fin.val_one]; omega) (by first | omega | (show 256 ≤ _; omega)) (by first | omega | (show _ < 384; omega))⟩
        · exact ⟨_, List.mem_append_left _ (List.mem_of_getElem? (i := 1) rfl), key 0 3 _ (k1_off15_inb ⟨k, hk'⟩ 0) (k1_off15_eq ⟨k, hk'⟩ 0) (by simp only [Fin.val_zero, Fin.val_one]; omega) (by simp only [Fin.val_zero, Fin.val_one]; omega) (by first | omega | (show 384 ≤ _; omega)) (by first | omega | (show _ < 512; omega))⟩
      · rcases (show (y 1).val < 128 ∨ (128 ≤ (y 1).val ∧ (y 1).val < 256) ∨ (256 ≤ (y 1).val ∧ (y 1).val < 384) ∨ 384 ≤ (y 1).val by omega) with h1 | h1 | h1 | h1
        · exact ⟨_, List.mem_append_left _ (List.mem_of_getElem? (i := 6) rfl), key 1 0 _ (k1_off12_inb ⟨k, hk'⟩ 1) (k1_off12_eq ⟨k, hk'⟩ 1) (by simp only [Fin.val_zero, Fin.val_one]; omega) (by simp only [Fin.val_zero, Fin.val_one]; omega) (by first | omega | (show 0 ≤ _; omega)) (by first | omega | (show _ < 128; omega))⟩
        · exact ⟨_, List.mem_append_left _ (List.mem_of_getElem? (i := 4) rfl), key 1 1 _ (k1_off13_inb ⟨k, hk'⟩ 1) (k1_off13_eq ⟨k, hk'⟩ 1) (by simp only [Fin.val_zero, Fin.val_one]; omega) (by simp only [Fin.val_zero, Fin.val_one]; omega) (by first | omega | (show 128 ≤ _; omega)) (by first | omega | (show _ < 256; omega))⟩
        · exact ⟨_, List.mem_append_left _ (List.mem_of_getElem? (i := 2) rfl), key 1 2 _ (k1_off14_inb ⟨k, hk'⟩ 1) (k1_off14_eq ⟨k, hk'⟩ 1) (by simp only [Fin.val_zero, Fin.val_one]; omega) (by simp only [Fin.val_zero, Fin.val_one]; omega) (by first | omega | (show 256 ≤ _; omega)) (by first | omega | (show _ < 384; omega))⟩
        · exact ⟨_, List.mem_append_left _ (List.mem_of_getElem? (i := 0) rfl), key 1 3 _ (k1_off15_inb ⟨k, hk'⟩ 1) (k1_off15_eq ⟨k, hk'⟩ 1) (by simp only [Fin.val_zero, Fin.val_one]; omega) (by simp only [Fin.val_zero, Fin.val_one]; omega) (by first | omega | (show 384 ≤ _; omega)) (by first | omega | (show _ < 512; omega))⟩

/-- After all 56 trips the scratch holds the decoded weights, whatever it held before. -/
theorem loop3_final (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (v45 : FVec F S512x512 .f32) (v59 : FVec F S512x128 .f32) (X : BufTy.Contents (Elt F) arg3.view.ty) (G : BufTy.Contents (Elt F) arg7.view.ty) :
    arg7.view.writes (Elt F) G (pb_k1_t3 (F := F) 𝒱 c bd i arg2 harg2 arg3 harg3 arg4 harg4 arg5 harg5 arg6 harg6 arg7 harg7 arg8 harg8 v45 v59 X k1_t3_loop.trips)
      = harg7.unread (wdec (arg3.view.read (Elt F) X) 2) :=
  harg7.eq_unread (funext fun y => View.read_writes_apply_of_pieces _ _ _ _
    (pb3_agree 𝒱 c bd i arg2 harg2 arg3 harg3 arg4 harg4 arg5 harg5 arg6 harg6 arg7 harg7 arg8 harg8 v45 v59 X 56 le_rfl) y
    (pb3_cover 𝒱 c bd i arg2 harg2 arg3 harg3 arg4 harg4 arg5 harg5 arg6 harg6 arg7 harg7 arg8 harg8 v45 v59 X y 56 le_rfl (by have := idx2_lt0 y; omega)))

end Cert.Kernel.Run

end
-- ==== Proof.Kernel.Region1.lean ====
/-
The product (`product`) as a pipelined region: its blocks, its run and its obligation.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Kernel.Decode

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_product` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the decode loops hand on: the scratch at the decoded weights -/

/-- After loop 1 the code block is as it was and the weight scratch holds the decoded weights of column tile 0. -/
instance loopExit1 (𝒱 : Variants) (c : Dev nD) (bd : Option 𝒱.V) (E : Set ℕ) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (X : BufTy.Contents (Elt F) arg3.view.ty) (G : BufTy.Contents (Elt F) arg7.view.ty) :
    LoopExit (loopInv_k1_t1 (F := F) 𝒱 c bd E i arg2 harg2 arg3 harg3 arg4 harg4 arg5 harg5 arg6 harg6 arg7 harg7 arg8 harg8 X G) where
  post _ := iprop((arg3.view.loc (c : Thread nD τ) ↦[arg3.view.set]{fullShare} X)
    ∗ (arg7.view.loc (c : Thread nD τ) ↦[arg7.view.set]{fullShare} harg7.unread (wdec (arg3.view.read (Elt F) X) 0)))
  exit _ := by
    show inv_k1_t1 (F := F) 𝒱 c bd i arg2 harg2 arg3 harg3 arg4 harg4 arg5 harg5 arg6 harg6 arg7 harg7 arg8 harg8 X G k1_t1_loop.trips _ ⊢ _
    unfold inv_k1_t1
    iintro ⟨HR, ⟨%f, HW, %hf⟩⟩
    rw [loop1_final] at hf
    subst hf
    isplitl [HR]; · iexact HR
    iexact HW

/-- After loop 2 the code block is as it was and the weight scratch holds the decoded weights of column tile 1. -/
instance loopExit2 (𝒱 : Variants) (c : Dev nD) (bd : Option 𝒱.V) (E : Set ℕ) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (v4 : FVec F S512x512 .f32) (v28 : FVec F S512x128 .bf16) (X : BufTy.Contents (Elt F) arg3.view.ty) (G : BufTy.Contents (Elt F) arg7.view.ty) :
    LoopExit (loopInv_k1_t2 (F := F) 𝒱 c bd E i arg2 harg2 arg3 harg3 arg4 harg4 arg5 harg5 arg6 harg6 arg7 harg7 arg8 harg8 v4 v28 X G) where
  post _ := iprop((arg3.view.loc (c : Thread nD τ) ↦[arg3.view.set]{fullShare} X)
    ∗ (arg7.view.loc (c : Thread nD τ) ↦[arg7.view.set]{fullShare} harg7.unread (wdec (arg3.view.read (Elt F) X) 1)))
  exit _ := by
    show inv_k1_t2 (F := F) 𝒱 c bd i arg2 harg2 arg3 harg3 arg4 harg4 arg5 harg5 arg6 harg6 arg7 harg7 arg8 harg8 v4 v28 X G k1_t2_loop.trips _ ⊢ _
    unfold inv_k1_t2
    iintro ⟨HR, ⟨%f, HW, %hf⟩⟩
    rw [loop2_final] at hf
    subst hf
    isplitl [HR]; · iexact HR
    iexact HW

/-- After loop 3 the code block is as it was and the weight scratch holds the decoded weights of column tile 2. -/
instance loopExit3 (𝒱 : Variants) (c : Dev nD) (bd : Option 𝒱.V) (E : Set ℕ) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (v45 : FVec F S512x512 .f32) (v59 : FVec F S512x128 .f32) (X : BufTy.Contents (Elt F) arg3.view.ty) (G : BufTy.Contents (Elt F) arg7.view.ty) :
    LoopExit (loopInv_k1_t3 (F := F) 𝒱 c bd E i arg2 harg2 arg3 harg3 arg4 harg4 arg5 harg5 arg6 harg6 arg7 harg7 arg8 harg8 v45 v59 X G) where
  post _ := iprop((arg3.view.loc (c : Thread nD τ) ↦[arg3.view.set]{fullShare} X)
    ∗ (arg7.view.loc (c : Thread nD τ) ↦[arg7.view.set]{fullShare} harg7.unread (wdec (arg3.view.read (Elt F) X) 2)))
  exit _ := by
    show inv_k1_t3 (F := F) 𝒱 c bd i arg2 harg2 arg3 harg3 arg4 harg4 arg5 harg5 arg6 harg6 arg7 harg7 arg8 harg8 v45 v59 X G k1_t3_loop.trips _ ⊢ _
    unfold inv_k1_t3
    iintro ⟨HR, ⟨%f, HW, %hf⟩⟩
    rw [loop3_final] at hf
    subst hf
    isplitl [HR]; · iexact HR
    iexact HW

/-! ## The kernel body on any staging memrefs: a subtype the run finds -/

/-- One staging buffer of output window 4, through which its contents are stated (`View.read_writes_of_cover`: the
    choice does not matter). -/
abbrev VO1_4 : View sig .tc .vmem S512x2048 .bf16 := (Memref.whole cc1_stg4_0 : Memref sig .tc .vmem S512x2048 .bf16).view
/-- Each window's current staging memref at point `t`, spelled as the pipeline passes it (`bodyAt1`), and its wholeness. -/
abbrev ms1_0 (t : Fin cfg1.N) : Memref sig .tc .vmem S512x7168 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S7168x384 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4x384 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S192x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x2048 .bf16 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows. -/
abbrev scM1_0 : Memref sig .tc .vmem S7168x512 .bf16 := Memref.whole cc1_scratch0
abbrev scM1_1 : Memref sig .tc .vmem S4x512x384 .bf16 := Memref.whole cc1_scratch1

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r)) := by
  unfold Pipeline.ΦA; rw [scopedRest1_eq]; simp only [scM1_0, scM1_1, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, the other scratch at some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole)
    (x0 : Vec F S512x7168 .bf16) (x1 : Vec F S7168x384 .i8) (x2 : Vec F S1x4x384 .f32) (x3 : Vec F S192x256 .bf16) :
    Σ' (L4 : List (View.Piece (Elt F) S512x2048 .bf16)), { LT1 : List (View.Piece (Elt F) S4x512x384 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ d, owns (c : Thread nD τ) arg7 fullShare d) ∗ (∃ f, arg8.view.loc (c : Thread nD τ) ↦[arg8.view.set]{fullShare} arg8.view.writes (Elt F) f LT1)) -∗ K ⟨⟩))
          ⊢ wp frame (wpE (defs₀ (F := F)) Variants.none c none) E (cc1_product i arg2 harg2 arg3 harg3 arg4 harg4 arg5 harg5 arg6 harg6 arg7 harg7 arg8 harg8) K } := by
  refine ⟨?_, ?_, fun E K => ?run⟩
  case run =>
    simp only [cc1_product_eq_skeleton]; unfold cc1_product_skel
    simp only [k1_part10_eq_skeleton, k1_part11_eq_skeleton, k1_part12_eq_skeleton, k1_part13_eq_skeleton, k1_part14_eq_skeleton, k1_part15_eq_skeleton, k1_part16_eq_skeleton, k1_part17_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [HL4]
    · iexists _; isplitr; · ipureintro; exact harg3.read_unread _
      iexact HL4
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HL5]
    · iexists _, _; isplitr; swap; · iexact HL5
      ipureintro; rfl
    iexists _; iexact HS1

/-- The run's pieces for output 4 tile its block (8 stores of `S512x256`, checked by the kernel's evaluation: Lib/Ring.lean `Piece.tiledL`, linear in the pieces, through a loop's `@[irreducible]` trip theorem too), so they cover it. -/
theorem cover1_A_4 (c : Dev nD) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole)
    (x0 : Vec F S512x7168 .bf16) (x1 : Vec F S7168x384 .i8) (x2 : Vec F S1x4x384 .f32) (x3 : Vec F S192x256 .bf16) (y : S512x2048.Idx) :
    ∃ pc ∈ (kernelRun1_A c i arg2 harg2 arg3 harg3 arg4 harg4 arg5 harg5 arg6 harg6 arg7 harg7 arg8 harg8 x0 x1 x2 x3).1, y ∈ pc.1.set :=
  View.cover_of_tiledL (kernelRun1_A c i arg2 harg2 arg3 harg3 arg4 harg4 arg5 harg5 arg6 harg6 arg7 harg7 arg8 harg8 x0 x1 x2 x3).1 S512x256.size (by sl_kernel_rfl) y

/-- What the run leaves in output 4's staging buffer: its pieces read back over junk. -/
def out1_A_4 (c : Dev nD) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole)
    (x0 : Vec F S512x7168 .bf16) (x1 : Vec F S7168x384 .i8) (x2 : Vec F S1x4x384 .f32) (x3 : Vec F S192x256 .bf16) : Vec F S512x2048 .bf16 :=
  VO1_4.read (Elt F) (VO1_4.writes (Elt F) VO1_4.junk (kernelRun1_A c i arg2 harg2 arg3 harg3 arg4 harg4 arg5 harg5 arg6 harg6 arg7 harg7 arg8 harg8 x0 x1 x2 x3).1)

/-! ## What the outputs hold after each point -/

/-- What the outputs' staging buffers hold after the body at point `t`: the run's contents at
    the point's memrefs and input blocks. -/
def outsAt1 (c : Dev nD) (t : Fin cfg1.N) : Vec F S512x2048 .bf16 :=
  out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (iblk1 V c 0 t) (iblk1 V c 1 t) (iblk1 V c 2 t) (iblk1 V c 3 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  rw [show (dat1 V c).Φ t.castSucc = Pipeline.ΦA spec1 c from rfl, PhiA1_eq]
  unfold outsAt1
  unfold out1_A_4
  iintro ⟨⟨⟨HR0, HR1, HR2, HR3, HR4, HR5, HS0, HS1, HR8, HR9, HR10, HR11, HR12⟩, Hg⟩, Ho, ⟨%d0, H0⟩, ⟨%d1, H1⟩, ⟨%d2, H2⟩, ⟨%d3, H3⟩, ⟨%d4, H4⟩⟩
  iapply ((kernelRun1_A c (grid1.coords t) _ _ _ _ _ _ _ _ _ _ _ _ _ _ (iblk1 V c 0 t) (iblk1 V c 1 t) (iblk1 V c 2 t) (iblk1 V c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%e4, H4⟩, HS0, ⟨%fT1, HS1⟩⟩
  isplitl [HR0 HR1 HR2 HR3 HR4 HR5 HS0 HS1 HR8 HR9 HR10 HR11 HR12 Hg]
  · isplitl [HR0 HR1 HR2 HR3 HR4 HR5 HS0 HS1 HR8 HR9 HR10 HR11 HR12]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HS0]
      · iexact HS0
      isplitl [HS1]
      · iexists _; unfold owns; iexists _; isplitr
        swap; · iexact HS1
        ipureintro; rfl
      isplitl [HR8]
      · iexact HR8
      isplitl [HR9]
      · iexact HR9
      isplitl [HR10]
      · iexact HR10
      isplitl [HR11]
      · iexact HR11
      iexact HR12
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_A_4 c _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Run

end
-- ==== Proof.Kernel.Region2.lean ====
/-
The output rotation (`rotate_out`) as a pipelined region: its blocks, its run and its obligation.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_rotate_out` (pipeline 2), at the entry contents `V` — class R -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 2, through which its contents are stated (`View.read_writes_of_cover`: the
    choice does not matter). -/
abbrev VO2_2 : View sig .tc .vmem S4x144x8x128 .bf16 := (Memref.whole cc2_stg2_0 : Memref sig .tc .vmem S4x144x8x128 .bf16).view
/-- Each window's current staging memref at point `t`, spelled as the pipeline passes it (`bodyAt2`), and its wholeness. -/
abbrev ms2_0 (t : Fin cfg2.N) : Memref sig .tc .vmem S4x192x8x128 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S192x192 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4x144x8x128 .bf16 := win2_2.stage (cfg2.slots t 2)
abbrev hs2_2 (t : Fin cfg2.N) : (ms2_2 t).IsWhole := hstage2_2 ((cfg2.slots t 2).cast nbuf2_2)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg1 : Memref sig .tc .vmem S4x192x8x128 .bf16) (harg1 : arg1.IsWhole) (arg2 : Memref sig .tc .vmem S192x192 .bf16) (harg2 : arg2.IsWhole) (arg3 : Memref sig .tc .vmem S4x144x8x128 .bf16) (harg3 : arg3.IsWhole)
    (x0 : Vec F S4x192x8x128 .bf16) (x1 : Vec F S192x192 .bf16) :
    { L2 : List (View.Piece (Elt F) S4x144x8x128 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc2_rotate_out i arg1 harg1 arg2 harg2 arg3 harg3) K } := by
  refine ⟨?_, fun E K => ?run⟩
  case run =>
    simp only [cc2_rotate_out_eq_skeleton]; unfold cc2_rotate_out_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The run's pieces for output 2 tile its block (16 stores of `S1x144x2x128`, checked by the kernel's evaluation: Lib/Ring.lean `Piece.tiledL`, linear in the pieces, through a loop's `@[irreducible]` trip theorem too), so they cover it. -/
theorem cover2_A_2 (c : Dev nD) (i : grid2.Coords) (arg1 : Memref sig .tc .vmem S4x192x8x128 .bf16) (harg1 : arg1.IsWhole) (arg2 : Memref sig .tc .vmem S192x192 .bf16) (harg2 : arg2.IsWhole) (arg3 : Memref sig .tc .vmem S4x144x8x128 .bf16) (harg3 : arg3.IsWhole)
    (x0 : Vec F S4x192x8x128 .bf16) (x1 : Vec F S192x192 .bf16) (y : S4x144x8x128.Idx) :
    ∃ pc ∈ (kernelRun2_A c i arg1 harg1 arg2 harg2 arg3 harg3 x0 x1).1, y ∈ pc.1.set :=
  View.cover_of_tiledL (kernelRun2_A c i arg1 harg1 arg2 harg2 arg3 harg3 x0 x1).1 S1x144x2x128.size (by sl_kernel_rfl) y

/-- What the run leaves in output 2's staging buffer: its pieces read back over junk. -/
def out2_A_2 (c : Dev nD) (i : grid2.Coords) (arg1 : Memref sig .tc .vmem S4x192x8x128 .bf16) (harg1 : arg1.IsWhole) (arg2 : Memref sig .tc .vmem S192x192 .bf16) (harg2 : arg2.IsWhole) (arg3 : Memref sig .tc .vmem S4x144x8x128 .bf16) (harg3 : arg3.IsWhole)
    (x0 : Vec F S4x192x8x128 .bf16) (x1 : Vec F S192x192 .bf16) : Vec F S4x144x8x128 .bf16 :=
  VO2_2.read (Elt F) (VO2_2.writes (Elt F) VO2_2.junk (kernelRun2_A c i arg1 harg1 arg2 harg2 arg3 harg3 x0 x1).1)

/-! ## What the outputs hold after each point -/

/-- What the outputs' staging buffers hold after the body at point `t`: the run's contents at
    the point's memrefs and input blocks. -/
def outsAt2 (c : Dev nD) (t : Fin cfg2.N) : Vec F S4x144x8x128 .bf16 :=
  out2_A_2 c (grid2.coords t) (ms2_0 t) (hs2_0 t) (ms2_1 t) (hs2_1 t) (ms2_2 t) (hs2_2 t) (iblk2 V c 0 t) (iblk2 V c 1 t)

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

/-- The body at any point: the inputs' memrefs hold their blocks (`before2_W`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  unfold outsAt2
  unfold out2_A_2
  iintro ⟨HΦ, Ho, ⟨%d0, H0⟩, ⟨%d1, H1⟩, ⟨%d2, H2⟩⟩
  iapply ((kernelRun2_A c (grid2.coords t) _ _ _ _ _ _ (iblk2 V c 0 t) (iblk2 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover2_A_2 c _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.Kernel.Run

end
-- ==== Proof.Kernel.Run.lean ====
/-
The whole program from launch to return: the three regions among the host stretches.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Kernel.Region0
public import proofs.«01_k».proof.Proof.Kernel.Region1
public import proofs.«01_k».proof.Proof.Kernel.Region2

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_c, main_v2, main_v3, main_v4, main_v5, main_v6, main_v7, main_v8, main_v9]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_v1, main_call0_v2, main_call0_v3, main_call0_v4, main_v10]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v11, main_v12]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v14, main_v15, main_v16, main_v17, main_v18, main_v19, main_v20, main_v21, main_v22, main_c_0]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call1_v0, main_v23]
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_call2_v0, main_call2_v1, main_call2_v2, main_call2_v3, main_call2_v4, main_v25]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps2_1` allocates a buffer. -/
theorem hostOps2_1_fresh : (hostOps2_1 : List (HloOp τ sig (Elt F))).Forall fun op => op.fresh = ∅ := by
  simp only [List.Forall]; repeat' constructor
/-- The reference each operation of `hostOps2_1` writes, in order. -/
abbrev hostOps2_1_W : List (Ref sig .tc) := [main_v26, main_v27]
theorem hostOps2_1_writes : (hostOps2_1 : List (HloOp τ sig (Elt F))).Forall fun op => op.writes ⊆ (hostOps2_1_W.map (Proc.devRef (τ := τ) .tc)).toFinset :=
  StableHlo.forall_writes_sub_of_map rfl
/-- `hostOps2_1` writes none of the argument arrays (checked: each argument against each reference it writes). -/
theorem hostOps2_1_args : ∀ a ∈ argRefs, a ∉ hostOps2_1_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v29, main_v30]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1`. -/
abbrev W5 : Dev nD → Valuation τ sig (Elt F) := fun c => StableHlo.after hostOps1 (W4 m ρ c)
/-- A reference `hostOps1` does not write keeps its contents across it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- After `hostOps1_1` (region 1's entry). -/
abbrev W6 : Dev nD → Valuation τ sig (Elt F) := fun c => StableHlo.after hostOps1_1 (W5 m ρ c)
/-- A reference `hostOps1_1` does not write keeps its contents across it. -/
theorem W6_of (c : Dev nD) (r : Ref sig .tc) (h : r ∉ hostOps1_1_W) : W6 m ρ c (Proc.devRef .tc r) = W5 m ρ c (Proc.devRef .tc r) :=
  StableHlo.after_of_writes_sub hostOps1_1 _ hostOps1_1_writes h
theorem W6_args (c : Dev nD) : ∀ a ∈ argRefs, W6 m ρ c (Proc.devRef .tc a) = m ((c : Thread nD τ).loc a) :=
  fun a ha => (W6_of m ρ c a (hostOps1_1_args a ha)).trans (W5_args m ρ c a ha)
/-- The same read at the TensorCore's references (what region 1's proof data take). -/
abbrev V6 : (c : Dev nD) → (b : Ref sig .tc) → Buf (Elt F) ((c : Thread nD τ).loc b) := fun c b => W6 m ρ c b
/-- At region 1's exit: its arrays at what the pipeline leaves (the inputs as entered, each output's write-backs
    folded: `Dat.arrAt … N`), every other buffer as entered (Lib/Pipeline/FrameSuffix.lean `withArrays`). -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- A reference that is none of region 1's OUTPUT arrays keeps its entry contents across it: an input window's
    array is never written back (`Dat.arrAt_in`, `A_eq1`); any other buffer is left as is. -/
theorem W7_of (c : Dev nD) (r : Ref sig .tc) (h : ∀ w : Fin cfg1.W, Pipeline.arrRef spec1 w = r → (cfg1.win w).isOut = false) :
    W7 m ρ c (Proc.devRef .tc r) = W6 m ρ c (Proc.devRef .tc r) := by
  by_cases hw : ∃ w : Fin cfg1.W, Pipeline.arrRef spec1 w = r
  · obtain ⟨w, rfl⟩ := hw
    exact (W7_arr m ρ c w).trans (((dat1 (V6 m ρ) c).arrAt_in w (h w rfl) _).trans (A_eq1 (V6 m ρ) c w))
  · exact W7_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn1 a ha)).trans (W6_args m ρ c a ha)
/-- The same read at the TensorCore's references (region 1's exit contents). -/
abbrev V7 : (c : Dev nD) → (b : Ref sig .tc) → Buf (Elt F) ((c : Thread nD τ).loc b) := fun c b => W7 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- After `hostOps2`. -/
abbrev W8 : Dev nD → Valuation τ sig (Elt F) := fun c => StableHlo.after hostOps2 (W7 m ρ c)
/-- A reference `hostOps2` does not write keeps its contents across it. -/
theorem W8_of (c : Dev nD) (r : Ref sig .tc) (h : r ∉ hostOps2_W) : W8 m ρ c (Proc.devRef .tc r) = W7 m ρ c (Proc.devRef .tc r) :=
  StableHlo.after_of_writes_sub hostOps2 _ hostOps2_writes h
theorem W8_args (c : Dev nD) : ∀ a ∈ argRefs, W8 m ρ c (Proc.devRef .tc a) = m ((c : Thread nD τ).loc a) :=
  fun a ha => (W8_of m ρ c a (hostOps2_args a ha)).trans (W7_args m ρ c a ha)
/-- After `hostOps2_1` (region 2's entry). -/
abbrev W9 : Dev nD → Valuation τ sig (Elt F) := fun c => StableHlo.after hostOps2_1 (W8 m ρ c)
/-- A reference `hostOps2_1` does not write keeps its contents across it. -/
theorem W9_of (c : Dev nD) (r : Ref sig .tc) (h : r ∉ hostOps2_1_W) : W9 m ρ c (Proc.devRef .tc r) = W8 m ρ c (Proc.devRef .tc r) :=
  StableHlo.after_of_writes_sub hostOps2_1 _ hostOps2_1_writes h
theorem W9_args (c : Dev nD) : ∀ a ∈ argRefs, W9 m ρ c (Proc.devRef .tc a) = m ((c : Thread nD τ).loc a) :=
  fun a ha => (W9_of m ρ c a (hostOps2_1_args a ha)).trans (W8_args m ρ c a ha)
/-- The same read at the TensorCore's references (what region 2's proof data take). -/
abbrev V9 : (c : Dev nD) → (b : Ref sig .tc) → Buf (Elt F) ((c : Thread nD τ).loc b) := fun c b => W9 m ρ c b
/-- At region 2's exit: its arrays at what the pipeline leaves (the inputs as entered, each output's write-backs
    folded: `Dat.arrAt … N`), every other buffer as entered (Lib/Pipeline/FrameSuffix.lean `withArrays`). -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- A reference that is none of region 2's OUTPUT arrays keeps its entry contents across it: an input window's
    array is never written back (`Dat.arrAt_in`, `A_eq2`); any other buffer is left as is. -/
theorem W10_of (c : Dev nD) (r : Ref sig .tc) (h : ∀ w : Fin cfg2.W, Pipeline.arrRef spec2 w = r → (cfg2.win w).isOut = false) :
    W10 m ρ c (Proc.devRef .tc r) = W9 m ρ c (Proc.devRef .tc r) := by
  by_cases hw : ∃ w : Fin cfg2.W, Pipeline.arrRef spec2 w = r
  · obtain ⟨w, rfl⟩ := hw
    exact (W10_arr m ρ c w).trans (((dat2 (V9 m ρ) c).arrAt_in w (h w rfl) _).trans (A_eq2 (V9 m ρ) c w))
  · exact W10_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn2 a ha)).trans (W9_args m ρ c a ha)
/-- The same read at the TensorCore's references (region 2's exit contents). -/
abbrev V10 : (c : Dev nD) → (b : Ref sig .tc) → Buf (Elt F) ((c : Thread nD τ).loc b) := fun c b => W10 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-- After `hostOps3`. -/
abbrev W11 : Dev nD → Valuation τ sig (Elt F) := fun c => StableHlo.after hostOps3 (W10 m ρ c)
/-- A reference `hostOps3` does not write keeps its contents across it. -/
theorem W11_of (c : Dev nD) (r : Ref sig .tc) (h : r ∉ hostOps3_W) : W11 m ρ c (Proc.devRef .tc r) = W10 m ρ c (Proc.devRef .tc r) :=
  StableHlo.after_of_writes_sub hostOps3 _ hostOps3_writes h
theorem W11_args (c : Dev nD) : ∀ a ∈ argRefs, W11 m ρ c (Proc.devRef .tc a) = m ((c : Thread nD τ).loc a) :=
  fun a ha => (W11_of m ρ c a (hostOps3_args a ha)).trans (W10_args m ρ c a ha)

/-! ### The arguments end as launched: no host stretch writes one and no region may change one (a region reads it
    through an input window or bypasses it) -/

theorem W11_main_arg0 (c : Dev nD) : W11 m ρ c (Proc.devRef .tc main_arg0) = m ((c : Thread nD τ).loc main_arg0) :=
  W11_args m ρ c main_arg0 (by decide)
theorem W11_main_arg1 (c : Dev nD) : W11 m ρ c (Proc.devRef .tc main_arg1) = m ((c : Thread nD τ).loc main_arg1) :=
  W11_args m ρ c main_arg1 (by decide)
theorem W11_main_arg2 (c : Dev nD) : W11 m ρ c (Proc.devRef .tc main_arg2) = m ((c : Thread nD τ).loc main_arg2) :=
  W11_args m ρ c main_arg2 (by decide)
theorem W11_main_arg3 (c : Dev nD) : W11 m ρ c (Proc.devRef .tc main_arg3) = m ((c : Thread nD τ).loc main_arg3) :=
  W11_args m ρ c main_arg3 (by decide)
theorem W11_main_arg4 (c : Dev nD) : W11 m ρ c (Proc.devRef .tc main_arg4) = m ((c : Thread nD τ).loc main_arg4) :=
  W11_args m ρ c main_arg4 (by decide)
theorem W11_main_arg5 (c : Dev nD) : W11 m ρ c (Proc.devRef .tc main_arg5) = m ((c : Thread nD τ).loc main_arg5) :=
  W11_args m ρ c main_arg5 (by decide)
theorem W11_main_arg6 (c : Dev nD) : W11 m ρ c (Proc.devRef .tc main_arg6) = m ((c : Thread nD τ).loc main_arg6) :=
  W11_args m ρ c main_arg6 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V6 m ρ) c
  | ⟨2, _⟩ => fun c => dat2 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W11`, the generator register at some state. -/
abbrev Tₙ (c : Dev nD) : sProp 𝕄 := iprop(StableHlo.held (c : Thread nD τ) (Pipeline.ucRefs τ sig) (W11 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W6`, left at `W7`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) (A_eq1 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W9`, left at `W10`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) (A_eq2 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 11 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .region (reg1 m ρ),
    .host (hseg hostOps2 hostOps2_sub hostOps2_fresh (W7 m ρ)),
    .host (hseg hostOps2_1 hostOps2_1_sub hostOps2_1_fresh (W8 m ρ)),
    .region (reg2 m ρ),
    .host (hseg hostOps3 hostOps3_sub hostOps3_fresh (W10 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters every weakly fair execution ends, every unscoped buffer holding what
    the last host stretch leaves (`W11`) and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W11 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨h, funext fun g => hz g (.inr (no_unscoped g.2))⟩)

/-- Every execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c _ (mem_uc main_arg0 (by decide))).trans (W11_main_arg0 m ρ c),
    (h.1 c _ (mem_uc main_arg1 (by decide))).trans (W11_main_arg1 m ρ c),
    (h.1 c _ (mem_uc main_arg2 (by decide))).trans (W11_main_arg2 m ρ c),
    (h.1 c _ (mem_uc main_arg3 (by decide))).trans (W11_main_arg3 m ρ c),
    (h.1 c _ (mem_uc main_arg4 (by decide))).trans (W11_main_arg4 m ρ c),
    (h.1 c _ (mem_uc main_arg5 (by decide))).trans (W11_main_arg5 m ρ c),
    (h.1 c _ (mem_uc main_arg6 (by decide))).trans (W11_main_arg6 m ρ c)⟩, h.2⟩) (run_all m ρ)

/-- Every execution ends with the result array at its closed value and the arguments as launched. -/
theorem result : θ_run defs (onTc (τ := τ) (main (F := F))) ⟨m, fun _ => 0, ρ⟩ (fun r => ∀ c : Dev nD,
      r.2.mem ((c.tc : Thread nD τ).loc main_v30) = W11 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨h.1 c _ (mem_uc main_v30 (by decide)), (h.1 c _ (mem_uc main_arg0 (by decide))).trans (W11_main_arg0 m ρ c),
    (h.1 c _ (mem_uc main_arg1 (by decide))).trans (W11_main_arg1 m ρ c),
    (h.1 c _ (mem_uc main_arg2 (by decide))).trans (W11_main_arg2 m ρ c),
    (h.1 c _ (mem_uc main_arg3 (by decide))).trans (W11_main_arg3 m ρ c),
    (h.1 c _ (mem_uc main_arg4 (by decide))).trans (W11_main_arg4 m ρ c),
    (h.1 c _ (mem_uc main_arg5 (by decide))).trans (W11_main_arg5 m ρ c),
    (h.1 c _ (mem_uc main_arg6 (by decide))).trans (W11_main_arg6 m ρ c)⟩) (run_all m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h => h.1) (frame m ρ)

end Cert.Kernel.Run

end
-- ==== Proof.KernelIdeal.Region0.lean ====
/-
The input rotation (`rotate_in`) as a pipelined region: its blocks, its run and its obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_rotate_in` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 3, through which its contents are stated (`View.read_writes_of_cover`: the
    choice does not matter). -/
abbrev VO0_3 : View sig .tc .vmem S16x56x8x128 .bf16 := (Memref.whole cc0_stg3_0 : Memref sig .tc .vmem S16x56x8x128 .bf16).view
/-- Each window's current staging memref at point `t`, spelled as the pipeline passes it (`bodyAt0`), and its wholeness. -/
abbrev ms0_0 (t : Fin cfg0.N) : Memref sig .tc .vmem S16x56x8x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S112x112 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x56x8x128 .bf16 := win0_3.stage (cfg0.slots t 3)
abbrev hs0_3 (t : Fin cfg0.N) : (ms0_3 t).IsWhole := hstage0_3 ((cfg0.slots t 3).cast nbuf0_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S16x56x8x128 .bf16) (harg1 : arg1.IsWhole) (arg2 : Memref sig .tc .vmem S128x128 .bf16) (harg2 : arg2.IsWhole) (arg3 : Memref sig .tc .vmem S112x112 .bf16) (harg3 : arg3.IsWhole) (arg4 : Memref sig .tc .vmem S16x56x8x128 .bf16) (harg4 : arg4.IsWhole)
    (x0 : Vec F S16x56x8x128 .bf16) (x1 : Vec F S128x128 .bf16) (x2 : Vec F S112x112 .bf16) :
    { L3 : List (View.Piece (Elt F) S16x56x8x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0_rotate_in i arg1 harg1 arg2 harg2 arg3 harg3 arg4 harg4) K } := by
  refine ⟨?_, fun E K => ?run⟩
  case run =>
    simp only [cc0_rotate_in_eq_skeleton]; unfold cc0_rotate_in_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The run's pieces for output 3 tile its block (64 stores of `S1x56x2x128`, checked by the kernel's evaluation: Lib/Ring.lean `Piece.tiledL`, linear in the pieces, through a loop's `@[irreducible]` trip theorem too), so they cover it. -/
theorem cover0_A_3 (c : Dev nD) (i : grid0.Coords) (arg1 : Memref sig .tc .vmem S16x56x8x128 .bf16) (harg1 : arg1.IsWhole) (arg2 : Memref sig .tc .vmem S128x128 .bf16) (harg2 : arg2.IsWhole) (arg3 : Memref sig .tc .vmem S112x112 .bf16) (harg3 : arg3.IsWhole) (arg4 : Memref sig .tc .vmem S16x56x8x128 .bf16) (harg4 : arg4.IsWhole)
    (x0 : Vec F S16x56x8x128 .bf16) (x1 : Vec F S128x128 .bf16) (x2 : Vec F S112x112 .bf16) (y : S16x56x8x128.Idx) :
    ∃ pc ∈ (kernelRun0_A c i arg1 harg1 arg2 harg2 arg3 harg3 arg4 harg4 x0 x1 x2).1, y ∈ pc.1.set :=
  View.cover_of_tiledL (kernelRun0_A c i arg1 harg1 arg2 harg2 arg3 harg3 arg4 harg4 x0 x1 x2).1 S1x56x2x128.size (by sl_kernel_rfl) y

/-- What the run leaves in output 3's staging buffer: its pieces read back over junk. -/
def out0_A_3 (c : Dev nD) (i : grid0.Coords) (arg1 : Memref sig .tc .vmem S16x56x8x128 .bf16) (harg1 : arg1.IsWhole) (arg2 : Memref sig .tc .vmem S128x128 .bf16) (harg2 : arg2.IsWhole) (arg3 : Memref sig .tc .vmem S112x112 .bf16) (harg3 : arg3.IsWhole) (arg4 : Memref sig .tc .vmem S16x56x8x128 .bf16) (harg4 : arg4.IsWhole)
    (x0 : Vec F S16x56x8x128 .bf16) (x1 : Vec F S128x128 .bf16) (x2 : Vec F S112x112 .bf16) : Vec F S16x56x8x128 .bf16 :=
  VO0_3.read (Elt F) (VO0_3.writes (Elt F) VO0_3.junk (kernelRun0_A c i arg1 harg1 arg2 harg2 arg3 harg3 arg4 harg4 x0 x1 x2).1)

/-! ## What the outputs hold after each point -/

/-- What the outputs' staging buffers hold after the body at point `t`: the run's contents at
    the point's memrefs and input blocks. -/
def outsAt0 (c : Dev nD) (t : Fin cfg0.N) : Vec F S16x56x8x128 .bf16 :=
  out0_A_3 c (grid0.coords t) (ms0_0 t) (hs0_0 t) (ms0_1 t) (hs0_1 t) (ms0_2 t) (hs0_2 t) (ms0_3 t) (hs0_3 t) (iblk0 V c 0 t) (iblk0 V c 1 t) (iblk0 V c 2 t)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold outsAt0
  unfold out0_A_3
  iintro ⟨HΦ, Ho, ⟨%d0, H0⟩, ⟨%d1, H1⟩, ⟨%d2, H2⟩, ⟨%d3, H3⟩⟩
  iapply ((kernelRun0_A c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_A_3 c _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run

end
-- ==== Proof.KernelIdeal.Decode.lean ====
/-
What one decode loop of the product kernel leaves in its weight scratch: the decoded weights of one column tile, as a
function of the code block alone, whatever the scratch held before.
-/
module

public import proofs.«01_k».proof.Proof.Gen.KernelIdeal.Loops
public import Idealize.ShloMosaic.Lib.ValueIdxCore
public import Idealize.ShloMosaic.Lib.Pipeline.FrameBody
public import Idealize.ShloMosaic.Lib.Tactic

@[expose] public section

set_option maxRecDepth 16384

noncomputable section

namespace Cert.KernelIdeal.Run

open Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One trip's eight tiles of decoded weights, from its 128 by 128 bytes of codes: `o` is the row parity the tile holds,
    `f` the two-bit field. -/
def wtile (V : Vec F S128x128 .i8) (o : Fin 2) (f : Fin 4) : FVec F S64x128 .bf16 :=
  match o, f with
  | 0, 0 => k1_pay3 V
  | 1, 0 => k1_pay4 V
  | 0, 1 => k1_pay6 (k1_pay5 V) 1082146944#32
  | 1, 1 => k1_pay7 (k1_pay2 V)
  | 0, 2 => k1_pay9 (k1_pay8 (k1_pay2 V))
  | 1, 2 => k1_pay10 (k1_pay2 V)
  | 0, 3 => k1_pay11 (k1_pay2 V)
  | 1, 3 => k1_pay38 (k1_pay12 (k1_pay2 V)) k1_pay13

/-- The 128 by 128 bytes trip `a` of column tile `jt` reads out of the code block. -/
def blk (x1 : Vec F S7168x384 .i8) (jt : Fin 3) (a : Fin 56) : Vec F S128x128 .i8 := fun j =>
  x1 (ix2 ⟨128 * a.val + (j 0).val, by have := idx2_lt0 j; omega⟩ ⟨128 * jt.val + (j 1).val, by have := idx2_lt1 j; omega⟩)

/-- The weight scratch after the decode loop of column tile `jt`. -/
def wdec (x1 : Vec F S7168x384 .i8) (jt : Fin 3) : Vec F S7168x512 .bf16 := fun y =>
  wtile (blk x1 jt ⟨(y 0).val / 128, by have := idx2_lt0 y; omega⟩) ⟨(y 0).val % 128 / 64, by omega⟩
    ⟨(y 1).val / 128, by have := idx2_lt1 y; omega⟩ (ix2 ⟨(y 0).val % 64, by omega⟩ ⟨(y 1).val % 128, by omega⟩)

/-- `wdec` at a place given by its trip, tile and place in the tile. -/
theorem wdec_at (x1 : Vec F S7168x384 .i8) (jt : Fin 3) (y : S7168x512.Idx) (a : Fin 56) (o : Fin 2) (f : Fin 4) (x : S64x128.Idx)
    (h0 : (y 0).val = 128 * a.val + 64 * o.val + (x 0).val) (h1 : (y 1).val = 128 * f.val + (x 1).val) :
    wdec x1 jt y = wtile (blk x1 jt a) o f x := by
  have hx0 : (x 0).val < 64 := idx2_lt0 x
  have hx1 : (x 1).val < 128 := idx2_lt1 x
  have ha := a.isLt; have ho := o.isLt; have hf := f.isLt
  unfold wdec
  have e1 : (⟨(y 0).val / 128, by have := idx2_lt0 y; omega⟩ : Fin 56) = a := Fin.ext (by simp only; omega)
  have e2 : (⟨(y 0).val % 128 / 64, by omega⟩ : Fin 2) = o := Fin.ext (by simp only; omega)
  have e3 : (⟨(y 1).val / 128, by have := idx2_lt1 y; omega⟩ : Fin 4) = f := Fin.ext (by simp only; omega)
  have e4 : (ix2 ⟨(y 0).val % 64, by omega⟩ ⟨(y 1).val % 128, by omega⟩ : S64x128.Idx) = x := by
    funext d
    match d with
    | ⟨0, _⟩ => exact Fin.ext (by show (y 0).val % 64 = (x 0).val; omega)
    | ⟨1, _⟩ => exact Fin.ext (by show (y 1).val % 128 = (x 1).val; omega)
  rw [e1, e2, e3, e4]

/-- A tile's piece agrees with `wdec`. -/
theorem piece_wdec (x1 : Vec F S7168x384 .i8) (jt : Fin 3) (a : Fin 56) (o : Fin 2) (f : Fin 4) {off : Fin 2 → ℕ}
    (hoff : off = ![128 * a.val + 64 * o.val, 128 * f.val]) (inb : ∀ d, off d + S64x128.size d ≤ S7168x512.size d)
    (x : S64x128.Idx) :
    wtile (blk x1 jt a) o f x = wdec x1 jt ((Rect.unit (s := S7168x512) off S64x128.size inb).emb x) := by
  subst hoff
  refine (wdec_at x1 jt _ a o f x ?_ ?_).symm
  · show 128 * a.val + 64 * o.val + 1 * (x 0).val = _; omega
  · show 128 * f.val + 1 * (x 1).val = _; omega

theorem trip1_lt (k : Fin k1_t1_loop.trips) : k.val < 56 := Nat.lt_of_lt_of_le k.isLt k1_t1_abs.2.1

/-- The bytes trip `k` of loop 1 reads. -/
theorem codes1 (arg3 : Memref sig .tc .vmem S7168x384 .i8) (X : BufTy.Contents (Elt F) arg3.view.ty) (k : Fin k1_t1_loop.trips)
    (inb : ∀ d, k1_off1 k d + S128x128.size d ≤ S7168x384.size d) :
    View.readAt (Elt F) arg3.view (Rect.unit (s := S7168x384) (k1_off1 k) S128x128.size inb).toLoadRect X
      = blk (arg3.view.read (Elt F) X) 0 ⟨k.val, trip1_lt k⟩ := by
  have hoff := k1_off1_eq k
  funext j
  refine congrArg (arg3.view.read (Elt F) X) (funext fun d => Fin.ext ?_)
  match d with
  | ⟨0, _⟩ => show k1_off1 k 0 + 1 * (j 0).val = 128 * k.val + (j 0).val; have h0 : k1_off1 k 0 = 128 * k.val := congrFun hoff 0; omega
  | ⟨1, _⟩ => show k1_off1 k 1 + 1 * (j 1).val = 128 * 0 + (j 1).val; have h1 : k1_off1 k 1 = 0 := congrFun hoff 1; omega

/-- The pieces trip `k` of loop 1 writes, spelt out. -/
theorem tripL1_eq (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (X : BufTy.Contents (Elt F) arg3.view.ty) (k : Fin k1_t1_loop.trips) :
    tripL_k1_t1 (F := F) 𝒱 c bd i arg2 harg2 arg3 harg3 arg4 harg4 arg5 harg5 arg6 harg6 arg7 harg7 arg8 harg8 X k = [⟨Rect.unit (s := S7168x512) (k1_off5 k 64#32) S64x128.size (k1_off5_inb k 1), wtile (blk (arg3.view.read (Elt F) X) 0 ⟨k.val, trip1_lt k⟩) 1 3⟩,
      ⟨Rect.unit (s := S7168x512) (k1_off5 k 0#32) S64x128.size (k1_off5_inb k 0), wtile (blk (arg3.view.read (Elt F) X) 0 ⟨k.val, trip1_lt k⟩) 0 3⟩,
      ⟨Rect.unit (s := S7168x512) (k1_off4 k 64#32) S64x128.size (k1_off4_inb k 1), wtile (blk (arg3.view.read (Elt F) X) 0 ⟨k.val, trip1_lt k⟩) 1 2⟩,
      ⟨Rect.unit (s := S7168x512) (k1_off4 k 0#32) S64x128.size (k1_off4_inb k 0), wtile (blk (arg3.view.read (Elt F) X) 0 ⟨k.val, trip1_lt k⟩) 0 2⟩,
      ⟨Rect.unit (s := S7168x512) (k1_off3 k 64#32) S64x128.size (k1_off3_inb k 1), wtile (blk (arg3.view.read (Elt F) X) 0 ⟨k.val, trip1_lt k⟩) 1 1⟩,
      ⟨Rect.unit (s := S7168x512) (k1_off3 k 0#32) S64x128.size (k1_off3_inb k 0), wtile (blk (arg3.view.read (Elt F) X) 0 ⟨k.val, trip1_lt k⟩) 0 1⟩,
      ⟨Rect.unit (s := S7168x512) (k1_off2 k 64#32) S64x128.size (k1_off2_inb k 1), wtile (blk (arg3.view.read (Elt F) X) 0 ⟨k.val, trip1_lt k⟩) 1 0⟩,
      ⟨Rect.unit (s := S7168x512) (k1_off2 k 0#32) S64x128.size (k1_off2_inb k 0), wtile (blk (arg3.view.read (Elt F) X) 0 ⟨k.val, trip1_lt k⟩) 0 0⟩] := by
  have hc := codes1 arg3 X k (k1_off1_inb k)
  unfold tripL_k1_t1 trip_k1_t1
  rw [← hc]
  rfl

/-- Every piece of the trips before `k` agrees with `wdec`. -/
theorem pb1_agree (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (X : BufTy.Contents (Elt F) arg3.view.ty) :
    ∀ k, k ≤ 56 → ∀ p ∈ pb_k1_t1 (F := F) 𝒱 c bd i arg2 harg2 arg3 harg3 arg4 harg4 arg5 harg5 arg6 harg6 arg7 harg7 arg8 harg8 X k, ∀ x : p.1.shape.Idx,
      p.2 x = wdec (arg3.view.read (Elt F) X) 0 (p.1.emb x)
  | 0, _, p, hp, _ => absurd hp List.not_mem_nil
  | k + 1, hk, p, hp, x => by
    have hk' : k < k1_t1_loop.trips := hk
    rw [show pb_k1_t1 (F := F) 𝒱 c bd i arg2 harg2 arg3 harg3 arg4 harg4 arg5 harg5 arg6 harg6 arg7 harg7 arg8 harg8 X (k + 1) = _ from pb_k1_t1_succ (F := F) 𝒱 c bd i arg2 harg2 arg3 harg3 arg4 harg4 arg5 harg5 arg6 harg6 arg7 harg7 arg8 harg8 X ⟨k, hk'⟩, tripL1_eq] at hp
    rcases List.mem_append.mp hp with h | h
    · simp only [List.mem_cons, List.not_mem_nil, or_false] at h
      rcases h with rfl | rfl | rfl | rfl | rfl | rfl | rfl | rfl
      · exact piece_wdec _ 0 ⟨k, hk⟩ 1 3 (k1_off5_eq ⟨k, hk'⟩ 1) (k1_off5_inb ⟨k, hk'⟩ 1) x
      · exact piece_wdec _ 0 ⟨k, hk⟩ 0 3 (k1_off5_eq ⟨k, hk'⟩ 0) (k1_off5_inb ⟨k, hk'⟩ 0) x
      · exact piece_wdec _ 0 ⟨k, hk⟩ 1 2 (k1_off4_eq ⟨k, hk'⟩ 1) (k1_off4_inb ⟨k, hk'⟩ 1) x
      · exact piece_wdec _ 0 ⟨k, hk⟩ 0 2 (k1_off4_eq ⟨k, hk'⟩ 0) (k1_off4_inb ⟨k, hk'⟩ 0) x
      · exact piece_wdec _ 0 ⟨k, hk⟩ 1 1 (k1_off3_eq ⟨k, hk'⟩ 1) (k1_off3_inb ⟨k, hk'⟩ 1) x
      · exact piece_wdec _ 0 ⟨k, hk⟩ 0 1 (k1_off3_eq ⟨k, hk'⟩ 0) (k1_off3_inb ⟨k, hk'⟩ 0) x
      · exact piece_wdec _ 0 ⟨k, hk⟩ 1 0 (k1_off2_eq ⟨k, hk'⟩ 1) (k1_off2_inb ⟨k, hk'⟩ 1) x
      · exact piece_wdec _ 0 ⟨k, hk⟩ 0 0 (k1_off2_eq ⟨k, hk'⟩ 0) (k1_off2_inb ⟨k, hk'⟩ 0) x
    · exact pb1_agree 𝒱 c bd i arg2 harg2 arg3 harg3 arg4 harg4 arg5 harg5 arg6 harg6 arg7 harg7 arg8 harg8 X k (by omega) p h x

/-- The pieces of the trips before `k` cover the rows below `128 * k`. -/
theorem pb1_cover (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (X : BufTy.Contents (Elt F) arg3.view.ty) (y : S7168x512.Idx) :
    ∀ k, k ≤ 56 → (y 0).val < 128 * k → ∃ p ∈ pb_k1_t1 (F := F) 𝒱 c bd i arg2 harg2 arg3 harg3 arg4 harg4 arg5 harg5 arg6 harg6 arg7 harg7 arg8 harg8 X k, y ∈ p.1.set
  | 0, _, hy => absurd hy (by omega)
  | k + 1, hk, hy => by
    have hk' : k < k1_t1_loop.trips := hk
    rw [show pb_k1_t1 (F := F) 𝒱 c bd i arg2 harg2 arg3 harg3 arg4 harg4 arg5 harg5 arg6 harg6 arg7 harg7 arg8 harg8 X (k + 1) = _ from pb_k1_t1_succ (F := F) 𝒱 c bd i arg2 harg2 arg3 harg3 arg4 harg4 arg5 harg5 arg6 harg6 arg7 harg7 arg8 harg8 X ⟨k, hk'⟩, tripL1_eq]
    by_cases hlo : (y 0).val < 128 * k
    · obtain ⟨p, hp, hm⟩ := pb1_cover 𝒱 c bd i arg2 harg2 arg3 harg3 arg4 harg4 arg5 harg5 arg6 harg6 arg7 harg7 arg8 harg8 X y k (by omega) hlo
      exact ⟨p, List.mem_append_right _ hp, hm⟩
    · have hy1 : (y 1).val < 512 := idx2_lt1 y
      have key : ∀ (o : Fin 2) (f : Fin 4) (off : Fin 2 → ℕ) (inb : ∀ d, off d + S64x128.size d ≤ S7168x512.size d),
          off = ![128 * k + 64 * o.val, 128 * f.val] → 128 * k + 64 * o.val ≤ (y 0).val → (y 0).val < 128 * k + 64 * o.val + 64 →
          128 * f.val ≤ (y 1).val → (y 1).val < 128 * f.val + 128 → y ∈ (Rect.unit (s := S7168x512) off S64x128.size inb).set := by
        intro o f off inb h a1 a2 a3 a4
        subst h
        rw [Rect.mem_set_unit]
        intro d
        match d with
        | ⟨0, _⟩ => exact ⟨a1, a2⟩
        | ⟨1, _⟩ => exact ⟨a3, a4⟩
      rcases (show (y 0).val < 128 * k + 64 ∨ 128 * k + 64 ≤ (y 0).val by omega) with h0 | h0
      · rcases (show (y 1).val < 128 ∨ (128 ≤ (y 1).val ∧ (y 1).val < 256) ∨ (256 ≤ (y 1).val ∧ (y 1).val < 384) ∨ 384 ≤ (y 1).val by omega) with h1 | h1 | h1 | h1
        · exact ⟨_, List.mem_append_left _ (List.mem_of_getElem? (i := 7) rfl), key 0 0 _ (k1_off2_inb ⟨k, hk'⟩ 0) (k1_off2_eq ⟨k, hk'⟩ 0) (by simp only [Fin.val_zero, Fin.val_one]; omega) (by simp only [Fin.val_zero, Fin.val_one]; omega) (by first | omega | (show 0 ≤ _; omega)) (by first | omega | (show _ < 128; omega))⟩
        · exact ⟨_, List.mem_append_left _ (List.mem_of_getElem? (i := 5) rfl), key 0 1 _ (k1_off3_inb ⟨k, hk'⟩ 0) (k1_off3_eq ⟨k, hk'⟩ 0) (by simp only [Fin.val_zero, Fin.val_one]; omega) (by simp only [Fin.val_zero, Fin.val_one]; omega) (by first | omega | (show 128 ≤ _; omega)) (by first | omega | (show _ < 256; omega))⟩
        · exact ⟨_, List.mem_append_left _ (List.mem_of_getElem? (i := 3) rfl), key 0 2 _ (k1_off4_inb ⟨k, hk'⟩ 0) (k1_off4_eq ⟨k, hk'⟩ 0) (by simp only [Fin.val_zero, Fin.val_one]; omega) (by simp only [Fin.val_zero, Fin.val_one]; omega) (by first | omega | (show 256 ≤ _; omega)) (by first | omega | (show _ < 384; omega))⟩
        · exact ⟨_, List.mem_append_left _ (List.mem_of_getElem? (i := 1) rfl), key 0 3 _ (k1_off5_inb ⟨k, hk'⟩ 0) (k1_off5_eq ⟨k, hk'⟩ 0) (by simp only [Fin.val_zero, Fin.val_one]; omega) (by simp only [Fin.val_zero, Fin.val_one]; omega) (by first | omega | (show 384 ≤ _; omega)) (by first | omega | (show _ < 512; omega))⟩
      · rcases (show (y 1).val < 128 ∨ (128 ≤ (y 1).val ∧ (y 1).val < 256) ∨ (256 ≤ (y 1).val ∧ (y 1).val < 384) ∨ 384 ≤ (y 1).val by omega) with h1 | h1 | h1 | h1
        · exact ⟨_, List.mem_append_left _ (List.mem_of_getElem? (i := 6) rfl), key 1 0 _ (k1_off2_inb ⟨k, hk'⟩ 1) (k1_off2_eq ⟨k, hk'⟩ 1) (by simp only [Fin.val_zero, Fin.val_one]; omega) (by simp only [Fin.val_zero, Fin.val_one]; omega) (by first | omega | (show 0 ≤ _; omega)) (by first | omega | (show _ < 128; omega))⟩
        · exact ⟨_, List.mem_append_left _ (List.mem_of_getElem? (i := 4) rfl), key 1 1 _ (k1_off3_inb ⟨k, hk'⟩ 1) (k1_off3_eq ⟨k, hk'⟩ 1) (by simp only [Fin.val_zero, Fin.val_one]; omega) (by simp only [Fin.val_zero, Fin.val_one]; omega) (by first | omega | (show 128 ≤ _; omega)) (by first | omega | (show _ < 256; omega))⟩
        · exact ⟨_, List.mem_append_left _ (List.mem_of_getElem? (i := 2) rfl), key 1 2 _ (k1_off4_inb ⟨k, hk'⟩ 1) (k1_off4_eq ⟨k, hk'⟩ 1) (by simp only [Fin.val_zero, Fin.val_one]; omega) (by simp only [Fin.val_zero, Fin.val_one]; omega) (by first | omega | (show 256 ≤ _; omega)) (by first | omega | (show _ < 384; omega))⟩
        · exact ⟨_, List.mem_append_left _ (List.mem_of_getElem? (i := 0) rfl), key 1 3 _ (k1_off5_inb ⟨k, hk'⟩ 1) (k1_off5_eq ⟨k, hk'⟩ 1) (by simp only [Fin.val_zero, Fin.val_one]; omega) (by simp only [Fin.val_zero, Fin.val_one]; omega) (by first | omega | (show 384 ≤ _; omega)) (by first | omega | (show _ < 512; omega))⟩

/-- After all 56 trips the scratch holds the decoded weights, whatever it held before. -/
theorem loop1_final (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (X : BufTy.Contents (Elt F) arg3.view.ty) (G : BufTy.Contents (Elt F) arg7.view.ty) :
    arg7.view.writes (Elt F) G (pb_k1_t1 (F := F) 𝒱 c bd i arg2 harg2 arg3 harg3 arg4 harg4 arg5 harg5 arg6 harg6 arg7 harg7 arg8 harg8 X k1_t1_loop.trips)
      = harg7.unread (wdec (arg3.view.read (Elt F) X) 0) :=
  harg7.eq_unread (funext fun y => View.read_writes_apply_of_pieces _ _ _ _
    (pb1_agree 𝒱 c bd i arg2 harg2 arg3 harg3 arg4 harg4 arg5 harg5 arg6 harg6 arg7 harg7 arg8 harg8 X 56 le_rfl) y
    (pb1_cover 𝒱 c bd i arg2 harg2 arg3 harg3 arg4 harg4 arg5 harg5 arg6 harg6 arg7 harg7 arg8 harg8 X y 56 le_rfl (by have := idx2_lt0 y; omega)))

theorem trip2_lt (k : Fin k1_t2_loop.trips) : k.val < 56 := Nat.lt_of_lt_of_le k.isLt k1_t2_abs.2.1

/-- The bytes trip `k` of loop 2 reads. -/
theorem codes2 (arg3 : Memref sig .tc .vmem S7168x384 .i8) (X : BufTy.Contents (Elt F) arg3.view.ty) (k : Fin k1_t2_loop.trips)
    (inb : ∀ d, k1_off6 k d + S128x128.size d ≤ S7168x384.size d) :
    View.readAt (Elt F) arg3.view (Rect.unit (s := S7168x384) (k1_off6 k) S128x128.size inb).toLoadRect X
      = blk (arg3.view.read (Elt F) X) 1 ⟨k.val, trip2_lt k⟩ := by
  have hoff := k1_off6_eq k
  funext j
  refine congrArg (arg3.view.read (Elt F) X) (funext fun d => Fin.ext ?_)
  match d with
  | ⟨0, _⟩ => show k1_off6 k 0 + 1 * (j 0).val = 128 * k.val + (j 0).val; have h0 : k1_off6 k 0 = 128 * k.val := congrFun hoff 0; omega
  | ⟨1, _⟩ => show k1_off6 k 1 + 1 * (j 1).val = 128 * 1 + (j 1).val; have h1 : k1_off6 k 1 = 128 := congrFun hoff 1; omega

/-- The pieces trip `k` of loop 2 writes, spelt out. -/
theorem tripL2_eq (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (v4 : FVec F S512x512 .f32) (v28 : FVec F S512x128 .bf16) (X : BufTy.Contents (Elt F) arg3.view.ty) (k : Fin k1_t2_loop.trips) :
    tripL_k1_t2 (F := F) 𝒱 c bd i arg2 harg2 arg3 harg3 arg4 harg4 arg5 harg5 arg6 harg6 arg7 harg7 arg8 harg8 v4 v28 X k = [⟨Rect.unit (s := S7168x512) (k1_off10 k 64#32) S64x128.size (k1_off10_inb k 1), wtile (blk (arg3.view.read (Elt F) X) 1 ⟨k.val, trip2_lt k⟩) 1 3⟩,
      ⟨Rect.unit (s := S7168x512) (k1_off10 k 0#32) S64x128.size (k1_off10_inb k 0), wtile (blk (arg3.view.read (Elt F) X) 1 ⟨k.val, trip2_lt k⟩) 0 3⟩,
      ⟨Rect.unit (s := S7168x512) (k1_off9 k 64#32) S64x128.size (k1_off9_inb k 1), wtile (blk (arg3.view.read (Elt F) X) 1 ⟨k.val, trip2_lt k⟩) 1 2⟩,
      ⟨Rect.unit (s := S7168x512) (k1_off9 k 0#32) S64x128.size (k1_off9_inb k 0), wtile (blk (arg3.view.read (Elt F) X) 1 ⟨k.val, trip2_lt k⟩) 0 2⟩,
      ⟨Rect.unit (s := S7168x512) (k1_off8 k 64#32) S64x128.size (k1_off8_inb k 1), wtile (blk (arg3.view.read (Elt F) X) 1 ⟨k.val, trip2_lt k⟩) 1 1⟩,
      ⟨Rect.unit (s := S7168x512) (k1_off8 k 0#32) S64x128.size (k1_off8_inb k 0), wtile (blk (arg3.view.read (Elt F) X) 1 ⟨k.val, trip2_lt k⟩) 0 1⟩,
      ⟨Rect.unit (s := S7168x512) (k1_off7 k 64#32) S64x128.size (k1_off7_inb k 1), wtile (blk (arg3.view.read (Elt F) X) 1 ⟨k.val, trip2_lt k⟩) 1 0⟩,
      ⟨Rect.unit (s := S7168x512) (k1_off7 k 0#32) S64x128.size (k1_off7_inb k 0), wtile (blk (arg3.view.read (Elt F) X) 1 ⟨k.val, trip2_lt k⟩) 0 0⟩] := by
  have hc := codes2 arg3 X k (k1_off6_inb k)
  unfold tripL_k1_t2 trip_k1_t2
  rw [← hc]
  rfl

/-- Every piece of the trips before `k` agrees with `wdec`. -/
theorem pb2_agree (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (v4 : FVec F S512x512 .f32) (v28 : FVec F S512x128 .bf16) (X : BufTy.Contents (Elt F) arg3.view.ty) :
    ∀ k, k ≤ 56 → ∀ p ∈ pb_k1_t2 (F := F) 𝒱 c bd i arg2 harg2 arg3 harg3 arg4 harg4 arg5 harg5 arg6 harg6 arg7 harg7 arg8 harg8 v4 v28 X k, ∀ x : p.1.shape.Idx,
      p.2 x = wdec (arg3.view.read (Elt F) X) 1 (p.1.emb x)
  | 0, _, p, hp, _ => absurd hp List.not_mem_nil
  | k + 1, hk, p, hp, x => by
    have hk' : k < k1_t2_loop.trips := hk
    rw [show pb_k1_t2 (F := F) 𝒱 c bd i arg2 harg2 arg3 harg3 arg4 harg4 arg5 harg5 arg6 harg6 arg7 harg7 arg8 harg8 v4 v28 X (k + 1) = _ from pb_k1_t2_succ (F := F) 𝒱 c bd i arg2 harg2 arg3 harg3 arg4 harg4 arg5 harg5 arg6 harg6 arg7 harg7 arg8 harg8 v4 v28 X ⟨k, hk'⟩, tripL2_eq] at hp
    rcases List.mem_append.mp hp with h | h
    · simp only [List.mem_cons, List.not_mem_nil, or_false] at h
      rcases h with rfl | rfl | rfl | rfl | rfl | rfl | rfl | rfl
      · exact piece_wdec _ 1 ⟨k, hk⟩ 1 3 (k1_off10_eq ⟨k, hk'⟩ 1) (k1_off10_inb ⟨k, hk'⟩ 1) x
      · exact piece_wdec _ 1 ⟨k, hk⟩ 0 3 (k1_off10_eq ⟨k, hk'⟩ 0) (k1_off10_inb ⟨k, hk'⟩ 0) x
      · exact piece_wdec _ 1 ⟨k, hk⟩ 1 2 (k1_off9_eq ⟨k, hk'⟩ 1) (k1_off9_inb ⟨k, hk'⟩ 1) x
      · exact piece_wdec _ 1 ⟨k, hk⟩ 0 2 (k1_off9_eq ⟨k, hk'⟩ 0) (k1_off9_inb ⟨k, hk'⟩ 0) x
      · exact piece_wdec _ 1 ⟨k, hk⟩ 1 1 (k1_off8_eq ⟨k, hk'⟩ 1) (k1_off8_inb ⟨k, hk'⟩ 1) x
      · exact piece_wdec _ 1 ⟨k, hk⟩ 0 1 (k1_off8_eq ⟨k, hk'⟩ 0) (k1_off8_inb ⟨k, hk'⟩ 0) x
      · exact piece_wdec _ 1 ⟨k, hk⟩ 1 0 (k1_off7_eq ⟨k, hk'⟩ 1) (k1_off7_inb ⟨k, hk'⟩ 1) x
      · exact piece_wdec _ 1 ⟨k, hk⟩ 0 0 (k1_off7_eq ⟨k, hk'⟩ 0) (k1_off7_inb ⟨k, hk'⟩ 0) x
    · exact pb2_agree 𝒱 c bd i arg2 harg2 arg3 harg3 arg4 harg4 arg5 harg5 arg6 harg6 arg7 harg7 arg8 harg8 v4 v28 X k (by omega) p h x

/-- The pieces of the trips before `k` cover the rows below `128 * k`. -/
theorem pb2_cover (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (v4 : FVec F S512x512 .f32) (v28 : FVec F S512x128 .bf16) (X : BufTy.Contents (Elt F) arg3.view.ty) (y : S7168x512.Idx) :
    ∀ k, k ≤ 56 → (y 0).val < 128 * k → ∃ p ∈ pb_k1_t2 (F := F) 𝒱 c bd i arg2 harg2 arg3 harg3 arg4 harg4 arg5 harg5 arg6 harg6 arg7 harg7 arg8 harg8 v4 v28 X k, y ∈ p.1.set
  | 0, _, hy => absurd hy (by omega)
  | k + 1, hk, hy => by
    have hk' : k < k1_t2_loop.trips := hk
    rw [show pb_k1_t2 (F := F) 𝒱 c bd i arg2 harg2 arg3 harg3 arg4 harg4 arg5 harg5 arg6 harg6 arg7 harg7 arg8 harg8 v4 v28 X (k + 1) = _ from pb_k1_t2_succ (F := F) 𝒱 c bd i arg2 harg2 arg3 harg3 arg4 harg4 arg5 harg5 arg6 harg6 arg7 harg7 arg8 harg8 v4 v28 X ⟨k, hk'⟩, tripL2_eq]
    by_cases hlo : (y 0).val < 128 * k
    · obtain ⟨p, hp, hm⟩ := pb2_cover 𝒱 c bd i arg2 harg2 arg3 harg3 arg4 harg4 arg5 harg5 arg6 harg6 arg7 harg7 arg8 harg8 v4 v28 X y k (by omega) hlo
      exact ⟨p, List.mem_append_right _ hp, hm⟩
    · have hy1 : (y 1).val < 512 := idx2_lt1 y
      have key : ∀ (o : Fin 2) (f : Fin 4) (off : Fin 2 → ℕ) (inb : ∀ d, off d + S64x128.size d ≤ S7168x512.size d),
          off = ![128 * k + 64 * o.val, 128 * f.val] → 128 * k + 64 * o.val ≤ (y 0).val → (y 0).val < 128 * k + 64 * o.val + 64 →
          128 * f.val ≤ (y 1).val → (y 1).val < 128 * f.val + 128 → y ∈ (Rect.unit (s := S7168x512) off S64x128.size inb).set := by
        intro o f off inb h a1 a2 a3 a4
        subst h
        rw [Rect.mem_set_unit]
        intro d
        match d with
        | ⟨0, _⟩ => exact ⟨a1, a2⟩
        | ⟨1, _⟩ => exact ⟨a3, a4⟩
      rcases (show (y 0).val < 128 * k + 64 ∨ 128 * k + 64 ≤ (y 0).val by omega) with h0 | h0
      · rcases (show (y 1).val < 128 ∨ (128 ≤ (y 1).val ∧ (y 1).val < 256) ∨ (256 ≤ (y 1).val ∧ (y 1).val < 384) ∨ 384 ≤ (y 1).val by omega) with h1 | h1 | h1 | h1
        · exact ⟨_, List.mem_append_left _ (List.mem_of_getElem? (i := 7) rfl), key 0 0 _ (k1_off7_inb ⟨k, hk'⟩ 0) (k1_off7_eq ⟨k, hk'⟩ 0) (by simp only [Fin.val_zero, Fin.val_one]; omega) (by simp only [Fin.val_zero, Fin.val_one]; omega) (by first | omega | (show 0 ≤ _; omega)) (by first | omega | (show _ < 128; omega))⟩
        · exact ⟨_, List.mem_append_left _ (List.mem_of_getElem? (i := 5) rfl), key 0 1 _ (k1_off8_inb ⟨k, hk'⟩ 0) (k1_off8_eq ⟨k, hk'⟩ 0) (by simp only [Fin.val_zero, Fin.val_one]; omega) (by simp only [Fin.val_zero, Fin.val_one]; omega) (by first | omega | (show 128 ≤ _; omega)) (by first | omega | (show _ < 256; omega))⟩
        · exact ⟨_, List.mem_append_left _ (List.mem_of_getElem? (i := 3) rfl), key 0 2 _ (k1_off9_inb ⟨k, hk'⟩ 0) (k1_off9_eq ⟨k, hk'⟩ 0) (by simp only [Fin.val_zero, Fin.val_one]; omega) (by simp only [Fin.val_zero, Fin.val_one]; omega) (by first | omega | (show 256 ≤ _; omega)) (by first | omega | (show _ < 384; omega))⟩
        · exact ⟨_, List.mem_append_left _ (List.mem_of_getElem? (i := 1) rfl), key 0 3 _ (k1_off10_inb ⟨k, hk'⟩ 0) (k1_off10_eq ⟨k, hk'⟩ 0) (by simp only [Fin.val_zero, Fin.val_one]; omega) (by simp only [Fin.val_zero, Fin.val_one]; omega) (by first | omega | (show 384 ≤ _; omega)) (by first | omega | (show _ < 512; omega))⟩
      · rcases (show (y 1).val < 128 ∨ (128 ≤ (y 1).val ∧ (y 1).val < 256) ∨ (256 ≤ (y 1).val ∧ (y 1).val < 384) ∨ 384 ≤ (y 1).val by omega) with h1 | h1 | h1 | h1
        · exact ⟨_, List.mem_append_left _ (List.mem_of_getElem? (i := 6) rfl), key 1 0 _ (k1_off7_inb ⟨k, hk'⟩ 1) (k1_off7_eq ⟨k, hk'⟩ 1) (by simp only [Fin.val_zero, Fin.val_one]; omega) (by simp only [Fin.val_zero, Fin.val_one]; omega) (by first | omega | (show 0 ≤ _; omega)) (by first | omega | (show _ < 128; omega))⟩
        · exact ⟨_, List.mem_append_left _ (List.mem_of_getElem? (i := 4) rfl), key 1 1 _ (k1_off8_inb ⟨k, hk'⟩ 1) (k1_off8_eq ⟨k, hk'⟩ 1) (by simp only [Fin.val_zero, Fin.val_one]; omega) (by simp only [Fin.val_zero, Fin.val_one]; omega) (by first | omega | (show 128 ≤ _; omega)) (by first | omega | (show _ < 256; omega))⟩
        · exact ⟨_, List.mem_append_left _ (List.mem_of_getElem? (i := 2) rfl), key 1 2 _ (k1_off9_inb ⟨k, hk'⟩ 1) (k1_off9_eq ⟨k, hk'⟩ 1) (by simp only [Fin.val_zero, Fin.val_one]; omega) (by simp only [Fin.val_zero, Fin.val_one]; omega) (by first | omega | (show 256 ≤ _; omega)) (by first | omega | (show _ < 384; omega))⟩
        · exact ⟨_, List.mem_append_left _ (List.mem_of_getElem? (i := 0) rfl), key 1 3 _ (k1_off10_inb ⟨k, hk'⟩ 1) (k1_off10_eq ⟨k, hk'⟩ 1) (by simp only [Fin.val_zero, Fin.val_one]; omega) (by simp only [Fin.val_zero, Fin.val_one]; omega) (by first | omega | (show 384 ≤ _; omega)) (by first | omega | (show _ < 512; omega))⟩

/-- After all 56 trips the scratch holds the decoded weights, whatever it held before. -/
theorem loop2_final (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (v4 : FVec F S512x512 .f32) (v28 : FVec F S512x128 .bf16) (X : BufTy.Contents (Elt F) arg3.view.ty) (G : BufTy.Contents (Elt F) arg7.view.ty) :
    arg7.view.writes (Elt F) G (pb_k1_t2 (F := F) 𝒱 c bd i arg2 harg2 arg3 harg3 arg4 harg4 arg5 harg5 arg6 harg6 arg7 harg7 arg8 harg8 v4 v28 X k1_t2_loop.trips)
      = harg7.unread (wdec (arg3.view.read (Elt F) X) 1) :=
  harg7.eq_unread (funext fun y => View.read_writes_apply_of_pieces _ _ _ _
    (pb2_agree 𝒱 c bd i arg2 harg2 arg3 harg3 arg4 harg4 arg5 harg5 arg6 harg6 arg7 harg7 arg8 harg8 v4 v28 X 56 le_rfl) y
    (pb2_cover 𝒱 c bd i arg2 harg2 arg3 harg3 arg4 harg4 arg5 harg5 arg6 harg6 arg7 harg7 arg8 harg8 v4 v28 X y 56 le_rfl (by have := idx2_lt0 y; omega)))

theorem trip3_lt (k : Fin k1_t3_loop.trips) : k.val < 56 := Nat.lt_of_lt_of_le k.isLt k1_t3_abs.2.1

/-- The bytes trip `k` of loop 3 reads. -/
theorem codes3 (arg3 : Memref sig .tc .vmem S7168x384 .i8) (X : BufTy.Contents (Elt F) arg3.view.ty) (k : Fin k1_t3_loop.trips)
    (inb : ∀ d, k1_off11 k d + S128x128.size d ≤ S7168x384.size d) :
    View.readAt (Elt F) arg3.view (Rect.unit (s := S7168x384) (k1_off11 k) S128x128.size inb).toLoadRect X
      = blk (arg3.view.read (Elt F) X) 2 ⟨k.val, trip3_lt k⟩ := by
  have hoff := k1_off11_eq k
  funext j
  refine congrArg (arg3.view.read (Elt F) X) (funext fun d => Fin.ext ?_)
  match d with
  | ⟨0, _⟩ => show k1_off11 k 0 + 1 * (j 0).val = 128 * k.val + (j 0).val; have h0 : k1_off11 k 0 = 128 * k.val := congrFun hoff 0; omega
  | ⟨1, _⟩ => show k1_off11 k 1 + 1 * (j 1).val = 128 * 2 + (j 1).val; have h1 : k1_off11 k 1 = 256 := congrFun hoff 1; omega

/-- The pieces trip `k` of loop 3 writes, spelt out. -/
theorem tripL3_eq (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (v45 : FVec F S512x512 .f32) (v59 : FVec F S512x128 .f32) (X : BufTy.Contents (Elt F) arg3.view.ty) (k : Fin k1_t3_loop.trips) :
    tripL_k1_t3 (F := F) 𝒱 c bd i arg2 harg2 arg3 harg3 arg4 harg4 arg5 harg5 arg6 harg6 arg7 harg7 arg8 harg8 v45 v59 X k = [⟨Rect.unit (s := S7168x512) (k1_off15 k 64#32) S64x128.size (k1_off15_inb k 1), wtile (blk (arg3.view.read (Elt F) X) 2 ⟨k.val, trip3_lt k⟩) 1 3⟩,
      ⟨Rect.unit (s := S7168x512) (k1_off15 k 0#32) S64x128.size (k1_off15_inb k 0), wtile (blk (arg3.view.read (Elt F) X) 2 ⟨k.val, trip3_lt k⟩) 0 3⟩,
      ⟨Rect.unit (s := S7168x512) (k1_off14 k 64#32) S64x128.size (k1_off14_inb k 1), wtile (blk (arg3.view.read (Elt F) X) 2 ⟨k.val, trip3_lt k⟩) 1 2⟩,
      ⟨Rect.unit (s := S7168x512) (k1_off14 k 0#32) S64x128.size (k1_off14_inb k 0), wtile (blk (arg3.view.read (Elt F) X) 2 ⟨k.val, trip3_lt k⟩) 0 2⟩,
      ⟨Rect.unit (s := S7168x512) (k1_off13 k 64#32) S64x128.size (k1_off13_inb k 1), wtile (blk (arg3.view.read (Elt F) X) 2 ⟨k.val, trip3_lt k⟩) 1 1⟩,
      ⟨Rect.unit (s := S7168x512) (k1_off13 k 0#32) S64x128.size (k1_off13_inb k 0), wtile (blk (arg3.view.read (Elt F) X) 2 ⟨k.val, trip3_lt k⟩) 0 1⟩,
      ⟨Rect.unit (s := S7168x512) (k1_off12 k 64#32) S64x128.size (k1_off12_inb k 1), wtile (blk (arg3.view.read (Elt F) X) 2 ⟨k.val, trip3_lt k⟩) 1 0⟩,
      ⟨Rect.unit (s := S7168x512) (k1_off12 k 0#32) S64x128.size (k1_off12_inb k 0), wtile (blk (arg3.view.read (Elt F) X) 2 ⟨k.val, trip3_lt k⟩) 0 0⟩] := by
  have hc := codes3 arg3 X k (k1_off11_inb k)
  unfold tripL_k1_t3 trip_k1_t3
  rw [← hc]
  rfl

/-- Every piece of the trips before `k` agrees with `wdec`. -/
theorem pb3_agree (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (v45 : FVec F S512x512 .f32) (v59 : FVec F S512x128 .f32) (X : BufTy.Contents (Elt F) arg3.view.ty) :
    ∀ k, k ≤ 56 → ∀ p ∈ pb_k1_t3 (F := F) 𝒱 c bd i arg2 harg2 arg3 harg3 arg4 harg4 arg5 harg5 arg6 harg6 arg7 harg7 arg8 harg8 v45 v59 X k, ∀ x : p.1.shape.Idx,
      p.2 x = wdec (arg3.view.read (Elt F) X) 2 (p.1.emb x)
  | 0, _, p, hp, _ => absurd hp List.not_mem_nil
  | k + 1, hk, p, hp, x => by
    have hk' : k < k1_t3_loop.trips := hk
    rw [show pb_k1_t3 (F := F) 𝒱 c bd i arg2 harg2 arg3 harg3 arg4 harg4 arg5 harg5 arg6 harg6 arg7 harg7 arg8 harg8 v45 v59 X (k + 1) = _ from pb_k1_t3_succ (F := F) 𝒱 c bd i arg2 harg2 arg3 harg3 arg4 harg4 arg5 harg5 arg6 harg6 arg7 harg7 arg8 harg8 v45 v59 X ⟨k, hk'⟩, tripL3_eq] at hp
    rcases List.mem_append.mp hp with h | h
    · simp only [List.mem_cons, List.not_mem_nil, or_false] at h
      rcases h with rfl | rfl | rfl | rfl | rfl | rfl | rfl | rfl
      · exact piece_wdec _ 2 ⟨k, hk⟩ 1 3 (k1_off15_eq ⟨k, hk'⟩ 1) (k1_off15_inb ⟨k, hk'⟩ 1) x
      · exact piece_wdec _ 2 ⟨k, hk⟩ 0 3 (k1_off15_eq ⟨k, hk'⟩ 0) (k1_off15_inb ⟨k, hk'⟩ 0) x
      · exact piece_wdec _ 2 ⟨k, hk⟩ 1 2 (k1_off14_eq ⟨k, hk'⟩ 1) (k1_off14_inb ⟨k, hk'⟩ 1) x
      · exact piece_wdec _ 2 ⟨k, hk⟩ 0 2 (k1_off14_eq ⟨k, hk'⟩ 0) (k1_off14_inb ⟨k, hk'⟩ 0) x
      · exact piece_wdec _ 2 ⟨k, hk⟩ 1 1 (k1_off13_eq ⟨k, hk'⟩ 1) (k1_off13_inb ⟨k, hk'⟩ 1) x
      · exact piece_wdec _ 2 ⟨k, hk⟩ 0 1 (k1_off13_eq ⟨k, hk'⟩ 0) (k1_off13_inb ⟨k, hk'⟩ 0) x
      · exact piece_wdec _ 2 ⟨k, hk⟩ 1 0 (k1_off12_eq ⟨k, hk'⟩ 1) (k1_off12_inb ⟨k, hk'⟩ 1) x
      · exact piece_wdec _ 2 ⟨k, hk⟩ 0 0 (k1_off12_eq ⟨k, hk'⟩ 0) (k1_off12_inb ⟨k, hk'⟩ 0) x
    · exact pb3_agree 𝒱 c bd i arg2 harg2 arg3 harg3 arg4 harg4 arg5 harg5 arg6 harg6 arg7 harg7 arg8 harg8 v45 v59 X k (by omega) p h x

/-- The pieces of the trips before `k` cover the rows below `128 * k`. -/
theorem pb3_cover (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (v45 : FVec F S512x512 .f32) (v59 : FVec F S512x128 .f32) (X : BufTy.Contents (Elt F) arg3.view.ty) (y : S7168x512.Idx) :
    ∀ k, k ≤ 56 → (y 0).val < 128 * k → ∃ p ∈ pb_k1_t3 (F := F) 𝒱 c bd i arg2 harg2 arg3 harg3 arg4 harg4 arg5 harg5 arg6 harg6 arg7 harg7 arg8 harg8 v45 v59 X k, y ∈ p.1.set
  | 0, _, hy => absurd hy (by omega)
  | k + 1, hk, hy => by
    have hk' : k < k1_t3_loop.trips := hk
    rw [show pb_k1_t3 (F := F) 𝒱 c bd i arg2 harg2 arg3 harg3 arg4 harg4 arg5 harg5 arg6 harg6 arg7 harg7 arg8 harg8 v45 v59 X (k + 1) = _ from pb_k1_t3_succ (F := F) 𝒱 c bd i arg2 harg2 arg3 harg3 arg4 harg4 arg5 harg5 arg6 harg6 arg7 harg7 arg8 harg8 v45 v59 X ⟨k, hk'⟩, tripL3_eq]
    by_cases hlo : (y 0).val < 128 * k
    · obtain ⟨p, hp, hm⟩ := pb3_cover 𝒱 c bd i arg2 harg2 arg3 harg3 arg4 harg4 arg5 harg5 arg6 harg6 arg7 harg7 arg8 harg8 v45 v59 X y k (by omega) hlo
      exact ⟨p, List.mem_append_right _ hp, hm⟩
    · have hy1 : (y 1).val < 512 := idx2_lt1 y
      have key : ∀ (o : Fin 2) (f : Fin 4) (off : Fin 2 → ℕ) (inb : ∀ d, off d + S64x128.size d ≤ S7168x512.size d),
          off = ![128 * k + 64 * o.val, 128 * f.val] → 128 * k + 64 * o.val ≤ (y 0).val → (y 0).val < 128 * k + 64 * o.val + 64 →
          128 * f.val ≤ (y 1).val → (y 1).val < 128 * f.val + 128 → y ∈ (Rect.unit (s := S7168x512) off S64x128.size inb).set := by
        intro o f off inb h a1 a2 a3 a4
        subst h
        rw [Rect.mem_set_unit]
        intro d
        match d with
        | ⟨0, _⟩ => exact ⟨a1, a2⟩
        | ⟨1, _⟩ => exact ⟨a3, a4⟩
      rcases (show (y 0).val < 128 * k + 64 ∨ 128 * k + 64 ≤ (y 0).val by omega) with h0 | h0
      · rcases (show (y 1).val < 128 ∨ (128 ≤ (y 1).val ∧ (y 1).val < 256) ∨ (256 ≤ (y 1).val ∧ (y 1).val < 384) ∨ 384 ≤ (y 1).val by omega) with h1 | h1 | h1 | h1
        · exact ⟨_, List.mem_append_left _ (List.mem_of_getElem? (i := 7) rfl), key 0 0 _ (k1_off12_inb ⟨k, hk'⟩ 0) (k1_off12_eq ⟨k, hk'⟩ 0) (by simp only [Fin.val_zero, Fin.val_one]; omega) (by simp only [Fin.val_zero, Fin.val_one]; omega) (by first | omega | (show 0 ≤ _; omega)) (by first | omega | (show _ < 128; omega))⟩
        · exact ⟨_, List.mem_append_left _ (List.mem_of_getElem? (i := 5) rfl), key 0 1 _ (k1_off13_inb ⟨k, hk'⟩ 0) (k1_off13_eq ⟨k, hk'⟩ 0) (by simp only [Fin.val_zero, Fin.val_one]; omega) (by simp only [Fin.val_zero, Fin.val_one]; omega) (by first | omega | (show 128 ≤ _; omega)) (by first | omega | (show _ < 256; omega))⟩
        · exact ⟨_, List.mem_append_left _ (List.mem_of_getElem? (i := 3) rfl), key 0 2 _ (k1_off14_inb ⟨k, hk'⟩ 0) (k1_off14_eq ⟨k, hk'⟩ 0) (by simp only [Fin.val_zero, Fin.val_one]; omega) (by simp only [Fin.val_zero, Fin.val_one]; omega) (by first | omega | (show 256 ≤ _; omega)) (by first | omega | (show _ < 384; omega))⟩
        · exact ⟨_, List.mem_append_left _ (List.mem_of_getElem? (i := 1) rfl), key 0 3 _ (k1_off15_inb ⟨k, hk'⟩ 0) (k1_off15_eq ⟨k, hk'⟩ 0) (by simp only [Fin.val_zero, Fin.val_one]; omega) (by simp only [Fin.val_zero, Fin.val_one]; omega) (by first | omega | (show 384 ≤ _; omega)) (by first | omega | (show _ < 512; omega))⟩
      · rcases (show (y 1).val < 128 ∨ (128 ≤ (y 1).val ∧ (y 1).val < 256) ∨ (256 ≤ (y 1).val ∧ (y 1).val < 384) ∨ 384 ≤ (y 1).val by omega) with h1 | h1 | h1 | h1
        · exact ⟨_, List.mem_append_left _ (List.mem_of_getElem? (i := 6) rfl), key 1 0 _ (k1_off12_inb ⟨k, hk'⟩ 1) (k1_off12_eq ⟨k, hk'⟩ 1) (by simp only [Fin.val_zero, Fin.val_one]; omega) (by simp only [Fin.val_zero, Fin.val_one]; omega) (by first | omega | (show 0 ≤ _; omega)) (by first | omega | (show _ < 128; omega))⟩
        · exact ⟨_, List.mem_append_left _ (List.mem_of_getElem? (i := 4) rfl), key 1 1 _ (k1_off13_inb ⟨k, hk'⟩ 1) (k1_off13_eq ⟨k, hk'⟩ 1) (by simp only [Fin.val_zero, Fin.val_one]; omega) (by simp only [Fin.val_zero, Fin.val_one]; omega) (by first | omega | (show 128 ≤ _; omega)) (by first | omega | (show _ < 256; omega))⟩
        · exact ⟨_, List.mem_append_left _ (List.mem_of_getElem? (i := 2) rfl), key 1 2 _ (k1_off14_inb ⟨k, hk'⟩ 1) (k1_off14_eq ⟨k, hk'⟩ 1) (by simp only [Fin.val_zero, Fin.val_one]; omega) (by simp only [Fin.val_zero, Fin.val_one]; omega) (by first | omega | (show 256 ≤ _; omega)) (by first | omega | (show _ < 384; omega))⟩
        · exact ⟨_, List.mem_append_left _ (List.mem_of_getElem? (i := 0) rfl), key 1 3 _ (k1_off15_inb ⟨k, hk'⟩ 1) (k1_off15_eq ⟨k, hk'⟩ 1) (by simp only [Fin.val_zero, Fin.val_one]; omega) (by simp only [Fin.val_zero, Fin.val_one]; omega) (by first | omega | (show 384 ≤ _; omega)) (by first | omega | (show _ < 512; omega))⟩

/-- After all 56 trips the scratch holds the decoded weights, whatever it held before. -/
theorem loop3_final (𝒱 : Variants) (c : Dev nD) (bd : Option 𝒱.V) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (v45 : FVec F S512x512 .f32) (v59 : FVec F S512x128 .f32) (X : BufTy.Contents (Elt F) arg3.view.ty) (G : BufTy.Contents (Elt F) arg7.view.ty) :
    arg7.view.writes (Elt F) G (pb_k1_t3 (F := F) 𝒱 c bd i arg2 harg2 arg3 harg3 arg4 harg4 arg5 harg5 arg6 harg6 arg7 harg7 arg8 harg8 v45 v59 X k1_t3_loop.trips)
      = harg7.unread (wdec (arg3.view.read (Elt F) X) 2) :=
  harg7.eq_unread (funext fun y => View.read_writes_apply_of_pieces _ _ _ _
    (pb3_agree 𝒱 c bd i arg2 harg2 arg3 harg3 arg4 harg4 arg5 harg5 arg6 harg6 arg7 harg7 arg8 harg8 v45 v59 X 56 le_rfl) y
    (pb3_cover 𝒱 c bd i arg2 harg2 arg3 harg3 arg4 harg4 arg5 harg5 arg6 harg6 arg7 harg7 arg8 harg8 v45 v59 X y 56 le_rfl (by have := idx2_lt0 y; omega)))

end Cert.KernelIdeal.Run

end
-- ==== Proof.KernelIdeal.Region1.lean ====
/-
The product (`product`) as a pipelined region: its blocks, its run and its obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Decode

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_product` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the decode loops hand on: the scratch at the decoded weights -/

/-- After loop 1 the code block is as it was and the weight scratch holds the decoded weights of column tile 0. -/
instance loopExit1 (𝒱 : Variants) (c : Dev nD) (bd : Option 𝒱.V) (E : Set ℕ) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (X : BufTy.Contents (Elt F) arg3.view.ty) (G : BufTy.Contents (Elt F) arg7.view.ty) :
    LoopExit (loopInv_k1_t1 (F := F) 𝒱 c bd E i arg2 harg2 arg3 harg3 arg4 harg4 arg5 harg5 arg6 harg6 arg7 harg7 arg8 harg8 X G) where
  post _ := iprop((arg3.view.loc (c : Thread nD τ) ↦[arg3.view.set]{fullShare} X)
    ∗ (arg7.view.loc (c : Thread nD τ) ↦[arg7.view.set]{fullShare} harg7.unread (wdec (arg3.view.read (Elt F) X) 0)))
  exit _ := by
    show inv_k1_t1 (F := F) 𝒱 c bd i arg2 harg2 arg3 harg3 arg4 harg4 arg5 harg5 arg6 harg6 arg7 harg7 arg8 harg8 X G k1_t1_loop.trips _ ⊢ _
    unfold inv_k1_t1
    iintro ⟨HR, ⟨%f, HW, %hf⟩⟩
    rw [loop1_final] at hf
    subst hf
    isplitl [HR]; · iexact HR
    iexact HW

/-- After loop 2 the code block is as it was and the weight scratch holds the decoded weights of column tile 1. -/
instance loopExit2 (𝒱 : Variants) (c : Dev nD) (bd : Option 𝒱.V) (E : Set ℕ) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (v4 : FVec F S512x512 .f32) (v28 : FVec F S512x128 .bf16) (X : BufTy.Contents (Elt F) arg3.view.ty) (G : BufTy.Contents (Elt F) arg7.view.ty) :
    LoopExit (loopInv_k1_t2 (F := F) 𝒱 c bd E i arg2 harg2 arg3 harg3 arg4 harg4 arg5 harg5 arg6 harg6 arg7 harg7 arg8 harg8 v4 v28 X G) where
  post _ := iprop((arg3.view.loc (c : Thread nD τ) ↦[arg3.view.set]{fullShare} X)
    ∗ (arg7.view.loc (c : Thread nD τ) ↦[arg7.view.set]{fullShare} harg7.unread (wdec (arg3.view.read (Elt F) X) 1)))
  exit _ := by
    show inv_k1_t2 (F := F) 𝒱 c bd i arg2 harg2 arg3 harg3 arg4 harg4 arg5 harg5 arg6 harg6 arg7 harg7 arg8 harg8 v4 v28 X G k1_t2_loop.trips _ ⊢ _
    unfold inv_k1_t2
    iintro ⟨HR, ⟨%f, HW, %hf⟩⟩
    rw [loop2_final] at hf
    subst hf
    isplitl [HR]; · iexact HR
    iexact HW

/-- After loop 3 the code block is as it was and the weight scratch holds the decoded weights of column tile 2. -/
instance loopExit3 (𝒱 : Variants) (c : Dev nD) (bd : Option 𝒱.V) (E : Set ℕ) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole) (v45 : FVec F S512x512 .f32) (v59 : FVec F S512x128 .f32) (X : BufTy.Contents (Elt F) arg3.view.ty) (G : BufTy.Contents (Elt F) arg7.view.ty) :
    LoopExit (loopInv_k1_t3 (F := F) 𝒱 c bd E i arg2 harg2 arg3 harg3 arg4 harg4 arg5 harg5 arg6 harg6 arg7 harg7 arg8 harg8 v45 v59 X G) where
  post _ := iprop((arg3.view.loc (c : Thread nD τ) ↦[arg3.view.set]{fullShare} X)
    ∗ (arg7.view.loc (c : Thread nD τ) ↦[arg7.view.set]{fullShare} harg7.unread (wdec (arg3.view.read (Elt F) X) 2)))
  exit _ := by
    show inv_k1_t3 (F := F) 𝒱 c bd i arg2 harg2 arg3 harg3 arg4 harg4 arg5 harg5 arg6 harg6 arg7 harg7 arg8 harg8 v45 v59 X G k1_t3_loop.trips _ ⊢ _
    unfold inv_k1_t3
    iintro ⟨HR, ⟨%f, HW, %hf⟩⟩
    rw [loop3_final] at hf
    subst hf
    isplitl [HR]; · iexact HR
    iexact HW

/-! ## The kernel body on any staging memrefs: a subtype the run finds -/

/-- One staging buffer of output window 4, through which its contents are stated (`View.read_writes_of_cover`: the
    choice does not matter). -/
abbrev VO1_4 : View sig .tc .vmem S512x2048 .bf16 := (Memref.whole cc1_stg4_0 : Memref sig .tc .vmem S512x2048 .bf16).view
/-- Each window's current staging memref at point `t`, spelled as the pipeline passes it (`bodyAt1`), and its wholeness. -/
abbrev ms1_0 (t : Fin cfg1.N) : Memref sig .tc .vmem S512x7168 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S7168x384 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4x384 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S192x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x2048 .bf16 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows. -/
abbrev scM1_0 : Memref sig .tc .vmem S7168x512 .bf16 := Memref.whole cc1_scratch0
abbrev scM1_1 : Memref sig .tc .vmem S4x512x384 .bf16 := Memref.whole cc1_scratch1

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r)) := by
  unfold Pipeline.ΦA; rw [scopedRest1_eq]; simp only [scM1_0, scM1_1, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, the other scratch at some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole)
    (x0 : Vec F S512x7168 .bf16) (x1 : Vec F S7168x384 .i8) (x2 : Vec F S1x4x384 .f32) (x3 : Vec F S192x256 .bf16) :
    Σ' (L4 : List (View.Piece (Elt F) S512x2048 .bf16)), { LT1 : List (View.Piece (Elt F) S4x512x384 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ d, owns (c : Thread nD τ) arg7 fullShare d) ∗ (∃ f, arg8.view.loc (c : Thread nD τ) ↦[arg8.view.set]{fullShare} arg8.view.writes (Elt F) f LT1)) -∗ K ⟨⟩))
          ⊢ wp frame (wpE (defs₀ (F := F)) Variants.none c none) E (cc1_product i arg2 harg2 arg3 harg3 arg4 harg4 arg5 harg5 arg6 harg6 arg7 harg7 arg8 harg8) K } := by
  refine ⟨?_, ?_, fun E K => ?run⟩
  case run =>
    simp only [cc1_product_eq_skeleton]; unfold cc1_product_skel
    simp only [k1_part10_eq_skeleton, k1_part11_eq_skeleton, k1_part12_eq_skeleton, k1_part13_eq_skeleton, k1_part14_eq_skeleton, k1_part15_eq_skeleton, k1_part16_eq_skeleton, k1_part17_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [HL4]
    · iexists _; isplitr; · ipureintro; exact harg3.read_unread _
      iexact HL4
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HL5]
    · iexists _, _; isplitr; swap; · iexact HL5
      ipureintro; rfl
    iexists _; iexact HS1

/-- The run's pieces for output 4 tile its block (8 stores of `S512x256`, checked by the kernel's evaluation: Lib/Ring.lean `Piece.tiledL`, linear in the pieces, through a loop's `@[irreducible]` trip theorem too), so they cover it. -/
theorem cover1_A_4 (c : Dev nD) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole)
    (x0 : Vec F S512x7168 .bf16) (x1 : Vec F S7168x384 .i8) (x2 : Vec F S1x4x384 .f32) (x3 : Vec F S192x256 .bf16) (y : S512x2048.Idx) :
    ∃ pc ∈ (kernelRun1_A c i arg2 harg2 arg3 harg3 arg4 harg4 arg5 harg5 arg6 harg6 arg7 harg7 arg8 harg8 x0 x1 x2 x3).1, y ∈ pc.1.set :=
  View.cover_of_tiledL (kernelRun1_A c i arg2 harg2 arg3 harg3 arg4 harg4 arg5 harg5 arg6 harg6 arg7 harg7 arg8 harg8 x0 x1 x2 x3).1 S512x256.size (by sl_kernel_rfl) y

/-- What the run leaves in output 4's staging buffer: its pieces read back over junk. -/
def out1_A_4 (c : Dev nD) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole)
    (x0 : Vec F S512x7168 .bf16) (x1 : Vec F S7168x384 .i8) (x2 : Vec F S1x4x384 .f32) (x3 : Vec F S192x256 .bf16) : Vec F S512x2048 .bf16 :=
  VO1_4.read (Elt F) (VO1_4.writes (Elt F) VO1_4.junk (kernelRun1_A c i arg2 harg2 arg3 harg3 arg4 harg4 arg5 harg5 arg6 harg6 arg7 harg7 arg8 harg8 x0 x1 x2 x3).1)

/-! ## What the outputs hold after each point -/

/-- What the outputs' staging buffers hold after the body at point `t`: the run's contents at
    the point's memrefs and input blocks. -/
def outsAt1 (c : Dev nD) (t : Fin cfg1.N) : Vec F S512x2048 .bf16 :=
  out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (iblk1 V c 0 t) (iblk1 V c 1 t) (iblk1 V c 2 t) (iblk1 V c 3 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  rw [show (dat1 V c).Φ t.castSucc = Pipeline.ΦA spec1 c from rfl, PhiA1_eq]
  unfold outsAt1
  unfold out1_A_4
  iintro ⟨⟨⟨HR0, HR1, HR2, HR3, HR4, HR5, HS0, HS1, HR8, HR9, HR10, HR11, HR12⟩, Hg⟩, Ho, ⟨%d0, H0⟩, ⟨%d1, H1⟩, ⟨%d2, H2⟩, ⟨%d3, H3⟩, ⟨%d4, H4⟩⟩
  iapply ((kernelRun1_A c (grid1.coords t) _ _ _ _ _ _ _ _ _ _ _ _ _ _ (iblk1 V c 0 t) (iblk1 V c 1 t) (iblk1 V c 2 t) (iblk1 V c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%e4, H4⟩, HS0, ⟨%fT1, HS1⟩⟩
  isplitl [HR0 HR1 HR2 HR3 HR4 HR5 HS0 HS1 HR8 HR9 HR10 HR11 HR12 Hg]
  · isplitl [HR0 HR1 HR2 HR3 HR4 HR5 HS0 HS1 HR8 HR9 HR10 HR11 HR12]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HS0]
      · iexact HS0
      isplitl [HS1]
      · iexists _; unfold owns; iexists _; isplitr
        swap; · iexact HS1
        ipureintro; rfl
      isplitl [HR8]
      · iexact HR8
      isplitl [HR9]
      · iexact HR9
      isplitl [HR10]
      · iexact HR10
      isplitl [HR11]
      · iexact HR11
      iexact HR12
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_A_4 c _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run

end
-- ==== Proof.KernelIdeal.Region2.lean ====
/-
The output rotation (`rotate_out`) as a pipelined region: its blocks, its run and its obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_rotate_out` (pipeline 2), at the entry contents `V` — class R -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 2, through which its contents are stated (`View.read_writes_of_cover`: the
    choice does not matter). -/
abbrev VO2_2 : View sig .tc .vmem S4x144x8x128 .bf16 := (Memref.whole cc2_stg2_0 : Memref sig .tc .vmem S4x144x8x128 .bf16).view
/-- Each window's current staging memref at point `t`, spelled as the pipeline passes it (`bodyAt2`), and its wholeness. -/
abbrev ms2_0 (t : Fin cfg2.N) : Memref sig .tc .vmem S4x192x8x128 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S192x192 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4x144x8x128 .bf16 := win2_2.stage (cfg2.slots t 2)
abbrev hs2_2 (t : Fin cfg2.N) : (ms2_2 t).IsWhole := hstage2_2 ((cfg2.slots t 2).cast nbuf2_2)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg1 : Memref sig .tc .vmem S4x192x8x128 .bf16) (harg1 : arg1.IsWhole) (arg2 : Memref sig .tc .vmem S192x192 .bf16) (harg2 : arg2.IsWhole) (arg3 : Memref sig .tc .vmem S4x144x8x128 .bf16) (harg3 : arg3.IsWhole)
    (x0 : Vec F S4x192x8x128 .bf16) (x1 : Vec F S192x192 .bf16) :
    { L2 : List (View.Piece (Elt F) S4x144x8x128 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc2_rotate_out i arg1 harg1 arg2 harg2 arg3 harg3) K } := by
  refine ⟨?_, fun E K => ?run⟩
  case run =>
    simp only [cc2_rotate_out_eq_skeleton]; unfold cc2_rotate_out_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The run's pieces for output 2 tile its block (16 stores of `S1x144x2x128`, checked by the kernel's evaluation: Lib/Ring.lean `Piece.tiledL`, linear in the pieces, through a loop's `@[irreducible]` trip theorem too), so they cover it. -/
theorem cover2_A_2 (c : Dev nD) (i : grid2.Coords) (arg1 : Memref sig .tc .vmem S4x192x8x128 .bf16) (harg1 : arg1.IsWhole) (arg2 : Memref sig .tc .vmem S192x192 .bf16) (harg2 : arg2.IsWhole) (arg3 : Memref sig .tc .vmem S4x144x8x128 .bf16) (harg3 : arg3.IsWhole)
    (x0 : Vec F S4x192x8x128 .bf16) (x1 : Vec F S192x192 .bf16) (y : S4x144x8x128.Idx) :
    ∃ pc ∈ (kernelRun2_A c i arg1 harg1 arg2 harg2 arg3 harg3 x0 x1).1, y ∈ pc.1.set :=
  View.cover_of_tiledL (kernelRun2_A c i arg1 harg1 arg2 harg2 arg3 harg3 x0 x1).1 S1x144x2x128.size (by sl_kernel_rfl) y

/-- What the run leaves in output 2's staging buffer: its pieces read back over junk. -/
def out2_A_2 (c : Dev nD) (i : grid2.Coords) (arg1 : Memref sig .tc .vmem S4x192x8x128 .bf16) (harg1 : arg1.IsWhole) (arg2 : Memref sig .tc .vmem S192x192 .bf16) (harg2 : arg2.IsWhole) (arg3 : Memref sig .tc .vmem S4x144x8x128 .bf16) (harg3 : arg3.IsWhole)
    (x0 : Vec F S4x192x8x128 .bf16) (x1 : Vec F S192x192 .bf16) : Vec F S4x144x8x128 .bf16 :=
  VO2_2.read (Elt F) (VO2_2.writes (Elt F) VO2_2.junk (kernelRun2_A c i arg1 harg1 arg2 harg2 arg3 harg3 x0 x1).1)

/-! ## What the outputs hold after each point -/

/-- What the outputs' staging buffers hold after the body at point `t`: the run's contents at
    the point's memrefs and input blocks. -/
def outsAt2 (c : Dev nD) (t : Fin cfg2.N) : Vec F S4x144x8x128 .bf16 :=
  out2_A_2 c (grid2.coords t) (ms2_0 t) (hs2_0 t) (ms2_1 t) (hs2_1 t) (ms2_2 t) (hs2_2 t) (iblk2 V c 0 t) (iblk2 V c 1 t)

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

/-- The body at any point: the inputs' memrefs hold their blocks (`before2_W`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  unfold outsAt2
  unfold out2_A_2
  iintro ⟨HΦ, Ho, ⟨%d0, H0⟩, ⟨%d1, H1⟩, ⟨%d2, H2⟩⟩
  iapply ((kernelRun2_A c (grid2.coords t) _ _ _ _ _ _ (iblk2 V c 0 t) (iblk2 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover2_A_2 c _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Run

end
-- ==== Proof.KernelIdeal.Run.lean ====
/-
The whole program from launch to return: the three regions among the host stretches.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Region0
public import proofs.«01_k».proof.Proof.KernelIdeal.Region1
public import proofs.«01_k».proof.Proof.KernelIdeal.Region2

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_c, main_v2, main_v3, main_v4, main_v5, main_v6, main_v7, main_v8, main_v9]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_v1, main_call0_v2, main_call0_v3, main_call0_v4, main_v10]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v11, main_v12]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v14, main_v15, main_v16, main_v17, main_v18, main_v19, main_v20, main_v21, main_v22, main_c_0]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call1_v0, main_v23]
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_call2_v0, main_call2_v1, main_call2_v2, main_call2_v3, main_call2_v4, main_v25]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps2_1` allocates a buffer. -/
theorem hostOps2_1_fresh : (hostOps2_1 : List (HloOp τ sig (Elt F))).Forall fun op => op.fresh = ∅ := by
  simp only [List.Forall]; repeat' constructor
/-- The reference each operation of `hostOps2_1` writes, in order. -/
abbrev hostOps2_1_W : List (Ref sig .tc) := [main_v26, main_v27]
theorem hostOps2_1_writes : (hostOps2_1 : List (HloOp τ sig (Elt F))).Forall fun op => op.writes ⊆ (hostOps2_1_W.map (Proc.devRef (τ := τ) .tc)).toFinset :=
  StableHlo.forall_writes_sub_of_map rfl
/-- `hostOps2_1` writes none of the argument arrays (checked: each argument against each reference it writes). -/
theorem hostOps2_1_args : ∀ a ∈ argRefs, a ∉ hostOps2_1_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v29, main_v30]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1`. -/
abbrev W5 : Dev nD → Valuation τ sig (Elt F) := fun c => StableHlo.after hostOps1 (W4 m ρ c)
/-- A reference `hostOps1` does not write keeps its contents across it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- After `hostOps1_1` (region 1's entry). -/
abbrev W6 : Dev nD → Valuation τ sig (Elt F) := fun c => StableHlo.after hostOps1_1 (W5 m ρ c)
/-- A reference `hostOps1_1` does not write keeps its contents across it. -/
theorem W6_of (c : Dev nD) (r : Ref sig .tc) (h : r ∉ hostOps1_1_W) : W6 m ρ c (Proc.devRef .tc r) = W5 m ρ c (Proc.devRef .tc r) :=
  StableHlo.after_of_writes_sub hostOps1_1 _ hostOps1_1_writes h
theorem W6_args (c : Dev nD) : ∀ a ∈ argRefs, W6 m ρ c (Proc.devRef .tc a) = m ((c : Thread nD τ).loc a) :=
  fun a ha => (W6_of m ρ c a (hostOps1_1_args a ha)).trans (W5_args m ρ c a ha)
/-- The same read at the TensorCore's references (what region 1's proof data take). -/
abbrev V6 : (c : Dev nD) → (b : Ref sig .tc) → Buf (Elt F) ((c : Thread nD τ).loc b) := fun c b => W6 m ρ c b
/-- At region 1's exit: its arrays at what the pipeline leaves (the inputs as entered, each output's write-backs
    folded: `Dat.arrAt … N`), every other buffer as entered (Lib/Pipeline/FrameSuffix.lean `withArrays`). -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- A reference that is none of region 1's OUTPUT arrays keeps its entry contents across it: an input window's
    array is never written back (`Dat.arrAt_in`, `A_eq1`); any other buffer is left as is. -/
theorem W7_of (c : Dev nD) (r : Ref sig .tc) (h : ∀ w : Fin cfg1.W, Pipeline.arrRef spec1 w = r → (cfg1.win w).isOut = false) :
    W7 m ρ c (Proc.devRef .tc r) = W6 m ρ c (Proc.devRef .tc r) := by
  by_cases hw : ∃ w : Fin cfg1.W, Pipeline.arrRef spec1 w = r
  · obtain ⟨w, rfl⟩ := hw
    exact (W7_arr m ρ c w).trans (((dat1 (V6 m ρ) c).arrAt_in w (h w rfl) _).trans (A_eq1 (V6 m ρ) c w))
  · exact W7_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn1 a ha)).trans (W6_args m ρ c a ha)
/-- The same read at the TensorCore's references (region 1's exit contents). -/
abbrev V7 : (c : Dev nD) → (b : Ref sig .tc) → Buf (Elt F) ((c : Thread nD τ).loc b) := fun c b => W7 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- After `hostOps2`. -/
abbrev W8 : Dev nD → Valuation τ sig (Elt F) := fun c => StableHlo.after hostOps2 (W7 m ρ c)
/-- A reference `hostOps2` does not write keeps its contents across it. -/
theorem W8_of (c : Dev nD) (r : Ref sig .tc) (h : r ∉ hostOps2_W) : W8 m ρ c (Proc.devRef .tc r) = W7 m ρ c (Proc.devRef .tc r) :=
  StableHlo.after_of_writes_sub hostOps2 _ hostOps2_writes h
theorem W8_args (c : Dev nD) : ∀ a ∈ argRefs, W8 m ρ c (Proc.devRef .tc a) = m ((c : Thread nD τ).loc a) :=
  fun a ha => (W8_of m ρ c a (hostOps2_args a ha)).trans (W7_args m ρ c a ha)
/-- After `hostOps2_1` (region 2's entry). -/
abbrev W9 : Dev nD → Valuation τ sig (Elt F) := fun c => StableHlo.after hostOps2_1 (W8 m ρ c)
/-- A reference `hostOps2_1` does not write keeps its contents across it. -/
theorem W9_of (c : Dev nD) (r : Ref sig .tc) (h : r ∉ hostOps2_1_W) : W9 m ρ c (Proc.devRef .tc r) = W8 m ρ c (Proc.devRef .tc r) :=
  StableHlo.after_of_writes_sub hostOps2_1 _ hostOps2_1_writes h
theorem W9_args (c : Dev nD) : ∀ a ∈ argRefs, W9 m ρ c (Proc.devRef .tc a) = m ((c : Thread nD τ).loc a) :=
  fun a ha => (W9_of m ρ c a (hostOps2_1_args a ha)).trans (W8_args m ρ c a ha)
/-- The same read at the TensorCore's references (what region 2's proof data take). -/
abbrev V9 : (c : Dev nD) → (b : Ref sig .tc) → Buf (Elt F) ((c : Thread nD τ).loc b) := fun c b => W9 m ρ c b
/-- At region 2's exit: its arrays at what the pipeline leaves (the inputs as entered, each output's write-backs
    folded: `Dat.arrAt … N`), every other buffer as entered (Lib/Pipeline/FrameSuffix.lean `withArrays`). -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- A reference that is none of region 2's OUTPUT arrays keeps its entry contents across it: an input window's
    array is never written back (`Dat.arrAt_in`, `A_eq2`); any other buffer is left as is. -/
theorem W10_of (c : Dev nD) (r : Ref sig .tc) (h : ∀ w : Fin cfg2.W, Pipeline.arrRef spec2 w = r → (cfg2.win w).isOut = false) :
    W10 m ρ c (Proc.devRef .tc r) = W9 m ρ c (Proc.devRef .tc r) := by
  by_cases hw : ∃ w : Fin cfg2.W, Pipeline.arrRef spec2 w = r
  · obtain ⟨w, rfl⟩ := hw
    exact (W10_arr m ρ c w).trans (((dat2 (V9 m ρ) c).arrAt_in w (h w rfl) _).trans (A_eq2 (V9 m ρ) c w))
  · exact W10_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn2 a ha)).trans (W9_args m ρ c a ha)
/-- The same read at the TensorCore's references (region 2's exit contents). -/
abbrev V10 : (c : Dev nD) → (b : Ref sig .tc) → Buf (Elt F) ((c : Thread nD τ).loc b) := fun c b => W10 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-- After `hostOps3`. -/
abbrev W11 : Dev nD → Valuation τ sig (Elt F) := fun c => StableHlo.after hostOps3 (W10 m ρ c)
/-- A reference `hostOps3` does not write keeps its contents across it. -/
theorem W11_of (c : Dev nD) (r : Ref sig .tc) (h : r ∉ hostOps3_W) : W11 m ρ c (Proc.devRef .tc r) = W10 m ρ c (Proc.devRef .tc r) :=
  StableHlo.after_of_writes_sub hostOps3 _ hostOps3_writes h
theorem W11_args (c : Dev nD) : ∀ a ∈ argRefs, W11 m ρ c (Proc.devRef .tc a) = m ((c : Thread nD τ).loc a) :=
  fun a ha => (W11_of m ρ c a (hostOps3_args a ha)).trans (W10_args m ρ c a ha)

/-! ### The arguments end as launched: no host stretch writes one and no region may change one (a region reads it
    through an input window or bypasses it) -/

theorem W11_main_arg0 (c : Dev nD) : W11 m ρ c (Proc.devRef .tc main_arg0) = m ((c : Thread nD τ).loc main_arg0) :=
  W11_args m ρ c main_arg0 (by decide)
theorem W11_main_arg1 (c : Dev nD) : W11 m ρ c (Proc.devRef .tc main_arg1) = m ((c : Thread nD τ).loc main_arg1) :=
  W11_args m ρ c main_arg1 (by decide)
theorem W11_main_arg2 (c : Dev nD) : W11 m ρ c (Proc.devRef .tc main_arg2) = m ((c : Thread nD τ).loc main_arg2) :=
  W11_args m ρ c main_arg2 (by decide)
theorem W11_main_arg3 (c : Dev nD) : W11 m ρ c (Proc.devRef .tc main_arg3) = m ((c : Thread nD τ).loc main_arg3) :=
  W11_args m ρ c main_arg3 (by decide)
theorem W11_main_arg4 (c : Dev nD) : W11 m ρ c (Proc.devRef .tc main_arg4) = m ((c : Thread nD τ).loc main_arg4) :=
  W11_args m ρ c main_arg4 (by decide)
theorem W11_main_arg5 (c : Dev nD) : W11 m ρ c (Proc.devRef .tc main_arg5) = m ((c : Thread nD τ).loc main_arg5) :=
  W11_args m ρ c main_arg5 (by decide)
theorem W11_main_arg6 (c : Dev nD) : W11 m ρ c (Proc.devRef .tc main_arg6) = m ((c : Thread nD τ).loc main_arg6) :=
  W11_args m ρ c main_arg6 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V6 m ρ) c
  | ⟨2, _⟩ => fun c => dat2 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W11`, the generator register at some state. -/
abbrev Tₙ (c : Dev nD) : sProp 𝕄 := iprop(StableHlo.held (c : Thread nD τ) (Pipeline.ucRefs τ sig) (W11 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W6`, left at `W7`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) (A_eq1 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W9`, left at `W10`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) (A_eq2 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 11 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .region (reg1 m ρ),
    .host (hseg hostOps2 hostOps2_sub hostOps2_fresh (W7 m ρ)),
    .host (hseg hostOps2_1 hostOps2_1_sub hostOps2_1_fresh (W8 m ρ)),
    .region (reg2 m ρ),
    .host (hseg hostOps3 hostOps3_sub hostOps3_fresh (W10 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters every weakly fair execution ends, every unscoped buffer holding what
    the last host stretch leaves (`W11`) and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W11 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨h, funext fun g => hz g (.inr (no_unscoped g.2))⟩)

/-- Every execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c _ (mem_uc main_arg0 (by decide))).trans (W11_main_arg0 m ρ c),
    (h.1 c _ (mem_uc main_arg1 (by decide))).trans (W11_main_arg1 m ρ c),
    (h.1 c _ (mem_uc main_arg2 (by decide))).trans (W11_main_arg2 m ρ c),
    (h.1 c _ (mem_uc main_arg3 (by decide))).trans (W11_main_arg3 m ρ c),
    (h.1 c _ (mem_uc main_arg4 (by decide))).trans (W11_main_arg4 m ρ c),
    (h.1 c _ (mem_uc main_arg5 (by decide))).trans (W11_main_arg5 m ρ c),
    (h.1 c _ (mem_uc main_arg6 (by decide))).trans (W11_main_arg6 m ρ c)⟩, h.2⟩) (run_all m ρ)

/-- Every execution ends with the result array at its closed value and the arguments as launched. -/
theorem result : θ_run defs (onTc (τ := τ) (main (F := F))) ⟨m, fun _ => 0, ρ⟩ (fun r => ∀ c : Dev nD,
      r.2.mem ((c.tc : Thread nD τ).loc main_v30) = W11 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨h.1 c _ (mem_uc main_v30 (by decide)), (h.1 c _ (mem_uc main_arg0 (by decide))).trans (W11_main_arg0 m ρ c),
    (h.1 c _ (mem_uc main_arg1 (by decide))).trans (W11_main_arg1 m ρ c),
    (h.1 c _ (mem_uc main_arg2 (by decide))).trans (W11_main_arg2 m ρ c),
    (h.1 c _ (mem_uc main_arg3 (by decide))).trans (W11_main_arg3 m ρ c),
    (h.1 c _ (mem_uc main_arg4 (by decide))).trans (W11_main_arg4 m ρ c),
    (h.1 c _ (mem_uc main_arg5 (by decide))).trans (W11_main_arg5 m ρ c),
    (h.1 c _ (mem_uc main_arg6 (by decide))).trans (W11_main_arg6 m ρ c)⟩) (run_all m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h => h.1) (frame m ρ)

end Cert.KernelIdeal.Run

end
-- ==== Proof.Spec.lean ====
/-
What the layer computes, on extended reals, coordinate by coordinate: the rotation of the input, the product with the
decoded weights, the scaling, and the rotation of the output.
-/
module

public import Idealize.ShloMosaic.Lib.Pointwise

@[expose] public section

noncomputable section

namespace Cert.Quip

open Idealize.ShloMosaic

/-- The value of the two-bit field `f` of a byte of codes, less the offset 1.5. -/
def wv (b : BitVec 8) (f : Fin 4) : EReal := (((b.toNat / 4 ^ f.val % 4 : ℕ) : ℝ) : EReal) - ((3 / 2 : ℝ) : EReal)

/-- Token `t`'s input, its 7168 numbers laid out 56 by 128. -/
def xS (x : (⟨3, ![6, 1024, 7168]⟩ : Shape).Idx → EReal) (t : Fin 6144) (a : Fin 56) (j : Fin 128) : EReal :=
  x (ix3 ⟨t.val / 1024, by omega⟩ ⟨t.val % 1024, by omega⟩ ⟨a.val * 128 + j.val, by omega⟩)

/-- The rotated input: first the 128 columns by `v2`, then the 56 rows by `v1` transposed. -/
def zS (x : Fin 6144 → Fin 56 → Fin 128 → EReal) (v1 : (⟨2, ![56, 56]⟩ : Shape).Idx → EReal)
    (v2 : (⟨2, ![128, 128]⟩ : Shape).Idx → EReal) (t : Fin 6144) (b : Fin 56) (k : Fin 128) : EReal :=
  ∑ a : Fin 56, (∑ j : Fin 128, x t a j * v2 (ix2 j k)) * v1 (ix2 a b)

/-- The scaled product at output column `4 q + f`: the rotated input times the field `f` of byte column `q`. -/
def hS (z : Fin 6144 → Fin 56 → Fin 128 → EReal) (codes : (⟨2, ![7168, 4608]⟩ : Shape).Idx → BitVec 8)
    (sc : (⟨1, ![18432]⟩ : Shape).Idx → EReal) (t : Fin 6144) (q : Fin 4608) (f : Fin 4) : EReal :=
  (∑ i : Fin 7168, z t ⟨i.val / 128, by omega⟩ ⟨i.val % 128, by omega⟩ * wv (codes (ix2 i q)) f)
    * sc (ix1 ⟨q.val * 4 + f.val, by omega⟩)

/-- The columns of each group of 192 outputs rotated by `u2`. -/
def rS (h : Fin 6144 → Fin 4608 → Fin 4 → EReal) (u2 : (⟨2, ![192, 192]⟩ : Shape).Idx → EReal)
    (t : Fin 6144) (c : Fin 96) (m : Fin 192) : EReal :=
  ∑ l : Fin 192, h t ⟨c.val * 48 + l.val / 4, by omega⟩ ⟨l.val % 4, by omega⟩ * u2 (ix2 m l)

/-- The 96 groups rotated by `u1`. -/
def yS (r : Fin 6144 → Fin 96 → Fin 192 → EReal) (u1 : (⟨2, ![96, 96]⟩ : Shape).Idx → EReal)
    (t : Fin 6144) (b : Fin 96) (m : Fin 192) : EReal :=
  ∑ a : Fin 96, r t a m * u1 (ix2 b a)

/-- The layer's result at token `t` and output column `n`. -/
def outS (x : (⟨3, ![6, 1024, 7168]⟩ : Shape).Idx → EReal) (v1 : (⟨2, ![56, 56]⟩ : Shape).Idx → EReal)
    (v2 : (⟨2, ![128, 128]⟩ : Shape).Idx → EReal) (codes : (⟨2, ![7168, 4608]⟩ : Shape).Idx → BitVec 8)
    (sc : (⟨1, ![18432]⟩ : Shape).Idx → EReal) (u1 : (⟨2, ![96, 96]⟩ : Shape).Idx → EReal)
    (u2 : (⟨2, ![192, 192]⟩ : Shape).Idx → EReal) (t : Fin 6144) (n : Fin 18432) : EReal :=
  yS (rS (hS (zS (xS x) v1 v2) codes sc) u2) u1 t ⟨n.val / 192, by omega⟩ ⟨n.val % 192, by omega⟩

end Cert.Quip

end
-- ==== Proof.Codes.lean ====
/-
The two-bit codes: what the shifts and masks of either program read out of a byte, and the bf16 words they become.
-/
module

public import proofs.«01_k».proof.Proof.Spec

@[expose] public section

noncomputable section

namespace Cert.Quip

open Idealize.ShloMosaic

/-- The offset's word denotes 3/2. -/
theorem ofBits_offset : Ideal.ofBits .bf16 0x3FC0#16 = ((3 / 2 : ℝ) : EReal) := by
  simp [Ideal.ofBits, Ideal.ieee, -EReal.coe_mul]; norm_num

/-- Shift and mask read a two-bit field. -/
theorem field_word (b : BitVec 8) (f : Fin 4) :
    IntOp.andi (IntOp.shrsi ArithUnit.host (BitVec.setWidth 32 b) (BitVec.ofNat 32 (2 * f.val))) 3#32
      = BitVec.ofNat 32 (b.toNat / 4 ^ f.val % 4) := by
  revert b f; decide +kernel

/-- A two-bit field as an integer word converts to the field. -/
theorem field_value (b : BitVec 8) (f : Fin 4) :
    (FloatOps.sitofp (F := Ideal) FTy.bf16 (BitVec.ofNat 32 (b.toNat / 4 ^ f.val % 4)) : EReal)
      = (((b.toNat / 4 ^ f.val % 4 : ℕ) : ℝ) : EReal) := by
  have h : b.toNat / 4 ^ f.val % 4 < 4 := Nat.mod_lt _ (by decide)
  generalize b.toNat / 4 ^ f.val % 4 = c at h
  show (((BitVec.ofNat 32 c).toInt : ℝ) : EReal) = _
  interval_cases c <;> rfl

/-- The bf16 words `0x4080 + 32 c` less 5.5 are `c` less 1.5. -/
theorem word_value (c : ℕ) (h : c < 4) :
    Ideal.ofBits .bf16 (0x4080#16 ||| BitVec.ofNat 16 (c * 32)) - Ideal.ofBits .bf16 0x40B0#16
      = ((c : ℝ) : EReal) - ((3 / 2 : ℝ) : EReal) := by
  have e : Ideal.ofBits .bf16 0x40B0#16 = ((11 / 2 : ℝ) : EReal) := by
    simp [Ideal.ofBits, Ideal.ieee, -EReal.coe_mul]; norm_num
  have e' : Ideal.ofBits .bf16 (0x4080#16 ||| BitVec.ofNat 16 (c * 32)) = ((4 + c : ℝ) : EReal) := by
    interval_cases c
    · show Ideal.ofBits .bf16 0x4080#16 = _
      simp [Ideal.ofBits, Ideal.ieee, -EReal.coe_mul, -EReal.coe_add]; norm_num
    · show Ideal.ofBits .bf16 0x40A0#16 = _
      simp [Ideal.ofBits, Ideal.ieee, -EReal.coe_mul, -EReal.coe_add]; norm_num
    · show Ideal.ofBits .bf16 0x40C0#16 = _
      simp [Ideal.ofBits, Ideal.ieee, -EReal.coe_mul, -EReal.coe_add]; norm_num
    · show Ideal.ofBits .bf16 0x40E0#16 = _
      simp [Ideal.ofBits, Ideal.ieee, -EReal.coe_mul, -EReal.coe_add]; norm_num
  rw [e, e', ← EReal.coe_sub, ← EReal.coe_sub]
  congr 1
  ring

/-- The decoded word of field `f`: the constant word with the field in bits 5 and 6. -/
theorem wv_of_word (b : BitVec 8) (f : Fin 4) (w : BitVec 16)
    (hw : w = 0x4080#16 ||| BitVec.ofNat 16 (b.toNat / 4 ^ f.val % 4 * 32)) :
    Ideal.ofBits .bf16 w - Ideal.ofBits .bf16 0x40B0#16 = wv b f := by
  subst hw
  exact word_value _ (Nat.mod_lt _ (by decide))

end Cert.Quip

end
-- ==== Proof.Ref.lean ====
/-
The reference program's result, read coordinate by coordinate.
-/
module

public import proofs.«01_k».proof.Proof.Gen.ReferenceIdeal.Run
public import proofs.«01_k».proof.Proof.Codes

@[expose] public section

noncomputable section

namespace Cert.ReferenceIdeal.Value

open Idealize.ShloMosaic Cert.ReferenceIdeal Cert.ReferenceIdeal.Gen Cert.Quip

/-- The rotated input as the reference forms it. -/
def zR (x : FVec Ideal S6x1024x7168 .bf16) (v1 : FVec Ideal S56x56 .bf16) (v2 : FVec Ideal S128x128 .bf16) : FVec Ideal S6144x7168 .bf16 :=
  shapeCast _ (truncf .bf16 (transpose S6144x56x128 [1, 0, 2] (Host.dotGeneral dot_S56x56_S6144x56x128_S56x6144x128_0_1_1_02_n_n none v1 (truncf .bf16 (Host.dotGeneral dot_S6144x56x128_S128x128_S6144x56x128_2_0_01_1_n_n none (shapeCast _ x shapeCasts_S6x1024x7168_S6144x56x128) v2) bitsLt_bf16_f32)) transposes_S56x6144x128_S6144x56x128_1_0_2) bitsLt_bf16_f32) shapeCasts_S6144x56x128_S6144x7168

theorem zR_apply (x : FVec Ideal S6x1024x7168 .bf16) (v1 : FVec Ideal S56x56 .bf16) (v2 : FVec Ideal S128x128 .bf16)
    (t : Fin 6144) (i : Fin 7168) :
    zR x v1 v2 (ix2 t i) = zS (xS x) v1 v2 t ⟨i.val / 128, by omega⟩ ⟨i.val % 128, by omega⟩ := by
  pointwise [zR, zS, xS, dot_S56x56_S6144x56x128_S56x6144x128_0_1_1_02_n_n, dot_S6144x56x128_S128x128_S6144x56x128_2_0_01_1_n_n]
  exact Finset.sum_congr rfl fun _ _ => mul_comm _ _

/-- Field `f`'s weights as the reference decodes them: shift, mask, convert, less the offset. -/
def wR (codes : IVec S7168x4608 8) (s : BitVec 32) : FVec Ideal S7168x4608 .bf16 :=
  subf (sitofp .bf16 (andi (Host.shrsi (extui 32 codes natLt_8_32) (broadcastInDim S7168x4608 ![] bcast_S_S7168x4608 (constantI S_ 32 s))) (broadcastInDim S7168x4608 ![] bcast_S_S7168x4608 (constantI S_ 32 3#32)))) (broadcastInDim S7168x4608 ![] bcast_S_S7168x4608 (constant S_ .bf16 0x3FC0#16))

theorem wR_apply (codes : IVec S7168x4608 8) (f : Fin 4) (i : Fin 7168) (q : Fin 4608) :
    wR codes (BitVec.ofNat 32 (2 * f.val)) (ix2 i q) = wv (codes (ix2 i q)) f := by
  pointwise [wR, wv, ofBits_offset, field_word, field_value]

/-- Field `f`'s scaled product as the reference forms it. -/
def hR (z : FVec Ideal S6144x7168 .bf16) (w : FVec Ideal S7168x4608 .bf16) (s : FVec Ideal S4608x1 .f32) : FVec Ideal S6144x4608x1 .f32 :=
  broadcastInDim S6144x4608x1 ![0, 1] bcast_S6144x4608_S6144x4608x1_0_1 (mulf (Host.dotGeneral dot_S6144x7168_S7168x4608_S6144x4608_1_0_0_1_n_n none z w) (broadcastInDim S6144x4608 ![0, 1] bcast_S1x4608_S6144x4608_0_1 (broadcastInDim S1x4608 ![1] bcast_S4608_S1x4608_1 (shapeCast _ s shapeCasts_S4608x1_S4608))))

theorem hR_apply (z : FVec Ideal S6144x7168 .bf16) (w : FVec Ideal S7168x4608 .bf16) (s : FVec Ideal S4608x1 .f32)
    (t : Fin 6144) (q : Fin 4608) :
    hR z w s (ix3 t q 0) = (∑ i : Fin 7168, z (ix2 t i) * w (ix2 i q)) * s (ix2 q 0) := by
  pointwise [hR, dot_S6144x7168_S7168x4608_S6144x4608_1_0_0_1_n_n]

/-- The four fields' products stacked along the last axis. -/
def catR (a b c d : FVec Ideal S6144x4608x1 .f32) : FVec Ideal S6144x4608x4 .f32 :=
  concatenate S6144x4608x4 2 [⟨S6144x4608x1, a⟩, ⟨S6144x4608x1, b⟩, ⟨S6144x4608x1, c⟩, ⟨S6144x4608x1, d⟩] concatenates_S6144x4608x1_S6144x4608x1_S6144x4608x1_S6144x4608x1_S6144x4608x4_d2

theorem catR_apply (a b c d : FVec Ideal S6144x4608x1 .f32) (t : Fin 6144) (q : Fin 4608) (f : Fin 4) :
    catR a b c d (ix3 t q f) = (![a, b, c, d] f) (ix3 t q 0) := by
  fin_cases f <;> pointwise [catR] <;> rfl

/-- The output rotation as the reference forms it. -/
def outR (h : FVec Ideal S6144x4608x4 .f32) (u1 : FVec Ideal S96x96 .bf16) (u2 : FVec Ideal S192x192 .bf16) : FVec Ideal S6x1024x18432 .bf16 :=
  shapeCast _ (truncf .bf16 (transpose S6144x96x192 [0, 2, 1] (Host.dotGeneral dot_S6144x96x192_S96x96_S6144x192x96_1_1_02_0_n_n none (truncf .bf16 (Host.dotGeneral dot_S6144x96x192_S192x192_S6144x96x192_2_1_01_0_n_n none (shapeCast _ (truncf .bf16 (shapeCast _ h shapeCasts_S6144x4608x4_S6144x18432) bitsLt_bf16_f32) shapeCasts_S6144x18432_S6144x96x192) u2) bitsLt_bf16_f32) u1) transposes_S6144x192x96_S6144x96x192_0_2_1) bitsLt_bf16_f32) shapeCasts_S6144x96x192_S6x1024x18432

theorem outR_apply (h : FVec Ideal S6144x4608x4 .f32) (u1 : FVec Ideal S96x96 .bf16) (u2 : FVec Ideal S192x192 .bf16)
    (i : Fin 6) (s : Fin 1024) (n : Fin 18432) :
    outR h u1 u2 (ix3 i s n) = yS (rS (fun t q f => h (ix3 t q f)) u2) u1 ⟨i.val * 1024 + s.val, by omega⟩ ⟨n.val / 192, by omega⟩ ⟨n.val % 192, by omega⟩ := by
  pointwise [outR, yS, rS, dot_S6144x96x192_S96x96_S6144x192x96_1_1_02_0_n_n, dot_S6144x96x192_S192x192_S6144x96x192_2_1_01_0_n_n]
  refine Finset.sum_congr rfl fun a _ => congrArg (· * _) (Finset.sum_congr rfl fun l _ => congrArg (· * _) (congrArg h ?_))
  have e1 : (a.val * 192 + l.val) / 4 = a.val * 48 + l.val / 4 := by omega
  have e2 : (a.val * 192 + l.val) % 4 = l.val % 4 := by omega
  simp only [e1, e2]

/-- The reference's result, coordinate by coordinate. -/
theorem res_apply (m : (ℓ : Loc nD τ sig) → Buf (Elt Ideal) ℓ) (c : Dev nD) (i : Fin 6) (s : Fin 1024) (n : Fin 18432) :
    (Cert.ReferenceIdeal.Value.res_main_v77 m c : FVec Ideal S6x1024x18432 .bf16) (ix3 i s n)
      = outS (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) ⟨i.val * 1024 + s.val, by omega⟩ n := by
  have key : ∀ (x : FVec Ideal S6x1024x7168 .bf16) (v1 : FVec Ideal S56x56 .bf16) (v2 : FVec Ideal S128x128 .bf16)
      (codes : IVec S7168x4608 8) (sc : FVec Ideal S18432 .f32) (u1 : FVec Ideal S96x96 .bf16) (u2 : FVec Ideal S192x192 .bf16),
      outR (catR
          (hR (zR x v1 v2) (wR codes 0#32) (extractStridedSlice S4608x1 ![0, 0] (shapeCast _ sc shapeCasts_S18432_S4608x4) slices_S4608x4_S4608x1_0_0))
          (hR (zR x v1 v2) (wR codes 2#32) (extractStridedSlice S4608x1 ![0, 1] (shapeCast _ sc shapeCasts_S18432_S4608x4) slices_S4608x4_S4608x1_0_1))
          (hR (zR x v1 v2) (wR codes 4#32) (extractStridedSlice S4608x1 ![0, 2] (shapeCast _ sc shapeCasts_S18432_S4608x4) slices_S4608x4_S4608x1_0_2))
          (hR (zR x v1 v2) (wR codes 6#32) (extractStridedSlice S4608x1 ![0, 3] (shapeCast _ sc shapeCasts_S18432_S4608x4) slices_S4608x4_S4608x1_0_3)))
          u1 u2 (ix3 i s n) = outS x v1 v2 codes sc u1 u2 ⟨i.val * 1024 + s.val, by omega⟩ n := by
    intro x v1 v2 codes sc u1 u2
    rw [outR_apply]
    unfold outS
    refine congrArg (fun h => yS (rS h u2) u1 ⟨i.val * 1024 + s.val, by omega⟩ ⟨n.val / 192, by omega⟩ ⟨n.val % 192, by omega⟩) ?_
    funext t q f
    refine (catR_apply _ _ _ _ t q f).trans ?_
    fin_cases f
    · refine (hR_apply _ _ _ t q).trans ?_
      unfold hS
      refine congr (congrArg _ (Finset.sum_congr rfl fun k _ => congr (congrArg _ (zR_apply x v1 v2 t k)) (wR_apply codes 0 k q))) ?_
      pointwise
    · refine (hR_apply _ _ _ t q).trans ?_
      unfold hS
      refine congr (congrArg _ (Finset.sum_congr rfl fun k _ => congr (congrArg _ (zR_apply x v1 v2 t k)) (wR_apply codes 1 k q))) ?_
      pointwise
    · refine (hR_apply _ _ _ t q).trans ?_
      unfold hS
      refine congr (congrArg _ (Finset.sum_congr rfl fun k _ => congr (congrArg _ (zR_apply x v1 v2 t k)) (wR_apply codes 2 k q))) ?_
      pointwise
    · refine (hR_apply _ _ _ t q).trans ?_
      unfold hS
      refine congr (congrArg _ (Finset.sum_congr rfl fun k _ => congr (congrArg _ (zR_apply x v1 v2 t k)) (wR_apply codes 3 k q))) ?_
      pointwise
  unfold Cert.ReferenceIdeal.Value.res_main_v77
  exact key _ _ _ _ _ _ _

end Cert.ReferenceIdeal.Value

end
-- ==== Proof.KernelIdeal.Pay0.lean ====
/-
What the input rotation's stores hold, element by element.
-/
module

public import proofs.«01_k».proof.Proof.Gen.KernelIdeal.Skeleton
public import Idealize.ShloMosaic.Lib.Pointwise

@[expose] public section

noncomputable section

namespace Cert.KernelIdeal.Val

open Idealize.ShloMosaic Cert.KernelIdeal Cert.KernelIdeal.Gen

/-- The rotation of one word row: the inner rotation by `B`, the outer by `K` on the rows of both parities. -/
def rot0 (A : Vec Ideal S1x56x2x128 .bf16) (B : Vec Ideal S128x128 .bf16) (K : Vec Ideal S112x112 .bf16)
    (b : Fin 56) (e : Fin 2) (k : Fin 128) : EReal :=
  ∑ a : Fin 112, K (ix2 ⟨2 * b.val + e.val, by omega⟩ a) * ∑ j : Fin 128, A (ix4 0 ⟨a.val / 2, by omega⟩ ⟨a.val % 2, by omega⟩ j) * B (ix2 j k)

/-- The element of the parity read. -/
theorem ite_parity {p q : ℕ} (A : (⟨4, ![1, p, 2, q]⟩ : Shape).Idx → EReal) (x : ℕ) (b : Fin p) (k : Fin q) :
    (if x % 2 = 0 then A (ix4 0 b 0 k) else A (ix4 0 b 1 k)) = A (ix4 0 b ⟨x % 2, by omega⟩ k) := by
  split
  · rename_i h; exact congrArg (fun e => A (ix4 0 b e k)) (Fin.ext h.symm)
  · rename_i h; exact congrArg (fun e => A (ix4 0 b e k)) (Fin.ext (by show 1 = x % 2; omega))

theorem k0_pay1_apply (A : Vec Ideal S1x56x2x128 .bf16) (B : Vec Ideal S128x128 .bf16) (K : Vec Ideal S112x112 .bf16)
    (b : Fin 56) (e : Fin 2) (k : Fin 128) : k0_pay1 A B K (ix4 0 b e k) = rot0 A B K b e k := by
  fin_cases e <;> pointwise [k0_pay1, rot0, dot_S112x128_S128x128_S112x128_1_0_0_1_n_n, dot_S112x112_S112x128_S112x128_1_0_0_1_n_n] <;>
    exact Finset.sum_congr rfl fun x _ => congrArg (_ * ·) (Finset.sum_congr rfl fun j _ => congrArg (· * _) (ite_parity A x _ j))

theorem k0_pay2_apply (A : Vec Ideal S1x56x2x128 .bf16) (B : Vec Ideal S128x128 .bf16) (K : Vec Ideal S112x112 .bf16)
    (b : Fin 56) (e : Fin 2) (k : Fin 128) : k0_pay2 A B K (ix4 0 b e k) = rot0 A B K b e k := by
  fin_cases e <;> pointwise [k0_pay2, rot0, dot_S112x128_S128x128_S112x128_1_0_0_1_n_n, dot_S112x112_S112x128_S112x128_1_0_0_1_n_n] <;>
    exact Finset.sum_congr rfl fun x _ => congrArg (_ * ·) (Finset.sum_congr rfl fun j _ => congrArg (· * _) (ite_parity A x _ j))

theorem k0_pay5_apply (A : Vec Ideal S1x56x2x128 .bf16) (B : Vec Ideal S128x128 .bf16) (K : Vec Ideal S112x112 .bf16)
    (b : Fin 56) (e : Fin 2) (k : Fin 128) : k0_pay5 A B K (ix4 0 b e k) = rot0 A B K b e k := by
  fin_cases e <;> pointwise [k0_pay5, rot0, dot_S112x128_S128x128_S112x128_1_0_0_1_n_n, dot_S112x112_S112x128_S112x128_1_0_0_1_n_n] <;>
    exact Finset.sum_congr rfl fun x _ => congrArg (_ * ·) (Finset.sum_congr rfl fun j _ => congrArg (· * _) (ite_parity A x _ j))

theorem k0_pay4_apply (A : Vec Ideal S1x56x2x128 .bf16) (B : Vec Ideal S128x128 .bf16) (K : Vec Ideal S112x112 .bf16)
    (b : Fin 56) (e : Fin 2) (k : Fin 128) : k0_pay4 (k0_pay3 A B) K (ix4 0 b e k) = rot0 A B K b e k := by
  fin_cases e <;> pointwise [k0_pay3, k0_pay4, rot0, dot_S112x128_S128x128_S112x128_1_0_0_1_n_n, dot_S112x112_S112x128_S112x128_1_0_0_1_n_n] <;>
    exact Finset.sum_congr rfl fun x _ => congrArg (_ * ·) (Finset.sum_congr rfl fun j _ => congrArg (· * _) (ite_parity A x _ j))

end Cert.KernelIdeal.Val

end
-- ==== Proof.KernelIdeal.Block0.lean ====
/-
What the input rotation leaves in its output block, element by element.
-/
module

public import proofs.«01_k».proof.Proof.KernelIdeal.Region0
public import proofs.«01_k».proof.Proof.KernelIdeal.Pay0

@[expose] public section

set_option maxRecDepth 16384

noncomputable section

namespace Cert.KernelIdeal.Val

open Idealize.ShloMosaic Cert.KernelIdeal Cert.KernelIdeal.Gen Cert.KernelIdeal.Run

/-- The block the input rotation leaves. -/
def blk0 (x0 : Vec Ideal S16x56x8x128 .bf16) (x1 : Vec Ideal S128x128 .bf16) (x2 : Vec Ideal S112x112 .bf16) : Vec Ideal S16x56x8x128 .bf16 := fun y =>
  rot0 (fun z => x0 (ix4 (y 0) (z 1) ⟨2 * ((y 2).val / 2) + (z 2).val, by have h : (y 2).val < 8 := (y 2).isLt; have h' : (z 2).val < 2 := (z 2).isLt; omega⟩ (z 3)))
    x1 x2 (y 1) ⟨(y 2).val % 2, by omega⟩ (y 3)

/-- A store of the payload at word row `r` of group `g` agrees with `blk0`. -/
theorem piece0 (arg1 : Memref sig .tc .vmem S16x56x8x128 .bf16) (arg2 : Memref sig .tc .vmem S128x128 .bf16) (arg3 : Memref sig .tc .vmem S112x112 .bf16)
    (X1 : BufTy.Contents (Elt Ideal) arg1.view.ty) (X2 : BufTy.Contents (Elt Ideal) arg2.view.ty) (X3 : BufTy.Contents (Elt Ideal) arg3.view.ty)
    {off : Fin 4 → ℕ} (g : ℕ) (r : Fin 4) (hoff : off = ![g, 0, 2 * r.val, 0])
    (inb : ∀ d, off d + (![1, 56, 2, 128] : Fin 4 → ℕ) d ≤ S16x56x8x128.size d)
    (inb1 : ∀ d, off d + (![1, 56, 2, 128] : Fin 4 → ℕ) d ≤ S16x56x8x128.size d)
    (inb2 : ∀ d, (![0, 0] : Fin 2 → ℕ) d + (![128, 128] : Fin 2 → ℕ) d ≤ S128x128.size d)
    (inb3 : ∀ d, (![0, 0] : Fin 2 → ℕ) d + (![112, 112] : Fin 2 → ℕ) d ≤ S112x112.size d)
    (pay : Vec Ideal S1x56x2x128 .bf16)
    (hpay : ∀ (b : Fin 56) (e : Fin 2) (k : Fin 128), pay (ix4 0 b e k) = rot0
      (View.readAt (Elt Ideal) arg1.view (Rect.unit (s := S16x56x8x128) off ![1, 56, 2, 128] inb1).toLoadRect X1)
      (View.readAt (Elt Ideal) arg2.view (Rect.unit (s := S128x128) ![0, 0] ![128, 128] inb2).toLoadRect X2)
      (View.readAt (Elt Ideal) arg3.view (Rect.unit (s := S112x112) ![0, 0] ![112, 112] inb3).toLoadRect X3) b e k)
    (x : S1x56x2x128.Idx) :
    pay x = blk0 (arg1.view.read (Elt Ideal) X1) (arg2.view.read (Elt Ideal) X2) (arg3.view.read (Elt Ideal) X3)
      ((Rect.unit (s := S16x56x8x128) off ![1, 56, 2, 128] inb).emb x) := by
  subst hoff
  have h0 : (x 0).val < 1 := (x 0).isLt
  have h2 : (x 2).val < 2 := (x 2).isLt
  have hr := r.isLt
  have hx : x = ix4 0 (x 1) (x 2) (x 3) := by
    funext d
    match d with
    | ⟨0, _⟩ => exact Fin.ext (by show (x 0).val = 0; omega)
    | ⟨1, _⟩ => rfl
    | ⟨2, _⟩ => rfl
    | ⟨3, _⟩ => rfl
  have e1 : (View.readAt (Elt Ideal) arg2.view (Rect.unit (s := S128x128) ![0, 0] ![128, 128] inb2).toLoadRect X2) = arg2.view.read (Elt Ideal) X2 := by
    funext j
    refine congrArg (arg2.view.read (Elt Ideal) X2) (funext fun d => Fin.ext ?_)
    match d with
    | ⟨0, _⟩ => show 0 + 1 * (j 0).val = (j 0).val; omega
    | ⟨1, _⟩ => show 0 + 1 * (j 1).val = (j 1).val; omega
  have e2 : (View.readAt (Elt Ideal) arg3.view (Rect.unit (s := S112x112) ![0, 0] ![112, 112] inb3).toLoadRect X3) = arg3.view.read (Elt Ideal) X3 := by
    funext j
    refine congrArg (arg3.view.read (Elt Ideal) X3) (funext fun d => Fin.ext ?_)
    match d with
    | ⟨0, _⟩ => show 0 + 1 * (j 0).val = (j 0).val; omega
    | ⟨1, _⟩ => show 0 + 1 * (j 1).val = (j 1).val; omega
  refine (congrArg pay hx).trans ((hpay (x 1) (x 2) (x 3)).trans ?_)
  rw [e1, e2]
  unfold blk0
  have a1 : (((Rect.unit (s := S16x56x8x128) ![g, 0, 2 * r.val, 0] ![1, 56, 2, 128] inb).emb x) 1 : Fin 56) = x 1 := Fin.ext (by show 0 + 1 * (x 1).val = _; omega)
  have a2 : (⟨(((Rect.unit (s := S16x56x8x128) ![g, 0, 2 * r.val, 0] ![1, 56, 2, 128] inb).emb x) 2).val % 2, by omega⟩ : Fin 2) = x 2 :=
    Fin.ext (by show (2 * r.val + 1 * (x 2).val) % 2 = _; omega)
  have a3 : (((Rect.unit (s := S16x56x8x128) ![g, 0, 2 * r.val, 0] ![1, 56, 2, 128] inb).emb x) 3 : Fin 128) = x 3 := Fin.ext (by show 0 + 1 * (x 3).val = _; omega)
  refine Eq.trans ?_ (congr (congr (congrArg _ a1.symm) a2.symm) a3.symm)
  refine congrArg (fun A => rot0 A _ _ (x 1) (x 2) (x 3)) (funext fun z => ?_)
  refine congrArg (arg1.view.read (Elt Ideal) X1) (funext fun d => Fin.ext ?_)
  have z0 : (z 0).val < 1 := (z 0).isLt
  match d with
  | ⟨0, _⟩ => show g + 1 * (z 0).val = g + 1 * (x 0).val; omega
  | ⟨1, _⟩ => show 0 + 1 * (z 1).val = (z 1).val; omega
  | ⟨2, _⟩ => show 2 * r.val + 1 * (z 2).val = 2 * ((2 * r.val + 1 * (x 2).val) / 2) + (z 2).val; omega
  | ⟨3, _⟩ => show 0 + 1 * (z 3).val = (z 3).val; omega

theorem trip0 (𝒱 : Variants) (c : Dev nD) (bd : Option 𝒱.V) (i : grid0.Coords) (arg1 : Memref sig .tc .vmem S16x56x8x128 .bf16) (harg1 : arg1.IsWhole) (arg2 : Memref sig .tc .vmem S128x128 .bf16) (harg2 : arg2.IsWhole) (arg3 : Memref sig .tc .vmem S112x112 .bf16) (harg3 : arg3.IsWhole) (arg4 : Memref sig .tc .vmem S16x56x8x128 .bf16) (harg4 : arg4.IsWhole)
    (X1 : BufTy.Contents (Elt Ideal) arg1.view.ty) (X2 : BufTy.Contents (Elt Ideal) arg2.view.ty) (X3 : BufTy.Contents (Elt Ideal) arg3.view.ty) (k : Fin k0_t1_loop.trips) :
    ∀ p ∈ tripL_k0_t1 (F := Ideal) 𝒱 c bd i arg1 harg1 arg2 harg2 arg3 harg3 arg4 harg4 X1 X2 X3 k, ∀ x : p.1.shape.Idx,
      p.2 x = blk0 (arg1.view.read (Elt Ideal) X1) (arg2.view.read (Elt Ideal) X2) (arg3.view.read (Elt Ideal) X3) (p.1.emb x) := by
  intro p hp x
  unfold tripL_k0_t1 trip_k0_t1 at hp
  dsimp only at hp
  simp only [List.mem_cons, List.not_mem_nil, or_false] at hp
  rcases hp with rfl | rfl | rfl | rfl
  · exact piece0 arg1 arg2 arg3 X1 X2 X3 k.val 3 (k0_off4_eq k) (k0_off4_inb k) (k0_off4_inb k) inb_S128x128_S128x128_0_0 inb_S112x112_S112x112_0_0 _ (k0_pay1_apply _ _ _) x
  · exact piece0 arg1 arg2 arg3 X1 X2 X3 k.val 2 (k0_off3_eq k) (k0_off3_inb k) (k0_off3_inb k) inb_S128x128_S128x128_0_0 inb_S112x112_S112x112_0_0 _ (k0_pay5_apply _ _ _) x
  · exact piece0 arg1 arg2 arg3 X1 X2 X3 k.val 1 (k0_off2_eq k) (k0_off2_inb k) (k0_off2_inb k) inb_S128x128_S128x128_0_0 inb_S112x112_S112x112_0_0 _ (k0_pay4_apply _ _ _) x
  · exact piece0 arg1 arg2 arg3 X1 X2 X3 k.val 0 (k0_off1_eq k) (k0_off1_inb k) (k0_off1_inb k) inb_S128x128_S128x128_0_0 inb_S112x112_S112x112_0_0 _ (k0_pay2_apply _ _ _) x

theorem trips0 (𝒱 : Variants) (c : Dev nD) (bd : Option 𝒱.V) (i : grid0.Coords) (arg1 : Memref sig .tc .vmem S16x56x8x128 .bf16) (harg1 : arg1.IsWhole) (arg2 : Memref sig .tc .vmem S128x128 .bf16) (harg2 : arg2.IsWhole) (arg3 : Memref sig .tc .vmem S112x112 .bf16) (harg3 : arg3.IsWhole) (arg4 : Memref sig .tc .vmem S16x56x8x128 .bf16) (harg4 : arg4.IsWhole)
    (X1 : BufTy.Contents (Elt Ideal) arg1.view.ty) (X2 : BufTy.Contents (Elt Ideal) arg2.view.ty) (X3 : BufTy.Contents (Elt Ideal) arg3.view.ty) :
    ∀ n ≤ k0_t1_loop.trips, ∀ p ∈ pb_k0_t1 (F := Ideal) 𝒱 c bd i arg1 harg1 arg2 harg2 arg3 harg3 arg4 harg4 X1 X2 X3 n, ∀ x : p.1.shape.Idx,
      p.2 x = blk0 (arg1.view.read (Elt Ideal) X1) (arg2.view.read (Elt Ideal) X2) (arg3.view.read (Elt Ideal) X3) (p.1.emb x)
  | 0, _, p, hp, _ => by rw [pb_k0_t1.eq_1] at hp; exact absurd hp List.not_mem_nil
  | n + 1, hn, p, hp, x => by
    rw [pb_k0_t1_succ (F := Ideal) 𝒱 c bd i arg1 harg1 arg2 harg2 arg3 harg3 arg4 harg4 X1 X2 X3 ⟨n, hn⟩] at hp
    rcases List.mem_append.mp hp with h | h
    · exact trip0 𝒱 c bd i arg1 harg1 arg2 harg2 arg3 harg3 arg4 harg4 X1 X2 X3 ⟨n, hn⟩ p h x
    · exact trips0 𝒱 c bd i arg1 harg1 arg2 harg2 arg3 harg3 arg4 harg4 X1 X2 X3 n (by omega) p h x

/-- The block the body leaves in the output window. -/
theorem out0_eq (c : Dev nD) (i : grid0.Coords) (arg1 : Memref sig .tc .vmem S16x56x8x128 .bf16) (harg1 : arg1.IsWhole) (arg2 : Memref sig .tc .vmem S128x128 .bf16) (harg2 : arg2.IsWhole) (arg3 : Memref sig .tc .vmem S112x112 .bf16) (harg3 : arg3.IsWhole) (arg4 : Memref sig .tc .vmem S16x56x8x128 .bf16) (harg4 : arg4.IsWhole)
    (x0 : Vec Ideal S16x56x8x128 .bf16) (x1 : Vec Ideal S128x128 .bf16) (x2 : Vec Ideal S112x112 .bf16) :
    out0_A_3 c i arg1 harg1 arg2 harg2 arg3 harg3 arg4 harg4 x0 x1 x2 = blk0 x0 x1 x2 := by
  funext y
  refine View.read_writes_apply_of_pieces _ _ (blk0 x0 x1 x2) _ ?_ y (cover0_A_3 c i arg1 harg1 arg2 harg2 arg3 harg3 arg4 harg4 x0 x1 x2 y)
  intro p hp x
  unfold kernelRun0_A at hp
  dsimp only at hp
  refine (trips0 _ c _ i arg1 harg1 arg2 harg2 arg3 harg3 arg4 harg4 (harg1.unread x0) (harg2.unread x1) (harg3.unread x2) k0_t1_loop.trips le_rfl p hp x).trans ?_
  rw [harg1.read_unread, harg2.read_unread, harg3.read_unread]

end Cert.KernelIdeal.Val

end
-- ==== Proof.KernelIdeal.Arr0.lean ====
/-
What the input rotation leaves in its whole output array.
-/
module

public import proofs.«01_k».proof.Proof.KernelIdeal.Block0
public import Idealize.ShloMosaic.Lib.Pipeline.ValueKit

@[expose] public section

set_option maxRecDepth 16384

noncomputable section

namespace Cert.KernelIdeal.Val

open Idealize.ShloMosaic Idealize.ShloMosaic.TcCoe Cert.KernelIdeal Cert.KernelIdeal.Gen Cert.KernelIdeal.Run
open Idealize.ShloMosaic.Pipeline

/-- The array the input rotation leaves. -/
def G0 (A : Vec Ideal S768x56x8x128 .bf16) (B : Vec Ideal S128x128 .bf16) (K : Vec Ideal S112x112 .bf16) : Vec Ideal S768x56x8x128 .bf16 := fun y =>
  rot0 (fun z => A (ix4 (y 0) (z 1) ⟨2 * ((y 2).val / 2) + (z 2).val, by have h : (y 2).val < 8 := (y 2).isLt; have h' : (z 2).val < 2 := (z 2).isLt; omega⟩ (z 3)))
    B K (y 1) ⟨(y 2).val % 2, by omega⟩ (y 3)

theorem rot0_congr {A A' : Vec Ideal S1x56x2x128 .bf16} {B B' : Vec Ideal S128x128 .bf16} {K K' : Vec Ideal S112x112 .bf16} {b b' : Fin 56} {e e' : Fin 2} {k k' : Fin 128}
    (hA : A = A') (hB : B = B') (hK : K = K') (hb : b = b') (he : e = e') (hk : k = k') : rot0 A B K b e k = rot0 A' B' K' b' e' k' := by
  subst hA hB hK hb he hk; rfl

theorem idx0_0 : ∀ t : Fin grid0.N, win0_0.index t = ![(grid0.coords t 0).val, 0, 0, 0] := by decide +kernel
theorem idx0_1 : ∀ t : Fin grid0.N, win0_1.index t = ![0, 0] := by decide +kernel
theorem idx0_2 : ∀ t : Fin grid0.N, win0_2.index t = ![0, 0] := by decide +kernel
theorem idx0_3 : ∀ t : Fin grid0.N, win0_3.index t = ![(grid0.coords t 0).val, 0, 0, 0] := by decide +kernel

theorem arr0 (V : (c : Dev nD) → (b : Ref sig .tc) → Buf (Elt Ideal) ((c : Thread nD τ).loc b)) (c : Dev nD) :
    (dat0 V c).arrAt 3 cfg0.N = G0 (V c main_v12) (V c main_v8) (V c main_v10) := by
  refine (dat0 V c).arrAt_eq_of_covers 3 _ (by decide +kernel) fun t hf y => ?_
  blk_simp
  rw [after0_3]
  unfold outsAt0
  rw [out0_eq]
  have e0 := idx0_0 t
  have e1 := idx0_1 t
  have e2 := idx0_2 t
  have e3 := idx0_3 t
  unfold blk0 G0 iblk0
  blk_simp [e0, e1, e2, e3]
  have a1 : (((win0_3.blk t).view.emb y 1 : Fin 56)) = y 1 := Fin.ext (by blk_simp [e3])
  have a3 : (((win0_3.blk t).view.emb y 3 : Fin 128)) = y 3 := Fin.ext (by blk_simp [e3])
  have b1 : (View.read (Elt Ideal) ((cfg0.win 1).blk t).view (V c (arrRef spec0 1)) : Vec Ideal S128x128 .bf16) = V c main_v8 := by
    funext j
    exact congrArg (V c main_v8) (show (win0_1.blk t).view.emb j = j by blk_ext [e1])
  have b2 : (View.read (Elt Ideal) ((cfg0.win 2).blk t).view (V c (arrRef spec0 2)) : Vec Ideal S112x112 .bf16) = V c main_v10 := by
    funext j
    exact congrArg (V c main_v10) (show (win0_2.blk t).view.emb j = j by blk_ext [e2])
  refine rot0_congr (funext fun z => ?_) b1 b2 a1.symm rfl a3.symm
  refine congrArg (V c main_v12) ?_
  blk_ext [e0, e3]

end Cert.KernelIdeal.Val

end
-- ==== Proof.KernelIdeal.Pay1.lean ====
/-
What the product's stores hold, element by element.
-/
module

public import proofs.«01_k».proof.Proof.Gen.KernelIdeal.Skeleton
public import Idealize.ShloMosaic.Lib.Pointwise

@[expose] public section

noncomputable section

namespace Cert.KernelIdeal.Val

open Idealize.ShloMosaic Cert.KernelIdeal Cert.KernelIdeal.Gen

/-- Column block `q` of a tile's product, scaled. -/
def prodT (x : Vec Ideal S512x7168 .bf16) (w : Vec Ideal S7168x512 .bf16) (s : Vec Ideal S1x1x128 .f32) (q : Fin 4) (t : Fin 512) (j : Fin 128) : EReal :=
  (∑ k : Fin 7168, x (ix2 t k) * w (ix2 k ⟨128 * q.val + j.val, by omega⟩)) * s (ix3 0 0 j)

/-- Four blocks of 48 columns side by side. -/
def cat4 (a b c d : Vec Ideal S1x512x48 .bf16) (t : Fin 512) (l : Fin 192) : EReal :=
  (![a, b, c, d] ⟨l.val / 48, by omega⟩) (ix3 0 t ⟨l.val % 48, by omega⟩)

/-- The four blocks rotated. -/
def outT (a b c d : Vec Ideal S1x512x48 .bf16) (u : Vec Ideal S192x256 .bf16) (t : Fin 512) (m : Fin 256) : EReal :=
  ∑ l : Fin 192, cat4 a b c d t l * u (ix2 l m)

theorem cat_dite (a b c d : Vec Ideal S1x512x48 .bf16) (t : Fin 512) (x : Fin 192) :
    (if h : x.val < 48 then a (ix3 0 t ⟨x.val, h⟩)
        else if h1 : x.val - 48 < 48 then b (ix3 0 t ⟨x.val - 48, h1⟩)
          else if h2 : x.val - 48 - 48 < 48 then c (ix3 0 t ⟨x.val - 48 - 48, h2⟩) else d (ix3 0 t ⟨x.val - 48 - 48 - 48, by omega⟩))
      = cat4 a b c d t x := by
  have key : ∀ (q : Fin 4) (k : Fin 48), x.val = q.val * 48 + k.val → cat4 a b c d t x = (![a, b, c, d] q) (ix3 0 t k) := by
    intro q k h
    unfold cat4
    rw [show (⟨x.val / 48, by omega⟩ : Fin 4) = q from Fin.ext (by dsimp only; omega),
      show (⟨x.val % 48, by omega⟩ : Fin 48) = k from Fin.ext (by dsimp only; omega)]
  split
  · exact (key 0 ⟨x.val, by omega⟩ (by simp)).symm
  split
  · exact (key 1 ⟨x.val - 48, by omega⟩ (by simp; omega)).symm
  split
  · exact (key 2 ⟨x.val - 48 - 48, by omega⟩ (by simp; omega)).symm
  · exact (key 3 ⟨x.val - 48 - 48 - 48, by omega⟩ (by simp; omega)).symm

theorem tile0_0 (x : Vec Ideal S512x7168 .bf16) (w : Vec Ideal S7168x512 .bf16) (s : Vec Ideal S1x1x128 .f32) (t : Fin 512) (j : Fin 128) :
    k1_pay40 x w s (ix3 0 t j) = prodT x w s 0 t j := by
  pointwise [prodT, dot_S512x7168_S7168x512_S512x512_1_0_0_1_n_n, k1_pay40, k1_pay39]
  all_goals try (refine congrArg (· * _) (Finset.sum_congr rfl fun k _ => congrArg (_ * ·) (congrArg w (congrArg (ix2 k) (Fin.ext ?_)))); simp)

theorem tile0_1 (x : Vec Ideal S512x7168 .bf16) (w : Vec Ideal S7168x512 .bf16) (s : Vec Ideal S1x1x128 .f32) (t : Fin 512) (j : Fin 128) :
    k1_pay41 x w s (ix3 0 t j) = prodT x w s 1 t j := by
  pointwise [prodT, dot_S512x7168_S7168x512_S512x512_1_0_0_1_n_n, k1_pay41, k1_pay39]
  all_goals try (refine congrArg (· * _) (Finset.sum_congr rfl fun k _ => congrArg (_ * ·) (congrArg w (congrArg (ix2 k) (Fin.ext ?_)))); simp)

theorem tile0_2 (x : Vec Ideal S512x7168 .bf16) (w : Vec Ideal S7168x512 .bf16) (s : Vec Ideal S1x1x128 .f32) (t : Fin 512) (j : Fin 128) :
    k1_pay43 (k1_pay42 x w s) (ix3 0 t j) = prodT x w s 2 t j := by
  pointwise [prodT, dot_S512x7168_S7168x512_S512x512_1_0_0_1_n_n, k1_pay42, k1_pay43, k1_pay39]
  all_goals try (refine congrArg (· * _) (Finset.sum_congr rfl fun k _ => congrArg (_ * ·) (congrArg w (congrArg (ix2 k) (Fin.ext ?_)))); simp)

theorem tile0_3 (x : Vec Ideal S512x7168 .bf16) (w : Vec Ideal S7168x512 .bf16) (s : Vec Ideal S1x1x128 .f32) (t : Fin 512) (j : Fin 128) :
    k1_pay44 (k1_pay39 x w) s (ix3 0 t j) = prodT x w s 3 t j := by
  pointwise [prodT, dot_S512x7168_S7168x512_S512x512_1_0_0_1_n_n, k1_pay44, k1_pay39]
  all_goals try (refine congrArg (· * _) (Finset.sum_congr rfl fun k _ => congrArg (_ * ·) (congrArg w (congrArg (ix2 k) (Fin.ext ?_)))); simp)

theorem tile1_0 (x : Vec Ideal S512x7168 .bf16) (w : Vec Ideal S7168x512 .bf16) (s : Vec Ideal S1x1x128 .f32) (t : Fin 512) (j : Fin 128) :
    k1_pay47 x w s (ix3 0 t j) = prodT x w s 0 t j := by
  pointwise [prodT, dot_S512x7168_S7168x512_S512x512_1_0_0_1_n_n, k1_pay47, k1_pay46]
  all_goals try (refine congrArg (· * _) (Finset.sum_congr rfl fun k _ => congrArg (_ * ·) (congrArg w (congrArg (ix2 k) (Fin.ext ?_)))); simp)

theorem tile1_1 (x : Vec Ideal S512x7168 .bf16) (w : Vec Ideal S7168x512 .bf16) (s : Vec Ideal S1x1x128 .f32) (t : Fin 512) (j : Fin 128) :
    k1_pay49 (k1_pay48 x w s) (ix3 0 t j) = prodT x w s 1 t j := by
  pointwise [prodT, dot_S512x7168_S7168x512_S512x512_1_0_0_1_n_n, k1_pay48, k1_pay49, k1_pay46]
  all_goals try (refine congrArg (· * _) (Finset.sum_congr rfl fun k _ => congrArg (_ * ·) (congrArg w (congrArg (ix2 k) (Fin.ext ?_)))); simp)

theorem tile1_2 (x : Vec Ideal S512x7168 .bf16) (w : Vec Ideal S7168x512 .bf16) (s : Vec Ideal S1x1x128 .f32) (t : Fin 512) (j : Fin 128) :
    k1_pay50 (k1_pay46 x w) s (ix3 0 t j) = prodT x w s 2 t j := by
  pointwise [prodT, dot_S512x7168_S7168x512_S512x512_1_0_0_1_n_n, k1_pay50, k1_pay46]
  all_goals try (refine congrArg (· * _) (Finset.sum_congr rfl fun k _ => congrArg (_ * ·) (congrArg w (congrArg (ix2 k) (Fin.ext ?_)))); simp)

theorem tile1_3 (x : Vec Ideal S512x7168 .bf16) (w : Vec Ideal S7168x512 .bf16) (s : Vec Ideal S1x1x128 .f32) (t : Fin 512) (j : Fin 128) :
    k1_pay51 (k1_pay46 x w) s (ix3 0 t j) = prodT x w s 3 t j := by
  pointwise [prodT, dot_S512x7168_S7168x512_S512x512_1_0_0_1_n_n, k1_pay51, k1_pay46]
  all_goals try (refine congrArg (· * _) (Finset.sum_congr rfl fun k _ => congrArg (_ * ·) (congrArg w (congrArg (ix2 k) (Fin.ext ?_)))); simp)

theorem tile2_0 (x : Vec Ideal S512x7168 .bf16) (w : Vec Ideal S7168x512 .bf16) (s : Vec Ideal S1x1x128 .f32) (t : Fin 512) (j : Fin 128) :
    k1_pay55 (k1_pay54 x w) s (ix3 0 t j) = prodT x w s 0 t j := by
  pointwise [prodT, dot_S512x7168_S7168x512_S512x512_1_0_0_1_n_n, k1_pay54, k1_pay55, k1_pay53]
  all_goals try (refine congrArg (· * _) (Finset.sum_congr rfl fun k _ => congrArg (_ * ·) (congrArg w (congrArg (ix2 k) (Fin.ext ?_)))); simp)

theorem tile2_1 (x : Vec Ideal S512x7168 .bf16) (w : Vec Ideal S7168x512 .bf16) (s : Vec Ideal S1x1x128 .f32) (t : Fin 512) (j : Fin 128) :
    k1_pay56 (k1_pay53 x w) s (ix3 0 t j) = prodT x w s 1 t j := by
  pointwise [prodT, dot_S512x7168_S7168x512_S512x512_1_0_0_1_n_n, k1_pay56, k1_pay53]
  all_goals try (refine congrArg (· * _) (Finset.sum_congr rfl fun k _ => congrArg (_ * ·) (congrArg w (congrArg (ix2 k) (Fin.ext ?_)))); simp)

theorem tile2_2 (x : Vec Ideal S512x7168 .bf16) (w : Vec Ideal S7168x512 .bf16) (s : Vec Ideal S1x1x128 .f32) (t : Fin 512) (j : Fin 128) :
    k1_pay57 (k1_pay53 x w) s (ix3 0 t j) = prodT x w s 2 t j := by
  pointwise [prodT, dot_S512x7168_S7168x512_S512x512_1_0_0_1_n_n, k1_pay57, k1_pay53]
  all_goals try (refine congrArg (· * _) (Finset.sum_congr rfl fun k _ => congrArg (_ * ·) (congrArg w (congrArg (ix2 k) (Fin.ext ?_)))); simp)

theorem tile2_3 (x : Vec Ideal S512x7168 .bf16) (w : Vec Ideal S7168x512 .bf16) (s : Vec Ideal S1x1x128 .f32) (t : Fin 512) (j : Fin 128) :
    k1_pay58 (k1_pay53 x w) s (ix3 0 t j) = prodT x w s 3 t j := by
  pointwise [prodT, dot_S512x7168_S7168x512_S512x512_1_0_0_1_n_n, k1_pay58, k1_pay53]
  all_goals try (refine congrArg (· * _) (Finset.sum_congr rfl fun k _ => congrArg (_ * ·) (congrArg w (congrArg (ix2 k) (Fin.ext ?_)))); simp)

theorem grp0 (a b c d : Vec Ideal S1x512x48 .bf16) (u : Vec Ideal S192x256 .bf16) (t : Fin 512) (m : Fin 256) :
    k1_pay59 a b c d u (ix2 t m) = outT a b c d u t m := by
  pointwise [outT, dot_S512x192_S192x256_S512x256_1_0_0_1_n_n, k1_pay59]
  exact Finset.sum_congr rfl fun x _ => congrArg (· * _) (cat_dite a b c d t x)

theorem grp1 (a b c d : Vec Ideal S1x512x48 .bf16) (u : Vec Ideal S192x256 .bf16) (t : Fin 512) (m : Fin 256) :
    k1_pay60 a b c d u (ix2 t m) = outT a b c d u t m := by
  pointwise [outT, dot_S512x192_S192x256_S512x256_1_0_0_1_n_n, k1_pay60]
  exact Finset.sum_congr rfl fun x _ => congrArg (· * _) (cat_dite a b c d t x)

theorem grp2 (a b c d : Vec Ideal S1x512x48 .bf16) (u : Vec Ideal S192x256 .bf16) (t : Fin 512) (m : Fin 256) :
    k1_pay61 a b c d u (ix2 t m) = outT a b c d u t m := by
  pointwise [outT, dot_S512x192_S192x256_S512x256_1_0_0_1_n_n, k1_pay61]
  exact Finset.sum_congr rfl fun x _ => congrArg (· * _) (cat_dite a b c d t x)

theorem grp3 (a b c d : Vec Ideal S1x512x48 .bf16) (u : Vec Ideal S192x256 .bf16) (t : Fin 512) (m : Fin 256) :
    k1_pay64 (k1_pay62 a b c d) (k1_pay63 u) (ix2 t m) = outT a b c d u t m := by
  pointwise [outT, dot_S512x192_S192x256_S512x256_1_0_0_1_n_n, k1_pay62, k1_pay63, k1_pay64]
  exact Finset.sum_congr rfl fun x _ => congrArg (· * _) (cat_dite a b c d t x)

theorem grp4 (a b c d : Vec Ideal S1x512x48 .bf16) (u : Vec Ideal S192x256 .bf16) (t : Fin 512) (m : Fin 256) :
    k1_pay65 a b c d u (ix2 t m) = outT a b c d u t m := by
  pointwise [outT, dot_S512x192_S192x256_S512x256_1_0_0_1_n_n, k1_pay65]
  exact Finset.sum_congr rfl fun x _ => congrArg (· * _) (cat_dite a b c d t x)

theorem grp5 (a b c d : Vec Ideal S1x512x48 .bf16) (u : Vec Ideal S192x256 .bf16) (t : Fin 512) (m : Fin 256) :
    k1_pay67 (k1_pay66 a b c d) u (ix2 t m) = outT a b c d u t m := by
  pointwise [outT, dot_S512x192_S192x256_S512x256_1_0_0_1_n_n, k1_pay66, k1_pay67]
  exact Finset.sum_congr rfl fun x _ => congrArg (· * _) (cat_dite a b c d t x)

theorem grp6 (a b c d : Vec Ideal S1x512x48 .bf16) (u : Vec Ideal S192x256 .bf16) (t : Fin 512) (m : Fin 256) :
    k1_pay68 a b c d u (ix2 t m) = outT a b c d u t m := by
  pointwise [outT, dot_S512x192_S192x256_S512x256_1_0_0_1_n_n, k1_pay68]
  exact Finset.sum_congr rfl fun x _ => congrArg (· * _) (cat_dite a b c d t x)

theorem grp7 (a b c d : Vec Ideal S1x512x48 .bf16) (u : Vec Ideal S192x256 .bf16) (t : Fin 512) (m : Fin 256) :
    k1_pay1 (k1_pay69 a) (k1_pay70 b) (k1_pay71 c) d u (ix2 t m) = outT a b c d u t m := by
  pointwise [outT, dot_S512x192_S192x256_S512x256_1_0_0_1_n_n, k1_pay1, k1_pay69, k1_pay70, k1_pay71]
  exact Finset.sum_congr rfl fun x _ => congrArg (· * _) (cat_dite a b c d t x)

end Cert.KernelIdeal.Val

end
-- ==== Proof.KernelIdeal.PayW.lean ====
/-
The decoded weights: what each tile of the decode loop holds, field by field.
-/
module

public import proofs.«01_k».proof.Proof.KernelIdeal.Decode
public import proofs.«01_k».proof.Proof.Codes
public import Idealize.ShloMosaic.Lib.BitcastFour
public import Idealize.ShloMosaic.Lib.BitcastPair

@[expose] public section

noncomputable section

namespace Cert.KernelIdeal.Val

open Idealize.ShloMosaic Cert.KernelIdeal Cert.KernelIdeal.Gen Cert.KernelIdeal.Run Cert.Quip

/-- The field's two bits in bits 5 and 6. -/
theorem field_bits (b : BitVec 8) (f : Fin 4) : 0x4080#16 ||| BitVec.ofNat 16 (b.toNat / 4 ^ f.val % 4 * 32)
    = 0x4080#16 ||| ((if b.getLsbD (2 * f.val) then 0x20#16 else 0#16) ||| (if b.getLsbD (2 * f.val + 1) then 0x40#16 else 0#16)) := by
  revert b f; decide +kernel

/-- Bit by bit: the mask keeps bits 5 and 6 of either half, the constant sets the others. -/
theorem half_bits : ∀ (p r s : Bool) (h : Fin 2) (i : Fin 16),
    (((if i.val = 5 then p else if i.val = 6 then r else s) && (6291552#32).getLsbD (16 * h.val + i.val)) || (1082146944#32).getLsbD (16 * h.val + i.val))
      = ((0x4080#16).getLsbD i.val || ((if p then 0x20#16 else 0#16).getLsbD i.val || (if r then 0x40#16 else 0#16).getLsbD i.val)) := by
  decide +kernel

/-- Masking and setting the constant bits leaves, in either half of a word, the field's two bits. -/
theorem half_word (b : BitVec 8) (f : Fin 4) (h : ℕ) (hh : h < 2) (X : BitVec 32)
    (h5 : X.getLsbD (16 * h + 5) = b.getLsbD (2 * f.val)) (h6 : X.getLsbD (16 * h + 6) = b.getLsbD (2 * f.val + 1)) :
    (IntOp.ori (IntOp.andi X 6291552#32) 1082146944#32).extractLsb' (16 * h) 16
      = 0x4080#16 ||| BitVec.ofNat 16 (b.toNat / 4 ^ f.val % 4 * 32) := by
  rw [field_bits]
  apply BitVec.eq_of_getLsbD_eq
  intro i hi
  rw [BitVec.getLsbD_extractLsb']
  show (decide (i < 16) && ((X &&& 6291552#32) ||| 1082146944#32).getLsbD (16 * h + i)) = _
  rw [BitVec.getLsbD_or, BitVec.getLsbD_and, BitVec.getLsbD_or, BitVec.getLsbD_or, decide_eq_true hi, Bool.true_and]
  refine Eq.trans ?_ (half_bits _ _ (X.getLsbD (16 * h + i)) ⟨h, hh⟩ ⟨i, hi⟩)
  have e : X.getLsbD (16 * h + i) = if i = 5 then b.getLsbD (2 * f.val) else if i = 6 then b.getLsbD (2 * f.val + 1) else X.getLsbD (16 * h + i) := by
    split
    · rename_i h'; rw [h', h5]
    split
    · rename_i h'; rw [h', h6]
    rfl
  exact congrArg (fun z => (z && (6291552#32).getLsbD (16 * h + i)) || (1082146944#32).getLsbD (16 * h + i)) e

/-- The sixteen-bit rows of a block of words are the words' halves. -/
theorem halves (x : IVec S32x128 32) (q : Fin 64) (l : Fin 128) :
    bitcast S64x128 16 x bitcasts_S32x128_w32_S64x128_w16 (Idealize.ShloMosaic.ix2 q l)
      = (x (Idealize.ShloMosaic.ix2 ⟨q.val / 2, by omega⟩ l)).extractLsb' (16 * (q.val % 2)) 16 := by
  refine (bitcast_32_16 x bitcasts_S32x128_w32_S64x128_w16 _).trans ?_
  have hr : S64x128.row (Idealize.ShloMosaic.ix2 q l) = q.val := rfl
  have e : ∀ hp, bitcasts_S32x128_w32_S64x128_w16.srcIdx (Idealize.ShloMosaic.ix2 q l) (S64x128.row (Idealize.ShloMosaic.ix2 q l) / 2) hp
      = Idealize.ShloMosaic.ix2 ⟨q.val / 2, by omega⟩ l := by
    intro hp
    funext c
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))
  refine (congrArg (fun z => BitVec.extractLsb' _ 16 (x z)) (e _)).trans ?_
  exact congrArg (fun z => BitVec.extractLsb' (16 * (z % 2)) 16 (x (Idealize.ShloMosaic.ix2 ⟨q.val / 2, by omega⟩ l))) hr

/-- A bit of the words of a tile is a bit of a byte. -/
theorem word_bit (V : Vec Ideal S128x128 .i8) (r : Fin 32) (l : Fin 128) (n : ℕ) (hn : n < 32) (p : Fin 128) (hp : p.val = 4 * r.val + n / 8) :
    (k1_pay2 (F := Ideal) V (Idealize.ShloMosaic.ix2 r l)).getLsbD n = (V (Idealize.ShloMosaic.ix2 p l) : BitVec 8).getLsbD (n % 8) := by
  rw [Idealize.ShloMosaic.ix2_eq_valueIdx, Idealize.ShloMosaic.ix2_eq_valueIdx]
  unfold k1_pay2
  exact bitcast_8_32_getLsbD_ix2 (R := 128) (r := 32) (n := 128) V bitcasts_S128x128_w8_S32x128_w32 r l n hn p hp

theorem shl_bit (x : BitVec 32) (s i : ℕ) (hs : s < 32) (hi : s ≤ i) (hi' : i < 32) :
    (IntOp.shli .vector x (BitVec.ofNat 32 s)).getLsbD i = x.getLsbD (i - s) := by
  have : (BitVec.ofNat 32 s).toNat = s := by rw [BitVec.toNat_ofNat]; omega
  unfold IntOp.shli
  rw [if_pos (by omega), BitVec.shiftLeft_eq', BitVec.getLsbD_shiftLeft, this]
  simp [hi', hi]

theorem shr_bit (x : BitVec 32) (s i : ℕ) (hs : s < 32) (hi : s + i < 32) :
    (IntOp.shrsi .vector x (BitVec.ofNat 32 s)).getLsbD i = x.getLsbD (s + i) := by
  have : (BitVec.ofNat 32 s).toNat = s := by rw [BitVec.toNat_ofNat]; omega
  unfold IntOp.shrsi
  rw [if_pos (by omega), BitVec.sshiftRight', this, BitVec.getLsbD_sshiftRight]
  simp [hi, show ¬ 32 ≤ i by omega]

theorem tile_0_0 (V : Vec Ideal S128x128 .i8) (q : Fin 64) (l : Fin 128) :
    (k1_pay3 V : FVec Ideal S64x128 .bf16) (Idealize.ShloMosaic.ix2 q l) = wv (V (Idealize.ShloMosaic.ix2 ⟨2 * q.val + 0, by omega⟩ l)) 0 := by
  pointwise [k1_pay3]
  refine wv_of_word _ _ _ ((halves _ q l).trans (half_word _ _ _ (by omega) _ ?_ ?_))
  · exact (shl_bit _ 5 _ (by omega) (by omega) (by omega)).trans ((word_bit V ⟨q.val / 2, by omega⟩ l _ (by omega) ⟨2 * q.val + 0, by omega⟩ (by dsimp only; omega)).trans (congrArg _ (by simp; omega)))
  · exact (shl_bit _ 5 _ (by omega) (by omega) (by omega)).trans ((word_bit V ⟨q.val / 2, by omega⟩ l _ (by omega) ⟨2 * q.val + 0, by omega⟩ (by dsimp only; omega)).trans (congrArg _ (by simp; omega)))

theorem tile_1_0 (V : Vec Ideal S128x128 .i8) (q : Fin 64) (l : Fin 128) :
    (k1_pay4 V : FVec Ideal S64x128 .bf16) (Idealize.ShloMosaic.ix2 q l) = wv (V (Idealize.ShloMosaic.ix2 ⟨2 * q.val + 1, by omega⟩ l)) 0 := by
  pointwise [k1_pay4]
  refine wv_of_word _ _ _ ((halves _ q l).trans (half_word _ _ _ (by omega) _ ?_ ?_))
  · exact (shr_bit _ 3 _ (by omega) (by omega)).trans ((word_bit V ⟨q.val / 2, by omega⟩ l _ (by omega) ⟨2 * q.val + 1, by omega⟩ (by dsimp only; omega)).trans (congrArg _ (by simp; omega)))
  · exact (shr_bit _ 3 _ (by omega) (by omega)).trans ((word_bit V ⟨q.val / 2, by omega⟩ l _ (by omega) ⟨2 * q.val + 1, by omega⟩ (by dsimp only; omega)).trans (congrArg _ (by simp; omega)))

theorem tile_0_1 (V : Vec Ideal S128x128 .i8) (q : Fin 64) (l : Fin 128) :
    (k1_pay6 (k1_pay5 V) 1082146944#32 : FVec Ideal S64x128 .bf16) (Idealize.ShloMosaic.ix2 q l) = wv (V (Idealize.ShloMosaic.ix2 ⟨2 * q.val + 0, by omega⟩ l)) 1 := by
  pointwise [k1_pay6, k1_pay5]
  refine wv_of_word _ _ _ ((halves _ q l).trans (half_word _ _ _ (by omega) _ ?_ ?_))
  · exact (shl_bit _ 3 _ (by omega) (by omega) (by omega)).trans ((word_bit V ⟨q.val / 2, by omega⟩ l _ (by omega) ⟨2 * q.val + 0, by omega⟩ (by dsimp only; omega)).trans (congrArg _ (by simp; omega)))
  · exact (shl_bit _ 3 _ (by omega) (by omega) (by omega)).trans ((word_bit V ⟨q.val / 2, by omega⟩ l _ (by omega) ⟨2 * q.val + 0, by omega⟩ (by dsimp only; omega)).trans (congrArg _ (by simp; omega)))

theorem tile_1_1 (V : Vec Ideal S128x128 .i8) (q : Fin 64) (l : Fin 128) :
    (k1_pay7 (k1_pay2 V) : FVec Ideal S64x128 .bf16) (Idealize.ShloMosaic.ix2 q l) = wv (V (Idealize.ShloMosaic.ix2 ⟨2 * q.val + 1, by omega⟩ l)) 1 := by
  pointwise [k1_pay7]
  refine wv_of_word _ _ _ ((halves _ q l).trans (half_word _ _ _ (by omega) _ ?_ ?_))
  · exact (shr_bit _ 5 _ (by omega) (by omega)).trans ((word_bit V ⟨q.val / 2, by omega⟩ l _ (by omega) ⟨2 * q.val + 1, by omega⟩ (by dsimp only; omega)).trans (congrArg _ (by simp; omega)))
  · exact (shr_bit _ 5 _ (by omega) (by omega)).trans ((word_bit V ⟨q.val / 2, by omega⟩ l _ (by omega) ⟨2 * q.val + 1, by omega⟩ (by dsimp only; omega)).trans (congrArg _ (by simp; omega)))

theorem tile_0_2 (V : Vec Ideal S128x128 .i8) (q : Fin 64) (l : Fin 128) :
    (k1_pay9 (k1_pay8 (k1_pay2 V)) : FVec Ideal S64x128 .bf16) (Idealize.ShloMosaic.ix2 q l) = wv (V (Idealize.ShloMosaic.ix2 ⟨2 * q.val + 0, by omega⟩ l)) 2 := by
  pointwise [k1_pay9, k1_pay8]
  refine wv_of_word _ _ _ ((halves _ q l).trans (half_word _ _ _ (by omega) _ ?_ ?_))
  · exact (shl_bit _ 1 _ (by omega) (by omega) (by omega)).trans ((word_bit V ⟨q.val / 2, by omega⟩ l _ (by omega) ⟨2 * q.val + 0, by omega⟩ (by dsimp only; omega)).trans (congrArg _ (by simp; omega)))
  · exact (shl_bit _ 1 _ (by omega) (by omega) (by omega)).trans ((word_bit V ⟨q.val / 2, by omega⟩ l _ (by omega) ⟨2 * q.val + 0, by omega⟩ (by dsimp only; omega)).trans (congrArg _ (by simp; omega)))

theorem tile_1_2 (V : Vec Ideal S128x128 .i8) (q : Fin 64) (l : Fin 128) :
    (k1_pay10 (k1_pay2 V) : FVec Ideal S64x128 .bf16) (Idealize.ShloMosaic.ix2 q l) = wv (V (Idealize.ShloMosaic.ix2 ⟨2 * q.val + 1, by omega⟩ l)) 2 := by
  pointwise [k1_pay10]
  refine wv_of_word _ _ _ ((halves _ q l).trans (half_word _ _ _ (by omega) _ ?_ ?_))
  · exact (shr_bit _ 7 _ (by omega) (by omega)).trans ((word_bit V ⟨q.val / 2, by omega⟩ l _ (by omega) ⟨2 * q.val + 1, by omega⟩ (by dsimp only; omega)).trans (congrArg _ (by simp; omega)))
  · exact (shr_bit _ 7 _ (by omega) (by omega)).trans ((word_bit V ⟨q.val / 2, by omega⟩ l _ (by omega) ⟨2 * q.val + 1, by omega⟩ (by dsimp only; omega)).trans (congrArg _ (by simp; omega)))

theorem tile_0_3 (V : Vec Ideal S128x128 .i8) (q : Fin 64) (l : Fin 128) :
    (k1_pay11 (k1_pay2 V) : FVec Ideal S64x128 .bf16) (Idealize.ShloMosaic.ix2 q l) = wv (V (Idealize.ShloMosaic.ix2 ⟨2 * q.val + 0, by omega⟩ l)) 3 := by
  pointwise [k1_pay11]
  refine wv_of_word _ _ _ ((halves _ q l).trans (half_word _ _ _ (by omega) _ ?_ ?_))
  · exact (shr_bit _ 1 _ (by omega) (by omega)).trans ((word_bit V ⟨q.val / 2, by omega⟩ l _ (by omega) ⟨2 * q.val + 0, by omega⟩ (by dsimp only; omega)).trans (congrArg _ (by simp; omega)))
  · exact (shr_bit _ 1 _ (by omega) (by omega)).trans ((word_bit V ⟨q.val / 2, by omega⟩ l _ (by omega) ⟨2 * q.val + 0, by omega⟩ (by dsimp only; omega)).trans (congrArg _ (by simp; omega)))

theorem tile_1_3 (V : Vec Ideal S128x128 .i8) (q : Fin 64) (l : Fin 128) :
    (k1_pay38 (k1_pay12 (k1_pay2 V)) k1_pay13 : FVec Ideal S64x128 .bf16) (Idealize.ShloMosaic.ix2 q l) = wv (V (Idealize.ShloMosaic.ix2 ⟨2 * q.val + 1, by omega⟩ l)) 3 := by
  pointwise [k1_pay38, k1_pay12, k1_pay13]
  refine wv_of_word _ _ _ ((halves _ q l).trans (half_word _ _ _ (by omega) _ ?_ ?_))
  · exact (shr_bit _ 9 _ (by omega) (by omega)).trans ((word_bit V ⟨q.val / 2, by omega⟩ l _ (by omega) ⟨2 * q.val + 1, by omega⟩ (by dsimp only; omega)).trans (congrArg _ (by simp; omega)))
  · exact (shr_bit _ 9 _ (by omega) (by omega)).trans ((word_bit V ⟨q.val / 2, by omega⟩ l _ (by omega) ⟨2 * q.val + 1, by omega⟩ (by dsimp only; omega)).trans (congrArg _ (by simp; omega)))

theorem wtile_apply (V : Vec Ideal S128x128 .i8) (o : Fin 2) (f : Fin 4) (q : Fin 64) (l : Fin 128) :
    wtile V o f (Idealize.ShloMosaic.ix2 q l) = wv (V (Idealize.ShloMosaic.ix2 ⟨2 * q.val + o.val, by omega⟩ l)) f := by
  fin_cases o <;> fin_cases f
  · exact tile_0_0 V q l
  · exact tile_0_1 V q l
  · exact tile_0_2 V q l
  · exact tile_0_3 V q l
  · exact tile_1_0 V q l
  · exact tile_1_1 V q l
  · exact tile_1_2 V q l
  · exact tile_1_3 V q l

/-- The decoded weight scratch: row `128 a + 64 o + i` holds code row `128 a + 2 i + o`. -/
theorem wdec_apply (x1 : Vec Ideal S7168x384 .i8) (jt : Fin 3) (r : Fin 7168) (n : Fin 512) :
    wdec x1 jt (Idealize.ShloMosaic.ix2 r n)
      = wv (x1 (Idealize.ShloMosaic.ix2 ⟨r.val / 128 * 128 + 2 * (r.val % 64) + r.val % 128 / 64, by omega⟩ ⟨128 * jt.val + n.val % 128, by omega⟩))
          ⟨n.val / 128, by omega⟩ := by
  refine (wdec_at x1 jt (Idealize.ShloMosaic.ix2 r n) ⟨r.val / 128, by omega⟩ ⟨r.val % 128 / 64, by omega⟩ ⟨n.val / 128, by omega⟩
    (Idealize.ShloMosaic.ix2 ⟨r.val % 64, by omega⟩ ⟨n.val % 128, by omega⟩) (by show r.val = 128 * (r.val / 128) + 64 * (r.val % 128 / 64) + r.val % 64; omega)
    (by show n.val = 128 * (n.val / 128) + n.val % 128; omega)).trans ?_
  refine (wtile_apply _ _ _ _ _).trans ?_
  unfold blk
  rw [← Idealize.ShloMosaic.ix2_eq_valueIdx]
  refine congrArg (fun z => wv (x1 z) _) ?_
  refine congr (congrArg _ (Fin.ext ?_)) (Fin.ext ?_)
  · show 128 * (r.val / 128) + (2 * (r.val % 64) + r.val % 128 / 64) = r.val / 128 * 128 + 2 * (r.val % 64) + r.val % 128 / 64
    omega
  · rfl

end Cert.KernelIdeal.Val

end
-- ==== Proof.KernelIdeal.Block1.lean ====
/-
What the product leaves in its output block, element by element.
-/
module

public import proofs.«01_k».proof.Proof.KernelIdeal.Region1
public import proofs.«01_k».proof.Proof.KernelIdeal.Pay1
public import proofs.«01_k».proof.Proof.KernelIdeal.PayW

@[expose] public section

set_option maxRecDepth 16384

noncomputable section

namespace Cert.KernelIdeal.Val

open Idealize.ShloMosaic Cert.KernelIdeal Cert.KernelIdeal.Gen Cert.KernelIdeal.Run

/-- The scaled product, as the scratch holds it: field, row, code column. -/
def hblk (x0 : Vec Ideal S512x7168 .bf16) (x1 : Vec Ideal S7168x384 .i8) (x2 : Vec Ideal S1x4x384 .f32) (q : Fin 4) (t : Fin 512) (n : Fin 384) : EReal :=
  (∑ k : Fin 7168, x0 (ix2 t k) * wdec x1 ⟨n.val / 128, by omega⟩ (ix2 k ⟨128 * q.val + n.val % 128, by omega⟩)) * x2 (ix3 0 q n)

/-- The block the product leaves: each group of 192 scaled columns, rotated. -/
def blk1 (x0 : Vec Ideal S512x7168 .bf16) (x1 : Vec Ideal S7168x384 .i8) (x2 : Vec Ideal S1x4x384 .f32) (x3 : Vec Ideal S192x256 .bf16) : Vec Ideal S512x2048 .bf16 := fun y =>
  ∑ l : Fin 192, hblk x0 x1 x2 ⟨l.val / 48, by omega⟩ (y 0) ⟨48 * ((y 1).val / 256) + l.val % 48, by have h : (y 1).val < 2048 := (y 1).isLt; omega⟩ * x3 (ix2 l ⟨(y 1).val % 256, by omega⟩)

/-- `hblk` at an index of the scratch. -/
def hG (x0 : Vec Ideal S512x7168 .bf16) (x1 : Vec Ideal S7168x384 .i8) (x2 : Vec Ideal S1x4x384 .f32) : Vec Ideal S4x512x384 .bf16 := fun y =>
  hblk x0 x1 x2 (y 0) (y 1) (y 2)

/-- A tile's column block agrees with `hG`. -/
theorem pieceH (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg7 : Memref sig .tc .vmem S7168x512 .bf16) (harg7 : arg7.IsWhole)
    (x0 : Vec Ideal S512x7168 .bf16) (x1 : Vec Ideal S7168x384 .i8) (x2 : Vec Ideal S1x4x384 .f32)
    (q : Fin 4) (jt : Fin 3) {off offs : Fin 3 → ℕ} (hoff : off = ![q.val, 0, 128 * jt.val]) (hoffs : offs = ![0, q.val, 128 * jt.val])
    (inb : ∀ d, off d + S1x512x128.size d ≤ S4x512x384.size d)
    (inbs : ∀ d, offs d + S1x1x128.size d ≤ S1x4x384.size d)
    (inb2 : ∀ d, (![0, 0] : Fin 2 → ℕ) d + S512x7168.size d ≤ S512x7168.size d)
    (inb7 : ∀ d, (![0, 0] : Fin 2 → ℕ) d + S7168x512.size d ≤ S7168x512.size d)
    (pay : Vec Ideal S1x512x128 .bf16)
    (hpay : ∀ (t : Fin 512) (j : Fin 128), pay (ix3 0 t j) = prodT
      (View.readAt (Elt Ideal) arg2.view (Rect.unit (s := S512x7168) ![0, 0] S512x7168.size inb2).toLoadRect (harg2.unread x0))
      (View.readAt (Elt Ideal) arg7.view (Rect.unit (s := S7168x512) ![0, 0] S7168x512.size inb7).toLoadRect (harg7.unread (wdec (View.read (Elt Ideal) arg3.view (harg3.unread x1)) jt)))
      (View.readAt (Elt Ideal) arg4.view (Rect.unit (s := S1x4x384) offs S1x1x128.size inbs).toLoadRect (harg4.unread x2)) q t j)
    (x : S1x512x128.Idx) :
    pay x = hG x0 x1 x2 ((Rect.unit (s := S4x512x384) off S1x512x128.size inb).emb x) := by
  subst hoff hoffs
  have h0 : (x 0).val < 1 := (x 0).isLt
  have h2 : (x 2).val < 128 := (x 2).isLt
  have hq := q.isLt
  have hj := jt.isLt
  have hx : x = ix3 0 (x 1) (x 2) := by
    funext d
    match d with
    | ⟨0, _⟩ => exact Fin.ext (by show (x 0).val = 0; omega)
    | ⟨1, _⟩ => rfl
    | ⟨2, _⟩ => rfl
  have e1 : (View.readAt (Elt Ideal) arg2.view (Rect.unit (s := S512x7168) ![0, 0] S512x7168.size inb2).toLoadRect (harg2.unread x0)) = x0 := by
    refine Eq.trans (funext fun j => ?_) (harg2.read_unread x0)
    refine congrArg (arg2.view.read (Elt Ideal) _) (funext fun d => Fin.ext ?_)
    match d with
    | ⟨0, _⟩ => show 0 + 1 * (j 0).val = (j 0).val; omega
    | ⟨1, _⟩ => show 0 + 1 * (j 1).val = (j 1).val; omega
  have e2 : (View.readAt (Elt Ideal) arg7.view (Rect.unit (s := S7168x512) ![0, 0] S7168x512.size inb7).toLoadRect (harg7.unread (wdec (View.read (Elt Ideal) arg3.view (harg3.unread x1)) jt))) = wdec x1 jt := by
    refine Eq.trans (funext fun j => ?_) ((harg7.read_unread _).trans (congrArg (wdec · jt) (harg3.read_unread x1)))
    refine congrArg (arg7.view.read (Elt Ideal) _) (funext fun d => Fin.ext ?_)
    match d with
    | ⟨0, _⟩ => show 0 + 1 * (j 0).val = (j 0).val; omega
    | ⟨1, _⟩ => show 0 + 1 * (j 1).val = (j 1).val; omega
  have e3 : (View.readAt (Elt Ideal) arg4.view (Rect.unit (s := S1x4x384) ![0, q.val, 128 * jt.val] S1x1x128.size inbs).toLoadRect (harg4.unread x2)) (ix3 0 0 (x 2))
      = x2 (ix3 0 q ⟨128 * jt.val + (x 2).val, by omega⟩) := by
    refine Eq.trans ?_ (congrFun (harg4.read_unread x2) _)
    refine congrArg (arg4.view.read (Elt Ideal) _) (funext fun d => Fin.ext ?_)
    match d with
    | ⟨0, _⟩ => show 0 + 1 * 0 = 0; omega
    | ⟨1, _⟩ => show q.val + 1 * 0 = q.val; omega
    | ⟨2, _⟩ => show 128 * jt.val + 1 * (x 2).val = 128 * jt.val + (x 2).val; omega
  refine (congrArg pay hx).trans ((hpay (x 1) (x 2)).trans ?_)
  unfold prodT
  rw [e1, e2, e3]
  unfold hG
  have a0 : (((Rect.unit (s := S4x512x384) ![q.val, 0, 128 * jt.val] S1x512x128.size inb).emb x) 0 : Fin 4) = q := Fin.ext (by show q.val + 1 * (x 0).val = _; omega)
  have a1 : (((Rect.unit (s := S4x512x384) ![q.val, 0, 128 * jt.val] S1x512x128.size inb).emb x) 1 : Fin 512) = x 1 := Fin.ext (by show 0 + 1 * (x 1).val = _; omega)
  have a2 : (((Rect.unit (s := S4x512x384) ![q.val, 0, 128 * jt.val] S1x512x128.size inb).emb x) 2 : Fin 384) = (⟨128 * jt.val + (x 2).val, by omega⟩ : Fin 384) := Fin.ext (by show 128 * jt.val + 1 * (x 2).val = 128 * jt.val + (x 2).val; omega)
  refine Eq.trans ?_ (congr (congr (congrArg _ a0.symm) a1.symm) a2.symm)
  unfold hblk
  have b1 : (⟨(128 * jt.val + (x 2).val) / 128, by omega⟩ : Fin 3) = jt := Fin.ext (by show (128 * jt.val + (x 2).val) / 128 = _; omega)
  have b2 : (⟨128 * q.val + (128 * jt.val + (x 2).val) % 128, by omega⟩ : Fin 512) = ⟨128 * q.val + (x 2).val, by omega⟩ := Fin.ext (by show 128 * q.val + (128 * jt.val + (x 2).val) % 128 = 128 * q.val + (x 2).val; omega)
  refine congrArg (· * _) (Finset.sum_congr rfl fun k _ => congrArg (_ * ·) ?_)
  exact (congr (congrArg (wdec x1) b1) (congrArg (ix2 k) b2)).symm

/-- Every piece of the scratch agrees with `hG`. -/
theorem piecesH (c : Dev nD) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg7 : Memref sig .tc .vmem S7168x512 .bf16) (harg7 : arg7.IsWhole)
    (x0 : Vec Ideal S512x7168 .bf16) (x1 : Vec Ideal S7168x384 .i8) (x2 : Vec Ideal S1x4x384 .f32) :
    ∀ p ∈ kernelRun1_A.sl.HS1_12 c arg2 harg2 arg3 harg3 arg4 harg4 arg7 harg7 x0 x1 x2, ∀ x : p.1.shape.Idx, p.2 x = hG x0 x1 x2 (p.1.emb x) := by
  intro p hp x
  unfold kernelRun1_A.sl.HS1_12 at hp
  simp only [List.mem_cons, List.not_mem_nil, or_false] at hp
  rcases hp with rfl | rfl | rfl | rfl | rfl | rfl | rfl | rfl | rfl | rfl | rfl | rfl
  · exact pieceH arg2 harg2 arg3 harg3 arg4 harg4 arg7 harg7 x0 x1 x2 3 2 (off := ![3, 0, 256]) (offs := ![0, 3, 256]) rfl rfl inb_S4x512x384_S1x512x128_3_0_256 inb_S1x4x384_S1x1x128_0_3_256 inb_S512x7168_S512x7168_0_0 inb_S7168x512_S7168x512_0_0 _ (tile2_3 _ _ _) x
  · exact pieceH arg2 harg2 arg3 harg3 arg4 harg4 arg7 harg7 x0 x1 x2 2 2 (off := ![2, 0, 256]) (offs := ![0, 2, 256]) rfl rfl inb_S4x512x384_S1x512x128_2_0_256 inb_S1x4x384_S1x1x128_0_2_256 inb_S512x7168_S512x7168_0_0 inb_S7168x512_S7168x512_0_0 _ (tile2_2 _ _ _) x
  · exact pieceH arg2 harg2 arg3 harg3 arg4 harg4 arg7 harg7 x0 x1 x2 1 2 (off := ![1, 0, 256]) (offs := ![0, 1, 256]) rfl rfl inb_S4x512x384_S1x512x128_1_0_256 inb_S1x4x384_S1x1x128_0_1_256 inb_S512x7168_S512x7168_0_0 inb_S7168x512_S7168x512_0_0 _ (tile2_1 _ _ _) x
  · exact pieceH arg2 harg2 arg3 harg3 arg4 harg4 arg7 harg7 x0 x1 x2 0 2 (off := ![0, 0, 256]) (offs := ![0, 0, 256]) rfl rfl inb_S4x512x384_S1x512x128_0_0_256 inb_S1x4x384_S1x1x128_0_0_256 inb_S512x7168_S512x7168_0_0 inb_S7168x512_S7168x512_0_0 _ (tile2_0 _ _ _) x
  · exact pieceH arg2 harg2 arg3 harg3 arg4 harg4 arg7 harg7 x0 x1 x2 3 1 (off := ![3, 0, 128]) (offs := ![0, 3, 128]) rfl rfl inb_S4x512x384_S1x512x128_3_0_128 inb_S1x4x384_S1x1x128_0_3_128 inb_S512x7168_S512x7168_0_0 inb_S7168x512_S7168x512_0_0 _ (tile1_3 _ _ _) x
  · exact pieceH arg2 harg2 arg3 harg3 arg4 harg4 arg7 harg7 x0 x1 x2 2 1 (off := ![2, 0, 128]) (offs := ![0, 2, 128]) rfl rfl inb_S4x512x384_S1x512x128_2_0_128 inb_S1x4x384_S1x1x128_0_2_128 inb_S512x7168_S512x7168_0_0 inb_S7168x512_S7168x512_0_0 _ (tile1_2 _ _ _) x
  · exact pieceH arg2 harg2 arg3 harg3 arg4 harg4 arg7 harg7 x0 x1 x2 1 1 (off := ![1, 0, 128]) (offs := ![0, 1, 128]) rfl rfl inb_S4x512x384_S1x512x128_1_0_128 inb_S1x4x384_S1x1x128_0_1_128 inb_S512x7168_S512x7168_0_0 inb_S7168x512_S7168x512_0_0 _ (tile1_1 _ _ _) x
  · exact pieceH arg2 harg2 arg3 harg3 arg4 harg4 arg7 harg7 x0 x1 x2 0 1 (off := ![0, 0, 128]) (offs := ![0, 0, 128]) rfl rfl inb_S4x512x384_S1x512x128_0_0_128 inb_S1x4x384_S1x1x128_0_0_128 inb_S512x7168_S512x7168_0_0 inb_S7168x512_S7168x512_0_0 _ (tile1_0 _ _ _) x
  · exact pieceH arg2 harg2 arg3 harg3 arg4 harg4 arg7 harg7 x0 x1 x2 3 0 (off := ![3, 0, 0]) (offs := ![0, 3, 0]) rfl rfl inb_S4x512x384_S1x512x128_3_0_0 inb_S1x4x384_S1x1x128_0_3_0 inb_S512x7168_S512x7168_0_0 inb_S7168x512_S7168x512_0_0 _ (tile0_3 _ _ _) x
  · exact pieceH arg2 harg2 arg3 harg3 arg4 harg4 arg7 harg7 x0 x1 x2 2 0 (off := ![2, 0, 0]) (offs := ![0, 2, 0]) rfl rfl inb_S4x512x384_S1x512x128_2_0_0 inb_S1x4x384_S1x1x128_0_2_0 inb_S512x7168_S512x7168_0_0 inb_S7168x512_S7168x512_0_0 _ (tile0_2 _ _ _) x
  · exact pieceH arg2 harg2 arg3 harg3 arg4 harg4 arg7 harg7 x0 x1 x2 1 0 (off := ![1, 0, 0]) (offs := ![0, 1, 0]) rfl rfl inb_S4x512x384_S1x512x128_1_0_0 inb_S1x4x384_S1x1x128_0_1_0 inb_S512x7168_S512x7168_0_0 inb_S7168x512_S7168x512_0_0 _ (tile0_1 _ _ _) x
  · exact pieceH arg2 harg2 arg3 harg3 arg4 harg4 arg7 harg7 x0 x1 x2 0 0 (off := ![0, 0, 0]) (offs := ![0, 0, 0]) rfl rfl inb_S4x512x384_S1x512x128_0_0_0 inb_S1x4x384_S1x1x128_0_0_0 inb_S512x7168_S512x7168_0_0 inb_S7168x512_S7168x512_0_0 _ (tile0_0 _ _ _) x

/-- A load from the scratch reads `hblk`. -/
theorem readH (c : Dev nD) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg7 : Memref sig .tc .vmem S7168x512 .bf16) (harg7 : arg7.IsWhole) (arg8 : Memref sig .tc .vmem S4x512x384 .bf16)
    (x0 : Vec Ideal S512x7168 .bf16) (x1 : Vec Ideal S7168x384 .i8) (x2 : Vec Ideal S1x4x384 .f32)
    (q : Fin 4) (n : Fin 8) {off : Fin 3 → ℕ} (hoff : off = ![q.val, 0, 48 * n.val]) (inb : ∀ d, off d + S1x512x48.size d ≤ S4x512x384.size d) (t : Fin 512) (l : Fin 48) :
    arg8.view.readCov (kernelRun1_A.sl.HS1_12 c arg2 harg2 arg3 harg3 arg4 harg4 arg7 harg7 x0 x1 x2) (Rect.unit (s := S4x512x384) off S1x512x48.size inb).toLoadRect (ix3 0 t l)
      = hblk x0 x1 x2 q t ⟨48 * n.val + l.val, by omega⟩ := by
  subst hoff
  rw [View.readCov_eq_canon']
  refine (View.canon_apply_of_pieces (hG x0 x1 x2) _ (piecesH c arg2 harg2 arg3 harg3 arg4 harg4 arg7 harg7 x0 x1 x2) _
    (View.cover_of_tiledL (kernelRun1_A.sl.HS1_12 c arg2 harg2 arg3 harg3 arg4 harg4 arg7 harg7 x0 x1 x2) S1x512x128.size (by sl_kernel_rfl) _)).trans ?_
  unfold hG
  refine congr (congr (congrArg _ (Fin.ext ?_)) (Fin.ext ?_)) (Fin.ext ?_)
  · show q.val + 1 * 0 = _; omega
  · show 0 + 1 * t.val = _; omega
  · show 48 * n.val + 1 * l.val = 48 * n.val + l.val; omega

/-- A group's store agrees with `blk1`. -/
theorem pieceO (arg5 : Memref sig .tc .vmem S192x256 .bf16) (harg5 : arg5.IsWhole)
    (x0 : Vec Ideal S512x7168 .bf16) (x1 : Vec Ideal S7168x384 .i8) (x2 : Vec Ideal S1x4x384 .f32) (x3 : Vec Ideal S192x256 .bf16)
    (n : Fin 8) {off : Fin 2 → ℕ} (hoff : off = ![0, 256 * n.val])
    (inb : ∀ d, off d + S512x256.size d ≤ S512x2048.size d)
    (inb5 : ∀ d, (![0, 0] : Fin 2 → ℕ) d + S192x256.size d ≤ S192x256.size d)
    (pay : Vec Ideal S512x256 .bf16) (f0 f1 f2 f3 : Vec Ideal S1x512x48 .bf16)
    (hpay : ∀ (t : Fin 512) (m : Fin 256), pay (ix2 t m) = outT f0 f1 f2 f3
      (View.readAt (Elt Ideal) arg5.view (Rect.unit (s := S192x256) ![0, 0] S192x256.size inb5).toLoadRect (harg5.unread x3)) t m)
    (h0 : ∀ (t : Fin 512) (l : Fin 48), f0 (ix3 0 t l) = hblk x0 x1 x2 0 t ⟨48 * n.val + l.val, by omega⟩)
    (h1 : ∀ (t : Fin 512) (l : Fin 48), f1 (ix3 0 t l) = hblk x0 x1 x2 1 t ⟨48 * n.val + l.val, by omega⟩)
    (h2 : ∀ (t : Fin 512) (l : Fin 48), f2 (ix3 0 t l) = hblk x0 x1 x2 2 t ⟨48 * n.val + l.val, by omega⟩)
    (h3 : ∀ (t : Fin 512) (l : Fin 48), f3 (ix3 0 t l) = hblk x0 x1 x2 3 t ⟨48 * n.val + l.val, by omega⟩)
    (x : S512x256.Idx) :
    pay x = blk1 x0 x1 x2 x3 ((Rect.unit (s := S512x2048) off S512x256.size inb).emb x) := by
  subst hoff
  have hx1 : (x 1).val < 256 := (x 1).isLt
  have hn := n.isLt
  have hx : x = ix2 (x 0) (x 1) := by
    funext d
    match d with
    | ⟨0, _⟩ => rfl
    | ⟨1, _⟩ => rfl
  have e1 : (View.readAt (Elt Ideal) arg5.view (Rect.unit (s := S192x256) ![0, 0] S192x256.size inb5).toLoadRect (harg5.unread x3)) = x3 := by
    refine Eq.trans (funext fun j => ?_) (harg5.read_unread x3)
    refine congrArg (arg5.view.read (Elt Ideal) _) (funext fun d => Fin.ext ?_)
    match d with
    | ⟨0, _⟩ => show 0 + 1 * (j 0).val = (j 0).val; omega
    | ⟨1, _⟩ => show 0 + 1 * (j 1).val = (j 1).val; omega
  refine (congrArg pay hx).trans ((hpay (x 0) (x 1)).trans ?_)
  unfold outT blk1
  rw [e1]
  have hq : ∀ (q : Fin 4) (t : Fin 512) (l : Fin 48), (![f0, f1, f2, f3] q) (ix3 0 t l) = hblk x0 x1 x2 q t ⟨48 * n.val + l.val, by omega⟩ := by
    intro q t l
    match q with
    | ⟨0, _⟩ => exact h0 t l
    | ⟨1, _⟩ => exact h1 t l
    | ⟨2, _⟩ => exact h2 t l
    | ⟨3, _⟩ => exact h3 t l
  have a0 : (((Rect.unit (s := S512x2048) ![0, 256 * n.val] S512x256.size inb).emb x) 0 : Fin 512) = x 0 := Fin.ext (by show 0 + 1 * (x 0).val = _; omega)
  have a1 : (((Rect.unit (s := S512x2048) ![0, 256 * n.val] S512x256.size inb).emb x) 1).val = 256 * n.val + (x 1).val := by show 256 * n.val + 1 * (x 1).val = _; omega
  refine Finset.sum_congr rfl fun l _ => ?_
  refine congr (congrArg HMul.hMul ?_) (congrArg x3 (congrArg (ix2 l) (Fin.ext ?_)))
  · refine (hq ⟨l.val / 48, by omega⟩ (x 0) ⟨l.val % 48, by omega⟩).trans ?_
    refine congr (congrArg _ a0.symm) (Fin.ext ?_)
    show 48 * n.val + l.val % 48 = 48 * ((((Rect.unit (s := S512x2048) ![0, 256 * n.val] S512x256.size inb).emb x) 1).val / 256) + l.val % 48
    rw [a1]; omega
  · show (x 1).val = (((Rect.unit (s := S512x2048) ![0, 256 * n.val] S512x256.size inb).emb x) 1).val % 256
    rw [a1]; omega

/-- The block the body leaves in the output window. -/
theorem out1_eq (c : Dev nD) (i : grid1.Coords) (arg2 : Memref sig .tc .vmem S512x7168 .bf16) (harg2 : arg2.IsWhole) (arg3 : Memref sig .tc .vmem S7168x384 .i8) (harg3 : arg3.IsWhole) (arg4 : Memref sig .tc .vmem S1x4x384 .f32) (harg4 : arg4.IsWhole) (arg5 : Memref sig .tc .vmem S192x256 .bf16) (harg5 : arg5.IsWhole) (arg6 : Memref sig .tc .vmem S512x2048 .bf16) (harg6 : arg6.IsWhole) (arg7 : Memref sig .tc .vmem S7168x512 .bf16) (harg7 : arg7.IsWhole) (arg8 : Memref sig .tc .vmem S4x512x384 .bf16) (harg8 : arg8.IsWhole)
    (x0 : Vec Ideal S512x7168 .bf16) (x1 : Vec Ideal S7168x384 .i8) (x2 : Vec Ideal S1x4x384 .f32) (x3 : Vec Ideal S192x256 .bf16) :
    out1_A_4 c i arg2 harg2 arg3 harg3 arg4 harg4 arg5 harg5 arg6 harg6 arg7 harg7 arg8 harg8 x0 x1 x2 x3 = blk1 x0 x1 x2 x3 := by
  funext y
  refine View.read_writes_apply_of_pieces _ _ (blk1 x0 x1 x2 x3) _ ?_ y (cover1_A_4 c i arg2 harg2 arg3 harg3 arg4 harg4 arg5 harg5 arg6 harg6 arg7 harg7 arg8 harg8 x0 x1 x2 x3 y)
  intro p hp x
  unfold kernelRun1_A at hp
  dsimp only at hp
  simp only [List.mem_cons, List.not_mem_nil, or_false] at hp
  have rd := readH c arg2 harg2 arg3 harg3 arg4 harg4 arg7 harg7 arg8 x0 x1 x2
  rcases hp with rfl | rfl | rfl | rfl | rfl | rfl | rfl | rfl
  · exact pieceO arg5 harg5 x0 x1 x2 x3 7 (off := ![0, 1792]) rfl inb_S512x2048_S512x256_0_1792 inb_S192x256_S192x256_0_0 _ _ _ _ _ (grp7 _ _ _ _ _) (rd 0 7 (off := ![0, 0, 336]) rfl inb_S4x512x384_S1x512x48_0_0_336) (rd 1 7 (off := ![1, 0, 336]) rfl inb_S4x512x384_S1x512x48_1_0_336) (rd 2 7 (off := ![2, 0, 336]) rfl inb_S4x512x384_S1x512x48_2_0_336) (rd 3 7 (off := ![3, 0, 336]) rfl inb_S4x512x384_S1x512x48_3_0_336) x
  · exact pieceO arg5 harg5 x0 x1 x2 x3 6 (off := ![0, 1536]) rfl inb_S512x2048_S512x256_0_1536 inb_S192x256_S192x256_0_0 _ _ _ _ _ (grp6 _ _ _ _ _) (rd 0 6 (off := ![0, 0, 288]) rfl inb_S4x512x384_S1x512x48_0_0_288) (rd 1 6 (off := ![1, 0, 288]) rfl inb_S4x512x384_S1x512x48_1_0_288) (rd 2 6 (off := ![2, 0, 288]) rfl inb_S4x512x384_S1x512x48_2_0_288) (rd 3 6 (off := ![3, 0, 288]) rfl inb_S4x512x384_S1x512x48_3_0_288) x
  · exact pieceO arg5 harg5 x0 x1 x2 x3 5 (off := ![0, 1280]) rfl inb_S512x2048_S512x256_0_1280 inb_S192x256_S192x256_0_0 _ _ _ _ _ (grp5 _ _ _ _ _) (rd 0 5 (off := ![0, 0, 240]) rfl inb_S4x512x384_S1x512x48_0_0_240) (rd 1 5 (off := ![1, 0, 240]) rfl inb_S4x512x384_S1x512x48_1_0_240) (rd 2 5 (off := ![2, 0, 240]) rfl inb_S4x512x384_S1x512x48_2_0_240) (rd 3 5 (off := ![3, 0, 240]) rfl inb_S4x512x384_S1x512x48_3_0_240) x
  · exact pieceO arg5 harg5 x0 x1 x2 x3 4 (off := ![0, 1024]) rfl inb_S512x2048_S512x256_0_1024 inb_S192x256_S192x256_0_0 _ _ _ _ _ (grp4 _ _ _ _ _) (rd 0 4 (off := ![0, 0, 192]) rfl inb_S4x512x384_S1x512x48_0_0_192) (rd 1 4 (off := ![1, 0, 192]) rfl inb_S4x512x384_S1x512x48_1_0_192) (rd 2 4 (off := ![2, 0, 192]) rfl inb_S4x512x384_S1x512x48_2_0_192) (rd 3 4 (off := ![3, 0, 192]) rfl inb_S4x512x384_S1x512x48_3_0_192) x
  · exact pieceO arg5 harg5 x0 x1 x2 x3 3 (off := ![0, 768]) rfl inb_S512x2048_S512x256_0_768 inb_S192x256_S192x256_0_0 _ _ _ _ _ (grp3 _ _ _ _ _) (rd 0 3 (off := ![0, 0, 144]) rfl inb_S4x512x384_S1x512x48_0_0_144) (rd 1 3 (off := ![1, 0, 144]) rfl inb_S4x512x384_S1x512x48_1_0_144) (rd 2 3 (off := ![2, 0, 144]) rfl inb_S4x512x384_S1x512x48_2_0_144) (rd 3 3 (off := ![3, 0, 144]) rfl inb_S4x512x384_S1x512x48_3_0_144) x
  · exact pieceO arg5 harg5 x0 x1 x2 x3 2 (off := ![0, 512]) rfl inb_S512x2048_S512x256_0_512 inb_S192x256_S192x256_0_0 _ _ _ _ _ (grp2 _ _ _ _ _) (rd 0 2 (off := ![0, 0, 96]) rfl inb_S4x512x384_S1x512x48_0_0_96) (rd 1 2 (off := ![1, 0, 96]) rfl inb_S4x512x384_S1x512x48_1_0_96) (rd 2 2 (off := ![2, 0, 96]) rfl inb_S4x512x384_S1x512x48_2_0_96) (rd 3 2 (off := ![3, 0, 96]) rfl inb_S4x512x384_S1x512x48_3_0_96) x
  · exact pieceO arg5 harg5 x0 x1 x2 x3 1 (off := ![0, 256]) rfl inb_S512x2048_S512x256_0_256 inb_S192x256_S192x256_0_0 _ _ _ _ _ (grp1 _ _ _ _ _) (rd 0 1 (off := ![0, 0, 48]) rfl inb_S4x512x384_S1x512x48_0_0_48) (rd 1 1 (off := ![1, 0, 48]) rfl inb_S4x512x384_S1x512x48_1_0_48) (rd 2 1 (off := ![2, 0, 48]) rfl inb_S4x512x384_S1x512x48_2_0_48) (rd 3 1 (off := ![3, 0, 48]) rfl inb_S4x512x384_S1x512x48_3_0_48) x
  · exact pieceO arg5 harg5 x0 x1 x2 x3 0 (off := ![0, 0]) rfl inb_S512x2048_S512x256_0_0 inb_S192x256_S192x256_0_0 _ _ _ _ _ (grp0 _ _ _ _ _) (rd 0 0 (off := ![0, 0, 0]) rfl inb_S4x512x384_S1x512x48_0_0_0) (rd 1 0 (off := ![1, 0, 0]) rfl inb_S4x512x384_S1x512x48_1_0_0) (rd 2 0 (off := ![2, 0, 0]) rfl inb_S4x512x384_S1x512x48_2_0_0) (rd 3 0 (off := ![3, 0, 0]) rfl inb_S4x512x384_S1x512x48_3_0_0) x

end Cert.KernelIdeal.Val

end
-- ==== Proof.KernelIdeal.Arr1.lean ====
/-
What the product leaves in its whole output array.
-/
module

public import proofs.«01_k».proof.Proof.KernelIdeal.Block1
public import proofs.«01_k».proof.Proof.Spec
public import Idealize.ShloMosaic.Lib.Pipeline.ValueKit

@[expose] public section

set_option maxRecDepth 16384

noncomputable section

namespace Cert.KernelIdeal.Val

open Idealize.ShloMosaic Idealize.ShloMosaic.TcCoe Cert.KernelIdeal Cert.KernelIdeal.Gen Cert.KernelIdeal.Run
open Idealize.ShloMosaic.Pipeline

/-- The scaled product's element: field `q`, row `t`, code column `n`; the contraction reads the rows in the order the weights are laid out. -/
def hgl (X : Vec Ideal S6144x7168 .bf16) (C : Vec Ideal S7168x4608 .i8) (S : Vec Ideal S1x4x4608 .f32) (q : Fin 4) (t : Fin 6144) (n : Fin 4608) : EReal :=
  (∑ k : Fin 7168, X (ix2 t k) * Cert.Quip.wv (C (ix2 (⟨k.val / 128 * 128 + 2 * (k.val % 64) + k.val % 128 / 64, by omega⟩ : Fin 7168) n)) q) * S (ix3 0 q n)

/-- The array the product leaves. -/
def G1 (X : Vec Ideal S6144x7168 .bf16) (C : Vec Ideal S7168x4608 .i8) (S : Vec Ideal S1x4x4608 .f32) (U : Vec Ideal S192x256 .bf16) : Vec Ideal S6144x24576 .bf16 := fun y =>
  ∑ l : Fin 192, hgl X C S ⟨l.val / 48, by omega⟩ (y 0) ⟨48 * ((y 1).val / 256) + l.val % 48, by have h : (y 1).val < 24576 := (y 1).isLt; omega⟩ * U (ix2 l ⟨(y 1).val % 256, by omega⟩)

theorem sum192_congr {f g : Fin 192 → EReal} (h : ∀ l, f l = g l) : ∑ l, f l = ∑ l, g l := Finset.sum_congr rfl fun l _ => h l
theorem sum7168_congr {f g : Fin 7168 → EReal} (h : ∀ l, f l = g l) : ∑ l, f l = ∑ l, g l := Finset.sum_congr rfl fun l _ => h l

theorem idx1_0 : ∀ t : Fin grid1.N, win1_0.index t = ![(grid1.coords t 0).val, 0] := by decide +kernel
theorem idx1_1 : ∀ t : Fin grid1.N, win1_1.index t = ![0, (grid1.coords t 1).val] := by decide +kernel
theorem idx1_2 : ∀ t : Fin grid1.N, win1_2.index t = ![0, 0, (grid1.coords t 1).val] := by decide +kernel
theorem idx1_3 : ∀ t : Fin grid1.N, win1_3.index t = ![0, 0] := by decide +kernel
theorem idx1_4 : ∀ t : Fin grid1.N, win1_4.index t = ![(grid1.coords t 0).val, (grid1.coords t 1).val] := by decide +kernel

/-- `hblk` in terms of the codes. -/
theorem hblk_eq (x0 : Vec Ideal S512x7168 .bf16) (x1 : Vec Ideal S7168x384 .i8) (x2 : Vec Ideal S1x4x384 .f32) (q : Fin 4) (t : Fin 512) (n : Fin 384) :
    hblk x0 x1 x2 q t n = (∑ k : Fin 7168, x0 (ix2 t k) * Cert.Quip.wv (x1 (ix2 (⟨k.val / 128 * 128 + 2 * (k.val % 64) + k.val % 128 / 64, by omega⟩ : Fin 7168) n)) q) * x2 (ix3 0 q n) := by
  unfold hblk
  refine congrArg (· * _) (Finset.sum_congr rfl fun k _ => congrArg (_ * ·) ?_)
  rw [wdec_apply]
  have h1 : (⟨128 * (n.val / 128) + (128 * q.val + n.val % 128) % 128, by omega⟩ : Fin 384) = n := Fin.ext (by dsimp only; omega)
  have h2 : (⟨(128 * q.val + n.val % 128) / 128, by omega⟩ : Fin 4) = q := Fin.ext (by dsimp only; omega)
  exact congr (congrArg Cert.Quip.wv (congrArg x1 (congrArg (ix2 _) h1))) h2

theorem arr1 (V : (c : Dev nD) → (b : Ref sig .tc) → Buf (Elt Ideal) ((c : Thread nD τ).loc b)) (c : Dev nD) :
    (dat1 V c).arrAt 4 cfg1.N = G1 (V c main_v15) (V c main_arg3) (V c main_v18) (V c main_v23) := by
  refine (dat1 V c).arrAt_eq_of_covers 4 _ (by decide +kernel) fun t hf y => ?_
  blk_simp
  rw [after1_4]
  unfold outsAt1
  rw [out1_eq]
  have e0 := idx1_0 t
  have e1 := idx1_1 t
  have e2 := idx1_2 t
  have e3 := idx1_3 t
  have e4 := idx1_4 t
  unfold blk1 G1
  refine sum192_congr fun l => ?_
  have y1 : (y 1).val < 2048 := (y 1).isLt
  have yc : ((win1_4.blk t).view.emb y 1).val = (grid1.coords t 1).val * 2048 + (y 1).val := by blk_simp [e4]
  have yr : ((win1_4.blk t).view.emb y 0).val = (grid1.coords t 0).val * 512 + (y 0).val := by blk_simp [e4]
  refine congr (congrArg HMul.hMul ?_) ?_
  · refine (hblk_eq _ _ _ _ _ _).trans ?_
    unfold hgl
    refine congr (congrArg HMul.hMul (sum7168_congr fun k => congr (congrArg HMul.hMul ?_) ?_)) ?_
    · unfold iblk1
      refine congrArg (V c main_v15) ?_
      blk_ext [e0, e4]
    · unfold iblk1
      refine congrFun (congrArg Cert.Quip.wv (congrArg (V c main_arg3) ?_)) _
      blk_ext [e1, yc]
    · unfold iblk1
      refine congrArg (V c main_v18) ?_
      blk_ext [e2, yc]
  · unfold iblk1
    refine congrArg (V c main_v23) ?_
    blk_ext [e3, yc]

end Cert.KernelIdeal.Val

end
-- ==== Proof.KernelIdeal.Pay2.lean ====
/-
What the output rotation's stores hold, element by element.
-/
module

public import proofs.«01_k».proof.Proof.Gen.KernelIdeal.Skeleton
public import Idealize.ShloMosaic.Lib.Pointwise

@[expose] public section

noncomputable section

namespace Cert.KernelIdeal.Val

open Idealize.ShloMosaic Cert.KernelIdeal Cert.KernelIdeal.Gen

/-- The rotation of one word row of the product: row and column of the result are those of the flat feature. -/
def rot2 (A : Vec Ideal S1x192x2x128 .bf16) (K : Vec Ideal S192x192 .bf16) (p : Fin 144) (e : Fin 2) (l : Fin 128) : EReal :=
  ∑ x : Fin 192, K (ix2 ⟨2 * ((p.val * 128 + l.val) / 192) + e.val, by omega⟩ x)
    * A (ix4 0 ⟨x.val / 2 * 2 + (p.val * 128 + l.val) % 192 / 128, by omega⟩ ⟨x.val % 2, by omega⟩ ⟨(p.val * 128 + l.val) % 192 % 128, by omega⟩)

/-- The element of the parity read. -/
theorem ite_parity2 {p q : ℕ} (A : (⟨4, ![1, p, 2, q]⟩ : Shape).Idx → EReal) (x : ℕ) (b : Fin p) (k : Fin q) :
    (if x % 2 = 0 then A (ix4 0 b 0 k) else A (ix4 0 b 1 k)) = A (ix4 0 b ⟨x % 2, by omega⟩ k) := by
  split
  · rename_i h; exact congrArg (fun e => A (ix4 0 b e k)) (Fin.ext h.symm)
  · rename_i h; exact congrArg (fun e => A (ix4 0 b e k)) (Fin.ext (by show 1 = x % 2; omega))

theorem term_congr (A : Vec Ideal S1x192x2x128 .bf16) (K : Vec Ideal S192x192 .bf16) {r r' x a a' : Fin 192} {s : Fin 2} {c c' : Fin 128}
    (hr : r.val = r'.val) (ha : a.val = a'.val) (hc : c.val = c'.val) :
    K (ix2 r x) * A (ix4 0 a s c) = K (ix2 r' x) * A (ix4 0 a' s c') := by
  rw [Fin.ext hr, Fin.ext ha, Fin.ext hc]

theorem k2_pay1_apply (A : Vec Ideal S1x192x2x128 .bf16) (K : Vec Ideal S192x192 .bf16)
    (p : Fin 144) (e : Fin 2) (l : Fin 128) : k2_pay1 A K (ix4 0 p e l) = rot2 A K p e l := by
  fin_cases e <;> pointwise [k2_pay1, rot2, dot_S192x192_S192x256_S192x256_1_0_0_1_n_n]
  all_goals
    have hp : p.val = 3 * (p.val / 3) + p.val % 3 := by omega
    have hl := l.isLt
    split
    · rename_i h
      have hd : (p.val * 128 + l.val) / 192 = p.val / 3 * 2 := by omega
      have hm : (p.val * 128 + l.val) % 192 = p.val % 3 * 128 + l.val := by omega
      refine Finset.sum_congr rfl fun x _ => ?_
      split <;> rename_i h1 <;>
        exact (congrArg (_ * ·) (ite_parity2 A x.val _ _)).trans (term_congr A K (by simp only [hd]; try omega) (by simp only [hm]; omega) (by simp only [hm]; omega))
    · rename_i h
      have hd : (p.val * 128 + l.val) / 192 = p.val / 3 * 2 + 1 := by omega
      have hm : (p.val * 128 + l.val) % 192 = p.val % 3 * 128 + l.val - 192 := by omega
      refine Finset.sum_congr rfl fun x _ => ?_
      split <;> rename_i h1 <;>
        exact (congrArg (_ * ·) (ite_parity2 A x.val _ _)).trans (term_congr A K (by simp only [hd]; try omega) (by simp only [hm]; omega) (by simp only [hm]; omega))

theorem k2_pay2_apply (A : Vec Ideal S1x192x2x128 .bf16) (K : Vec Ideal S192x192 .bf16)
    (p : Fin 144) (e : Fin 2) (l : Fin 128) : k2_pay2 A K (ix4 0 p e l) = rot2 A K p e l := by
  fin_cases e <;> pointwise [k2_pay2, rot2, dot_S192x192_S192x256_S192x256_1_0_0_1_n_n]
  all_goals
    have hp : p.val = 3 * (p.val / 3) + p.val % 3 := by omega
    have hl := l.isLt
    split
    · rename_i h
      have hd : (p.val * 128 + l.val) / 192 = p.val / 3 * 2 := by omega
      have hm : (p.val * 128 + l.val) % 192 = p.val % 3 * 128 + l.val := by omega
      refine Finset.sum_congr rfl fun x _ => ?_
      split <;> rename_i h1 <;>
        exact (congrArg (_ * ·) (ite_parity2 A x.val _ _)).trans (term_congr A K (by simp only [hd]; try omega) (by simp only [hm]; omega) (by simp only [hm]; omega))
    · rename_i h
      have hd : (p.val * 128 + l.val) / 192 = p.val / 3 * 2 + 1 := by omega
      have hm : (p.val * 128 + l.val) % 192 = p.val % 3 * 128 + l.val - 192 := by omega
      refine Finset.sum_congr rfl fun x _ => ?_
      split <;> rename_i h1 <;>
        exact (congrArg (_ * ·) (ite_parity2 A x.val _ _)).trans (term_congr A K (by simp only [hd]; try omega) (by simp only [hm]; omega) (by simp only [hm]; omega))

theorem k2_pay3_apply (A : Vec Ideal S1x192x2x128 .bf16) (K : Vec Ideal S192x192 .bf16)
    (p : Fin 144) (e : Fin 2) (l : Fin 128) : k2_pay3 A K (ix4 0 p e l) = rot2 A K p e l := by
  fin_cases e <;> pointwise [k2_pay3, rot2, dot_S192x192_S192x256_S192x256_1_0_0_1_n_n]
  all_goals
    have hp : p.val = 3 * (p.val / 3) + p.val % 3 := by omega
    have hl := l.isLt
    split
    · rename_i h
      have hd : (p.val * 128 + l.val) / 192 = p.val / 3 * 2 := by omega
      have hm : (p.val * 128 + l.val) % 192 = p.val % 3 * 128 + l.val := by omega
      refine Finset.sum_congr rfl fun x _ => ?_
      split <;> rename_i h1 <;>
        exact (congrArg (_ * ·) (ite_parity2 A x.val _ _)).trans (term_congr A K (by simp only [hd]; try omega) (by simp only [hm]; omega) (by simp only [hm]; omega))
    · rename_i h
      have hd : (p.val * 128 + l.val) / 192 = p.val / 3 * 2 + 1 := by omega
      have hm : (p.val * 128 + l.val) % 192 = p.val % 3 * 128 + l.val - 192 := by omega
      refine Finset.sum_congr rfl fun x _ => ?_
      split <;> rename_i h1 <;>
        exact (congrArg (_ * ·) (ite_parity2 A x.val _ _)).trans (term_congr A K (by simp only [hd]; try omega) (by simp only [hm]; omega) (by simp only [hm]; omega))

theorem k2_pay4_apply (A : Vec Ideal S1x192x2x128 .bf16) (K : Vec Ideal S192x192 .bf16)
    (p : Fin 144) (e : Fin 2) (l : Fin 128) : k2_pay4 A K (ix4 0 p e l) = rot2 A K p e l := by
  fin_cases e <;> pointwise [k2_pay4, rot2, dot_S192x192_S192x256_S192x256_1_0_0_1_n_n]
  all_goals
    have hp : p.val = 3 * (p.val / 3) + p.val % 3 := by omega
    have hl := l.isLt
    split
    · rename_i h
      have hd : (p.val * 128 + l.val) / 192 = p.val / 3 * 2 := by omega
      have hm : (p.val * 128 + l.val) % 192 = p.val % 3 * 128 + l.val := by omega
      refine Finset.sum_congr rfl fun x _ => ?_
      split <;> rename_i h1 <;>
        exact (congrArg (_ * ·) (ite_parity2 A x.val _ _)).trans (term_congr A K (by simp only [hd]; try omega) (by simp only [hm]; omega) (by simp only [hm]; omega))
    · rename_i h
      have hd : (p.val * 128 + l.val) / 192 = p.val / 3 * 2 + 1 := by omega
      have hm : (p.val * 128 + l.val) % 192 = p.val % 3 * 128 + l.val - 192 := by omega
      refine Finset.sum_congr rfl fun x _ => ?_
      split <;> rename_i h1 <;>
        exact (congrArg (_ * ·) (ite_parity2 A x.val _ _)).trans (term_congr A K (by simp only [hd]; try omega) (by simp only [hm]; omega) (by simp only [hm]; omega))

end Cert.KernelIdeal.Val

end
-- ==== Proof.KernelIdeal.Block2.lean ====
/-
What the output rotation leaves in its output block, element by element.
-/
module

public import proofs.«01_k».proof.Proof.KernelIdeal.Region2
public import proofs.«01_k».proof.Proof.KernelIdeal.Pay2

@[expose] public section

set_option maxRecDepth 16384

noncomputable section

namespace Cert.KernelIdeal.Val

open Idealize.ShloMosaic Cert.KernelIdeal Cert.KernelIdeal.Gen Cert.KernelIdeal.Run

/-- The block the output rotation leaves. -/
def blk2 (x0 : Vec Ideal S4x192x8x128 .bf16) (x1 : Vec Ideal S192x192 .bf16) : Vec Ideal S4x144x8x128 .bf16 := fun y =>
  rot2 (fun z => x0 (ix4 (y 0) (z 1) ⟨2 * ((y 2).val / 2) + (z 2).val, by have h : (y 2).val < 8 := (y 2).isLt; have h' : (z 2).val < 2 := (z 2).isLt; omega⟩ (z 3)))
    x1 (y 1) ⟨(y 2).val % 2, by omega⟩ (y 3)

/-- A store of the payload at word row `r` of group `g` agrees with `blk2`. -/
theorem piece2 (arg1 : Memref sig .tc .vmem S4x192x8x128 .bf16) (arg2 : Memref sig .tc .vmem S192x192 .bf16)
    (X1 : BufTy.Contents (Elt Ideal) arg1.view.ty) (X2 : BufTy.Contents (Elt Ideal) arg2.view.ty)
    {off off1 : Fin 4 → ℕ} (g : ℕ) (r : Fin 4) (hoff : off = ![g, 0, 2 * r.val, 0]) (hoff1 : off1 = ![g, 0, 2 * r.val, 0])
    (inb : ∀ d, off d + (![1, 144, 2, 128] : Fin 4 → ℕ) d ≤ S4x144x8x128.size d)
    (inb1 : ∀ d, off1 d + (![1, 192, 2, 128] : Fin 4 → ℕ) d ≤ S4x192x8x128.size d)
    (inb2 : ∀ d, (![0, 0] : Fin 2 → ℕ) d + (![192, 192] : Fin 2 → ℕ) d ≤ S192x192.size d)
    (pay : Vec Ideal S1x144x2x128 .bf16)
    (hpay : ∀ (b : Fin 144) (e : Fin 2) (k : Fin 128), pay (ix4 0 b e k) = rot2
      (View.readAt (Elt Ideal) arg1.view (Rect.unit (s := S4x192x8x128) off1 ![1, 192, 2, 128] inb1).toLoadRect X1)
      (View.readAt (Elt Ideal) arg2.view (Rect.unit (s := S192x192) ![0, 0] ![192, 192] inb2).toLoadRect X2) b e k)
    (x : S1x144x2x128.Idx) :
    pay x = blk2 (arg1.view.read (Elt Ideal) X1) (arg2.view.read (Elt Ideal) X2)
      ((Rect.unit (s := S4x144x8x128) off ![1, 144, 2, 128] inb).emb x) := by
  subst hoff; subst hoff1
  have h0 : (x 0).val < 1 := (x 0).isLt
  have h2 : (x 2).val < 2 := (x 2).isLt
  have hr := r.isLt
  have hx : x = ix4 0 (x 1) (x 2) (x 3) := by
    funext d
    match d with
    | ⟨0, _⟩ => exact Fin.ext (by show (x 0).val = 0; omega)
    | ⟨1, _⟩ => rfl
    | ⟨2, _⟩ => rfl
    | ⟨3, _⟩ => rfl
  have e1 : (View.readAt (Elt Ideal) arg2.view (Rect.unit (s := S192x192) ![0, 0] ![192, 192] inb2).toLoadRect X2) = arg2.view.read (Elt Ideal) X2 := by
    funext j
    refine congrArg (arg2.view.read (Elt Ideal) X2) (funext fun d => Fin.ext ?_)
    match d with
    | ⟨0, _⟩ => show 0 + 1 * (j 0).val = (j 0).val; omega
    | ⟨1, _⟩ => show 0 + 1 * (j 1).val = (j 1).val; omega
  refine (congrArg pay hx).trans ((hpay (x 1) (x 2) (x 3)).trans ?_)
  rw [e1]
  unfold blk2
  have a1 : (((Rect.unit (s := S4x144x8x128) ![g, 0, 2 * r.val, 0] ![1, 144, 2, 128] inb).emb x) 1 : Fin 144) = x 1 := Fin.ext (by show 0 + 1 * (x 1).val = _; omega)
  have a2 : (⟨(((Rect.unit (s := S4x144x8x128) ![g, 0, 2 * r.val, 0] ![1, 144, 2, 128] inb).emb x) 2).val % 2, by omega⟩ : Fin 2) = x 2 :=
    Fin.ext (by show (2 * r.val + 1 * (x 2).val) % 2 = _; omega)
  have a3 : (((Rect.unit (s := S4x144x8x128) ![g, 0, 2 * r.val, 0] ![1, 144, 2, 128] inb).emb x) 3 : Fin 128) = x 3 := Fin.ext (by show 0 + 1 * (x 3).val = _; omega)
  refine Eq.trans ?_ (congr (congr (congrArg _ a1.symm) a2.symm) a3.symm)
  refine congrArg (fun A => rot2 A _ (x 1) (x 2) (x 3)) (funext fun z => ?_)
  refine congrArg (arg1.view.read (Elt Ideal) X1) (funext fun d => Fin.ext ?_)
  have z0 : (z 0).val < 1 := (z 0).isLt
  match d with
  | ⟨0, _⟩ => show g + 1 * (z 0).val = g + 1 * (x 0).val; omega
  | ⟨1, _⟩ => show 0 + 1 * (z 1).val = (z 1).val; omega
  | ⟨2, _⟩ => show 2 * r.val + 1 * (z 2).val = 2 * ((2 * r.val + 1 * (x 2).val) / 2) + (z 2).val; omega
  | ⟨3, _⟩ => show 0 + 1 * (z 3).val = (z 3).val; omega

theorem trip2 (𝒱 : Variants) (c : Dev nD) (bd : Option 𝒱.V) (i : grid2.Coords) (arg1 : Memref sig .tc .vmem S4x192x8x128 .bf16) (harg1 : arg1.IsWhole) (arg2 : Memref sig .tc .vmem S192x192 .bf16) (harg2 : arg2.IsWhole) (arg3 : Memref sig .tc .vmem S4x144x8x128 .bf16) (harg3 : arg3.IsWhole)
    (X1 : BufTy.Contents (Elt Ideal) arg1.view.ty) (X2 : BufTy.Contents (Elt Ideal) arg2.view.ty) (k : Fin k2_t1_loop.trips) :
    ∀ p ∈ tripL_k2_t1 (F := Ideal) 𝒱 c bd i arg1 harg1 arg2 harg2 arg3 harg3 X1 X2 k, ∀ x : p.1.shape.Idx,
      p.2 x = blk2 (arg1.view.read (Elt Ideal) X1) (arg2.view.read (Elt Ideal) X2) (p.1.emb x) := by
  intro p hp x
  unfold tripL_k2_t1 trip_k2_t1 at hp
  dsimp only at hp
  simp only [List.mem_cons, List.not_mem_nil, or_false] at hp
  rcases hp with rfl | rfl | rfl | rfl
  · exact piece2 arg1 arg2 X1 X2 k.val 3 (k2_off8_eq k) (k2_off7_eq k) (k2_off8_inb k) (k2_off7_inb k) inb_S192x192_S192x192_0_0 _ (k2_pay1_apply _ _) x
  · exact piece2 arg1 arg2 X1 X2 k.val 2 (k2_off6_eq k) (k2_off5_eq k) (k2_off6_inb k) (k2_off5_inb k) inb_S192x192_S192x192_0_0 _ (k2_pay4_apply _ _) x
  · exact piece2 arg1 arg2 X1 X2 k.val 1 (k2_off4_eq k) (k2_off3_eq k) (k2_off4_inb k) (k2_off3_inb k) inb_S192x192_S192x192_0_0 _ (k2_pay3_apply _ _) x
  · exact piece2 arg1 arg2 X1 X2 k.val 0 (k2_off2_eq k) (k2_off1_eq k) (k2_off2_inb k) (k2_off1_inb k) inb_S192x192_S192x192_0_0 _ (k2_pay2_apply _ _) x

theorem trips2 (𝒱 : Variants) (c : Dev nD) (bd : Option 𝒱.V) (i : grid2.Coords) (arg1 : Memref sig .tc .vmem S4x192x8x128 .bf16) (harg1 : arg1.IsWhole) (arg2 : Memref sig .tc .vmem S192x192 .bf16) (harg2 : arg2.IsWhole) (arg3 : Memref sig .tc .vmem S4x144x8x128 .bf16) (harg3 : arg3.IsWhole)
    (X1 : BufTy.Contents (Elt Ideal) arg1.view.ty) (X2 : BufTy.Contents (Elt Ideal) arg2.view.ty) :
    ∀ n ≤ k2_t1_loop.trips, ∀ p ∈ pb_k2_t1 (F := Ideal) 𝒱 c bd i arg1 harg1 arg2 harg2 arg3 harg3 X1 X2 n, ∀ x : p.1.shape.Idx,
      p.2 x = blk2 (arg1.view.read (Elt Ideal) X1) (arg2.view.read (Elt Ideal) X2) (p.1.emb x)
  | 0, _, p, hp, _ => by rw [pb_k2_t1.eq_1] at hp; exact absurd hp List.not_mem_nil
  | n + 1, hn, p, hp, x => by
    rw [pb_k2_t1_succ (F := Ideal) 𝒱 c bd i arg1 harg1 arg2 harg2 arg3 harg3 X1 X2 ⟨n, hn⟩] at hp
    rcases List.mem_append.mp hp with h | h
    · exact trip2 𝒱 c bd i arg1 harg1 arg2 harg2 arg3 harg3 X1 X2 ⟨n, hn⟩ p h x
    · exact trips2 𝒱 c bd i arg1 harg1 arg2 harg2 arg3 harg3 X1 X2 n (by omega) p h x

/-- The block the body leaves in the output window. -/
theorem out2_eq (c : Dev nD) (i : grid2.Coords) (arg1 : Memref sig .tc .vmem S4x192x8x128 .bf16) (harg1 : arg1.IsWhole) (arg2 : Memref sig .tc .vmem S192x192 .bf16) (harg2 : arg2.IsWhole) (arg3 : Memref sig .tc .vmem S4x144x8x128 .bf16) (harg3 : arg3.IsWhole)
    (x0 : Vec Ideal S4x192x8x128 .bf16) (x1 : Vec Ideal S192x192 .bf16) :
    out2_A_2 c i arg1 harg1 arg2 harg2 arg3 harg3 x0 x1 = blk2 x0 x1 := by
  funext y
  refine View.read_writes_apply_of_pieces _ _ (blk2 x0 x1) _ ?_ y (cover2_A_2 c i arg1 harg1 arg2 harg2 arg3 harg3 x0 x1 y)
  intro p hp x
  unfold kernelRun2_A at hp
  dsimp only at hp
  refine (trips2 _ c _ i arg1 harg1 arg2 harg2 arg3 harg3 (harg1.unread x0) (harg2.unread x1) k2_t1_loop.trips le_rfl p hp x).trans ?_
  rw [harg1.read_unread, harg2.read_unread]

end Cert.KernelIdeal.Val

end
-- ==== Proof.KernelIdeal.Arr2.lean ====
/-
What the output rotation leaves in its whole output array.
-/
module

public import proofs.«01_k».proof.Proof.KernelIdeal.Block2
public import Idealize.ShloMosaic.Lib.Pipeline.ValueKit

@[expose] public section

set_option maxRecDepth 16384

noncomputable section

namespace Cert.KernelIdeal.Val

open Idealize.ShloMosaic Idealize.ShloMosaic.TcCoe Cert.KernelIdeal Cert.KernelIdeal.Gen Cert.KernelIdeal.Run
open Idealize.ShloMosaic.Pipeline

/-- The array the output rotation leaves. -/
def G2 (A : Vec Ideal S768x192x8x128 .bf16) (K : Vec Ideal S192x192 .bf16) : Vec Ideal S768x144x8x128 .bf16 := fun y =>
  rot2 (fun z => A (ix4 (y 0) (z 1) ⟨2 * ((y 2).val / 2) + (z 2).val, by have h : (y 2).val < 8 := (y 2).isLt; have h' : (z 2).val < 2 := (z 2).isLt; omega⟩ (z 3)))
    K (y 1) ⟨(y 2).val % 2, by omega⟩ (y 3)

theorem rot2_congr {A A' : Vec Ideal S1x192x2x128 .bf16} {K K' : Vec Ideal S192x192 .bf16} {b b' : Fin 144} {e e' : Fin 2} {k k' : Fin 128}
    (hA : A = A') (hK : K = K') (hb : b = b') (he : e = e') (hk : k = k') : rot2 A K b e k = rot2 A' K' b' e' k' := by
  subst hA hK hb he hk; rfl

theorem idx2_0 : ∀ t : Fin grid2.N, win2_0.index t = ![(grid2.coords t 0).val, 0, 0, 0] := by decide +kernel
theorem idx2_1 : ∀ t : Fin grid2.N, win2_1.index t = ![0, 0] := by decide +kernel
theorem idx2_2 : ∀ t : Fin grid2.N, win2_2.index t = ![(grid2.coords t 0).val, 0, 0, 0] := by decide +kernel

theorem arr2 (V : (c : Dev nD) → (b : Ref sig .tc) → Buf (Elt Ideal) ((c : Thread nD τ).loc b)) (c : Dev nD) :
    (dat2 V c).arrAt 2 cfg2.N = G2 (V c main_v27) (V c main_v25) := by
  refine (dat2 V c).arrAt_eq_of_covers 2 _ (by decide +kernel) fun t hf y => ?_
  blk_simp
  rw [after2_2]
  unfold outsAt2
  rw [out2_eq]
  have e0 := idx2_0 t
  have e1 := idx2_1 t
  have e2 := idx2_2 t
  unfold blk2 G2 iblk2
  blk_simp [e0, e1, e2]
  have a1 : (((win2_2.blk t).view.emb y 1 : Fin 144)) = y 1 := Fin.ext (by blk_simp [e2])
  have a3 : (((win2_2.blk t).view.emb y 3 : Fin 128)) = y 3 := Fin.ext (by blk_simp [e2])
  have b1 : (View.read (Elt Ideal) ((cfg2.win 1).blk t).view (V c (arrRef spec2 1)) : Vec Ideal S192x192 .bf16) = V c main_v25 := by
    funext j
    exact congrArg (V c main_v25) (show (win2_1.blk t).view.emb j = j by blk_ext [e1])
  refine rot2_congr (funext fun z => ?_) b1 a1.symm rfl a3.symm
  refine congrArg (V c main_v27) ?_
  blk_ext [e0, e2]

end Cert.KernelIdeal.Val

end
-- ==== Proof.KernelIdeal.Host.lean ====
/-
What the operations between the kernel's three calls compute, element by element.
-/
module

public import proofs.«01_k».proof.Proof.Gen.KernelIdeal.Launch
public import Idealize.ShloMosaic.Lib.Pointwise
public import Idealize.ShloMosaic.Lib.StableHlo.Run
public import Idealize.ShloMosaic.Lib.Claim

@[expose] public section

set_option maxRecDepth 16384

noncomputable section

namespace Cert.KernelIdeal.Val

open Idealize.ShloMosaic Idealize.ShloMosaic.TcCoe Cert.KernelIdeal Cert.KernelIdeal.Gen

variable (X : Valuation τ sig (Elt Ideal))

/-- The product of two values. -/
def emul (a b : EReal) : EReal := a * b

theorem h_v5 (p q : Fin 2) : (StableHlo.after hostOps0 X (Proc.devRef .tc main_v5) : Vec Ideal S2x2 .bf16) (ix2 p q) = (if p = q then 1 else 0 : EReal) := by
  after_results_simp
  pointwise []
  match p, q with
  | 0, 0 => rw [if_pos rfl]; refine Eq.trans (b := (((1 : ℕ) : ℝ) : EReal)) rfl (by simp)
  | 0, 1 => rw [if_neg (by decide)]; refine Eq.trans (b := (((0 : ℕ) : ℝ) : EReal)) rfl (by simp)
  | 1, 0 => rw [if_neg (by decide)]; refine Eq.trans (b := (((0 : ℕ) : ℝ) : EReal)) rfl (by simp)
  | 1, 1 => rw [if_pos rfl]; refine Eq.trans (b := (((1 : ℕ) : ℝ) : EReal)) rfl (by simp)

theorem h_v8 (j k : Fin 128) : (StableHlo.after hostOps0 X (Proc.devRef .tc main_v8) : Vec Ideal S128x128 .bf16) (ix2 j k)
    = (X (Proc.devRef .tc main_arg2) : Vec Ideal S128x128 .bf16) (ix2 j ⟨2 * (k.val % 64) + k.val / 64, by omega⟩) := by
  after_results_simp
  after_results_loop
  pointwise []
  have hk := k.isLt
  split
  · exact congrArg (X (Proc.devRef .tc main_arg2)) (congrArg (ix2 j) (Fin.ext (by show 2 * k.val = 2 * (k.val % 64) + k.val / 64; omega)))
  · exact congrArg (X (Proc.devRef .tc main_arg2)) (congrArg (ix2 j) (Fin.ext (by show 1 + 2 * (k.val - 64) = 2 * (k.val % 64) + k.val / 64; omega)))

theorem h_v9 (j k : Fin 56) : (StableHlo.after hostOps0 X (Proc.devRef .tc main_v9) : Vec Ideal S56x56 .bf16) (ix2 j k)
    = (X (Proc.devRef .tc main_arg1) : Vec Ideal S56x56 .bf16) (ix2 k j) := by
  after_results_simp
  pointwise []

theorem h_v10 (p a : Fin 112) : (StableHlo.after hostOps0_1 X (Proc.devRef .tc main_v10) : Vec Ideal S112x112 .bf16) (ix2 p a)
    = emul ((X (Proc.devRef .tc main_v9) : Vec Ideal S56x56 .bf16) (ix2 ⟨p.val / 2, by omega⟩ ⟨a.val / 2, by omega⟩)) ((X (Proc.devRef .tc main_v5) : Vec Ideal S2x2 .bf16) (ix2 ⟨p.val % 2, by omega⟩ ⟨a.val % 2, by omega⟩)) := by
  after_results_simp
  simp only [StableHlo.TRef.toBuf, StableHlo.TRef.ofBuf, cast_eq]
  pointwise []
  rfl

theorem h_v12 (g : Fin 768) (a : Fin 56) (w : Fin 8) (j : Fin 128) : (StableHlo.after hostOps0_2 X (Proc.devRef .tc main_v12) : Vec Ideal S768x56x8x128 .bf16) (ix4 g a w j)
    = (X (Proc.devRef .tc main_arg0) : Vec Ideal S6x1024x7168 .bf16) (ix3 ⟨(g.val * 8 + w.val) / 1024, by omega⟩ ⟨(g.val * 8 + w.val) % 1024, by omega⟩ ⟨a.val * 128 + j.val, by omega⟩) := by
  after_results_simp
  pointwise []
  refine congrArg (X (Proc.devRef .tc main_arg0)) ?_
  exact congrFun (congr (congrArg ix3 (Fin.ext (by show g.val / 128 = (g.val * 8 + w.val) / 1024; omega))) (Fin.ext (by show g.val % 128 * 8 + w.val = (g.val * 8 + w.val) % 1024; omega))) _

theorem h_v15 (t : Fin 6144) (k : Fin 7168) : (StableHlo.after hostOps1 X (Proc.devRef .tc main_v15) : Vec Ideal S6144x7168 .bf16) (ix2 t k)
    = (X (Proc.devRef .tc main_v13) : Vec Ideal S768x56x8x128 .bf16) (ix4 ⟨t.val / 8, by omega⟩ ⟨k.val / 128, by omega⟩ ⟨t.val % 8, by omega⟩ ⟨k.val % 128, by omega⟩) := by
  after_results_simp
  pointwise []

theorem h_v18 (q : Fin 4) (n : Fin 4608) : (StableHlo.after hostOps1 X (Proc.devRef .tc main_v18) : Vec Ideal S1x4x4608 .f32) (ix3 0 q n)
    = (X (Proc.devRef .tc main_arg4) : Vec Ideal S18432 .f32) (ix1 ⟨n.val * 4 + q.val, by omega⟩) := by
  after_results_simp
  pointwise []

theorem h_v22 (l m : Fin 192) : (StableHlo.after hostOps1 X (Proc.devRef .tc main_v22) : Vec Ideal S192x192 .bf16) (ix2 l m)
    = (X (Proc.devRef .tc main_arg6) : Vec Ideal S192x192 .bf16) (ix2 m ⟨l.val % 48 * 4 + l.val / 48, by omega⟩) := by
  after_results_simp
  pointwise []

theorem h_v23 (l : Fin 192) (m : Fin 256) (hm : m.val < 192) : (StableHlo.after hostOps1_1 X (Proc.devRef .tc main_v23) : Vec Ideal S192x256 .bf16) (ix2 l m)
    = (X (Proc.devRef .tc main_v22) : Vec Ideal S192x192 .bf16) (ix2 l ⟨m.val, hm⟩) := by
  after_results_simp
  simp only [StableHlo.TRef.toBuf, StableHlo.TRef.ofBuf, cast_eq]
  pointwise []
  exact dif_pos hm

theorem h_v25 (p a : Fin 192) : (StableHlo.after hostOps2 X (Proc.devRef .tc main_v25) : Vec Ideal S192x192 .bf16) (ix2 p a)
    = emul ((X (Proc.devRef .tc main_arg5) : Vec Ideal S96x96 .bf16) (ix2 ⟨p.val / 2, by omega⟩ ⟨a.val / 2, by omega⟩)) ((X (Proc.devRef .tc main_v5) : Vec Ideal S2x2 .bf16) (ix2 ⟨p.val % 2, by omega⟩ ⟨a.val % 2, by omega⟩)) := by
  after_results_simp
  simp only [StableHlo.TRef.toBuf, StableHlo.TRef.ofBuf, cast_eq]
  pointwise []
  rfl

theorem h_v27 (g : Fin 768) (a : Fin 192) (w : Fin 8) (j : Fin 128) : (StableHlo.after hostOps2_1 X (Proc.devRef .tc main_v27) : Vec Ideal S768x192x8x128 .bf16) (ix4 g a w j)
    = (X (Proc.devRef .tc main_v24) : Vec Ideal S6144x24576 .bf16) (ix2 ⟨g.val * 8 + w.val, by omega⟩ ⟨a.val * 128 + j.val, by omega⟩) := by
  after_results_simp
  pointwise []

theorem h_v30 (i : Fin 6) (s : Fin 1024) (n : Fin 18432) : (StableHlo.after hostOps3 X (Proc.devRef .tc main_v30) : Vec Ideal S6x1024x18432 .bf16) (ix3 i s n)
    = (X (Proc.devRef .tc main_v28) : Vec Ideal S768x144x8x128 .bf16) (ix4 ⟨(i.val * 1024 + s.val) / 8, by omega⟩ ⟨n.val / 128, by omega⟩ ⟨(i.val * 1024 + s.val) % 8, by omega⟩ ⟨n.val % 128, by omega⟩) := by
  after_results_simp
  pointwise []
  refine congrArg (X (Proc.devRef .tc main_v28)) ?_
  exact congrFun (congr (congrFun (congrArg ix4 (Fin.ext (by show i.val * 128 + s.val / 8 = (i.val * 1024 + s.val) / 8; omega))) _) (Fin.ext (by show s.val % 8 = (i.val * 1024 + s.val) % 8; omega))) _

end Cert.KernelIdeal.Val

end
-- ==== Proof.KernelIdeal.Sums.lean ====
/-
The three arrays, rearranged: each sum over interleaved or permuted columns is the plain sum.
-/
module

public import proofs.«01_k».proof.Proof.Spec
public import proofs.«01_k».proof.Proof.KernelIdeal.Arr0
public import proofs.«01_k».proof.Proof.KernelIdeal.Arr1
public import proofs.«01_k».proof.Proof.KernelIdeal.Arr2
public import proofs.«01_k».proof.Proof.KernelIdeal.Host

@[expose] public section

set_option maxRecDepth 16384

noncomputable section

namespace Cert.KernelIdeal.Val

open Idealize.ShloMosaic Cert.KernelIdeal Cert.Quip

/-- A sum whose terms of the other parity vanish is the sum over the pairs. -/
theorem sum_par {n : ℕ} (e : Fin 2) (f : Fin (n * 2) → EReal) (g : Fin n → EReal)
    (h : ∀ (a : Fin n) (d : Fin 2), f ⟨2 * a.val + d.val, by omega⟩ = if e = d then g a else 0) : ∑ x, f x = ∑ a, g a := by
  rw [← finProdFinEquiv.sum_comp, Fintype.sum_prod_type]
  refine Finset.sum_congr rfl fun a _ => ?_
  have hf : ∀ d : Fin 2, f (finProdFinEquiv (a, d)) = if e = d then g a else 0 := by
    intro d
    rw [← h a d]
    refine congrArg f (Fin.ext ?_)
    show d.val + 2 * a.val = 2 * a.val + d.val
    omega
  rw [Fin.sum_univ_two, hf 0, hf 1]
  match e with
  | 0 => simp
  | 1 => simp

/-- A sum over a permuted index is the sum. -/
theorem sum_perm {n : ℕ} (p : Fin n → Fin n) (hp : Function.Injective p) (f : Fin n → EReal) : ∑ x, f (p x) = ∑ x, f x :=
  Function.Bijective.sum_comp (Finite.injective_iff_bijective.mp hp) f

theorem emul_ite (a : EReal) (p : Prop) [Decidable p] : emul a (if p then 1 else 0) = if p then a else 0 := by
  unfold emul
  split
  · exact mul_one a
  · exact mul_zero a

theorem ite_mul' (p : Prop) [Decidable p] (a b : EReal) : (if p then a else 0) * b = if p then a * b else 0 := by
  split
  · rfl
  · exact zero_mul b

/-- The input rotation's array is the rotated input, its columns in the order the weights are laid out. -/
theorem G0_eq (A : Vec Ideal S768x56x8x128 .bf16) (B : Vec Ideal S128x128 .bf16) (K : Vec Ideal S112x112 .bf16)
    (x : Fin 6144 → Fin 56 → Fin 128 → EReal) (v1 : (⟨2, ![56, 56]⟩ : Shape).Idx → EReal) (v2 : (⟨2, ![128, 128]⟩ : Shape).Idx → EReal)
    (hA : ∀ (g : Fin 768) (a : Fin 56) (w : Fin 8) (j : Fin 128), A (ix4 g a w j) = x ⟨g.val * 8 + w.val, by omega⟩ a j)
    (hB : ∀ j k : Fin 128, B (ix2 j k) = v2 (ix2 j ⟨2 * (k.val % 64) + k.val / 64, by omega⟩))
    (hK : ∀ p a : Fin 112, K (ix2 p a) = emul (v1 (ix2 ⟨a.val / 2, by omega⟩ ⟨p.val / 2, by omega⟩)) (if (⟨p.val % 2, by omega⟩ : Fin 2) = ⟨a.val % 2, by omega⟩ then 1 else 0))
    (g : Fin 768) (b : Fin 56) (w : Fin 8) (k : Fin 128) :
    G0 A B K (ix4 g b w k) = zS x v1 v2 ⟨g.val * 8 + w.val, by omega⟩ b ⟨2 * (k.val % 64) + k.val / 64, by omega⟩ := by
  show rot0 _ _ _ _ _ _ = _
  unfold rot0 zS
  refine sum_par (n := 56) (⟨w.val % 2, by omega⟩ : Fin 2) _ _ fun a d => ?_
  have hw := w.isLt
  have hd := d.isLt
  have ha := a.isLt
  rw [hK, emul_ite, ite_mul']
  have c1 : (⟨(2 * b.val + w.val % 2) % 2, by omega⟩ : Fin 2) = ⟨w.val % 2, by omega⟩ := Fin.ext (by dsimp only; omega)
  have c2 : (⟨(2 * a.val + d.val) % 2, by omega⟩ : Fin 2) = d := Fin.ext (by dsimp only; omega)
  have c3 : (⟨(2 * a.val + d.val) / 2, by omega⟩ : Fin 56) = a := Fin.ext (by dsimp only; omega)
  have c4 : (⟨(2 * b.val + w.val % 2) / 2, by omega⟩ : Fin 56) = b := Fin.ext (by dsimp only; omega)
  refine Eq.trans (b := if (⟨w.val % 2, by omega⟩ : Fin 2) = d then (v1 (ix2 a b) * ∑ j : Fin 128, x ⟨g.val * 8 + (2 * (w.val / 2) + d.val), by omega⟩ a j * v2 (ix2 j ⟨2 * (k.val % 64) + k.val / 64, by omega⟩) : EReal) else 0) (if_congr (iff_of_eq (congr (congrArg Eq c1) c2)) ?_ rfl) ?_
  · refine congr (congrArg HMul.hMul (congrArg v1 (congr (congrArg ix2 c3) c4))) (Finset.sum_congr rfl fun j _ => congr (congrArg HMul.hMul ?_) (hB j k))
    refine (hA _ _ _ _).trans ?_
    refine congrFun (congr (congrArg x (Fin.ext ?_)) c3) j
    show g.val * 8 + (2 * (w.val / 2) + (2 * a.val + d.val) % 2) = g.val * 8 + (2 * (w.val / 2) + d.val)
    omega
  · split
    · rename_i h
      have h' : w.val % 2 = d.val := congrArg Fin.val h
      rw [mul_comm]
      refine congrArg (· * _) (Finset.sum_congr rfl fun j _ => congrArg (· * _) (congrFun (congrFun (congrArg x (Fin.ext ?_)) a) j))
      show g.val * 8 + (2 * (w.val / 2) + d.val) = g.val * 8 + w.val
      omega
    · rfl

/-- The order the weights' rows are laid out in. -/
def permK (k : Fin 7168) : Fin 7168 := ⟨k.val / 128 * 128 + 2 * (k.val % 64) + k.val % 128 / 64, by omega⟩

theorem permK_inj : Function.Injective permK := by
  intro a b h
  have h' : a.val / 128 * 128 + 2 * (a.val % 64) + a.val % 128 / 64 = b.val / 128 * 128 + 2 * (b.val % 64) + b.val % 128 / 64 := congrArg Fin.val h
  have ea : a.val % 64 = a.val % 128 % 64 := by omega
  have eb : b.val % 64 = b.val % 128 % 64 := by omega
  rw [ea, eb] at h'
  have da := Nat.div_add_mod a.val 128
  have db := Nat.div_add_mod b.val 128
  have ra : a.val % 128 < 128 := Nat.mod_lt _ (by decide)
  have rb : b.val % 128 < 128 := Nat.mod_lt _ (by decide)
  generalize a.val / 128 = x at *
  generalize b.val / 128 = y at *
  generalize a.val % 128 = u at *
  generalize b.val % 128 = v at *
  have hxy : x = y := by omega
  have huv : u = v := by omega
  exact Fin.ext (by omega)

/-- The order the scaled columns of a group are laid out in. -/
def permL (l : Fin 192) : Fin 192 := ⟨l.val % 48 * 4 + l.val / 48, by omega⟩

theorem permL_inj : Function.Injective permL := by
  intro a b h
  have h' : a.val % 48 * 4 + a.val / 48 = b.val % 48 * 4 + b.val / 48 := congrArg Fin.val h
  exact Fin.ext (by omega)

theorem hgl_eq (X : Vec Ideal S6144x7168 .bf16) (C : Vec Ideal S7168x4608 .i8) (S : Vec Ideal S1x4x4608 .f32)
    (z : Fin 6144 → Fin 56 → Fin 128 → EReal) (sc : (⟨1, ![18432]⟩ : Shape).Idx → EReal)
    (hX : ∀ (t : Fin 6144) (k : Fin 7168), X (ix2 t k) = z t ⟨k.val / 128, by omega⟩ ⟨2 * (k.val % 128 % 64) + k.val % 128 / 64, by omega⟩)
    (hSc : ∀ (q : Fin 4) (n : Fin 4608), S (ix3 0 q n) = sc (ix1 ⟨n.val * 4 + q.val, by omega⟩))
    (q : Fin 4) (t : Fin 6144) (n : Fin 4608) : hgl X C S q t n = hS z C sc t n q := by
  unfold hgl hS
  refine congr (congrArg HMul.hMul ?_) (hSc q n)
  refine Eq.trans ?_ (sum_perm permK permK_inj (fun i : Fin 7168 => z t ⟨i.val / 128, by omega⟩ ⟨i.val % 128, by omega⟩ * wv (C (ix2 i n)) q))
  refine Finset.sum_congr rfl fun k _ => ?_
  refine congrArg (· * _) ((hX t k).trans (congr (congrArg (z t) (Fin.ext ?_)) (Fin.ext ?_)))
  · show k.val / 128 = (k.val / 128 * 128 + 2 * (k.val % 64) + k.val % 128 / 64) / 128
    omega
  · show 2 * (k.val % 128 % 64) + k.val % 128 / 64 = (k.val / 128 * 128 + 2 * (k.val % 64) + k.val % 128 / 64) % 128
    omega

/-- The product's array, on the columns that are read, is the scaled product with each group rotated. -/
theorem G1_eq (X : Vec Ideal S6144x7168 .bf16) (C : Vec Ideal S7168x4608 .i8) (S : Vec Ideal S1x4x4608 .f32) (U : Vec Ideal S192x256 .bf16)
    (z : Fin 6144 → Fin 56 → Fin 128 → EReal) (sc : (⟨1, ![18432]⟩ : Shape).Idx → EReal) (u2 : (⟨2, ![192, 192]⟩ : Shape).Idx → EReal)
    (hX : ∀ (t : Fin 6144) (k : Fin 7168), X (ix2 t k) = z t ⟨k.val / 128, by omega⟩ ⟨2 * (k.val % 128 % 64) + k.val % 128 / 64, by omega⟩)
    (hSc : ∀ (q : Fin 4) (n : Fin 4608), S (ix3 0 q n) = sc (ix1 ⟨n.val * 4 + q.val, by omega⟩))
    (hU : ∀ l m : Fin 192, U (ix2 l ⟨m.val, by omega⟩) = u2 (ix2 m ⟨l.val % 48 * 4 + l.val / 48, by omega⟩))
    (t : Fin 6144) (c : Fin 96) (m : Fin 192) :
    G1 X C S U (ix2 t ⟨c.val * 256 + m.val, by omega⟩) = rS (hS z C sc) u2 t c m := by
  unfold G1 rS
  refine Eq.trans ?_ (sum_perm permL permL_inj (fun l : Fin 192 => hS z C sc t ⟨c.val * 48 + l.val / 4, by omega⟩ ⟨l.val % 4, by omega⟩ * u2 (ix2 m l)))
  refine sum192_congr fun l => ?_
  have hm := m.isLt
  have hl := l.isLt
  refine congr (congrArg HMul.hMul ?_) ?_
  · refine (hgl_eq X C S z sc hX hSc _ _ _).trans (congr (congrArg _ (Fin.ext ?_)) (Fin.ext ?_))
    · show 48 * ((c.val * 256 + m.val) / 256) + l.val % 48 = c.val * 48 + (l.val % 48 * 4 + l.val / 48) / 4
      omega
    · show l.val / 48 = (l.val % 48 * 4 + l.val / 48) % 4
      omega
  · refine Eq.trans (congrArg U (congrArg (ix2 l) (Fin.ext ?_))) (hU l m)
    show (c.val * 256 + m.val) % 256 = m.val
    omega

/-- The output rotation's array is the rotated result. -/
theorem G2_eq (A : Vec Ideal S768x192x8x128 .bf16) (K : Vec Ideal S192x192 .bf16)
    (r : Fin 6144 → Fin 96 → Fin 192 → EReal) (u1 : (⟨2, ![96, 96]⟩ : Shape).Idx → EReal)
    (hA : ∀ (g : Fin 768) (a : Fin 192) (w : Fin 8) (j : Fin 128) (h : a.val % 2 * 128 + j.val < 192), A (ix4 g a w j) = r ⟨g.val * 8 + w.val, by omega⟩ ⟨a.val / 2, by omega⟩ ⟨a.val % 2 * 128 + j.val, h⟩)
    (hK : ∀ p a : Fin 192, K (ix2 p a) = emul (u1 (ix2 ⟨p.val / 2, by omega⟩ ⟨a.val / 2, by omega⟩)) (if (⟨p.val % 2, by omega⟩ : Fin 2) = ⟨a.val % 2, by omega⟩ then 1 else 0))
    (g : Fin 768) (p : Fin 144) (w : Fin 8) (l : Fin 128) :
    G2 A K (ix4 g p w l) = yS r u1 ⟨g.val * 8 + w.val, by omega⟩ ⟨(p.val * 128 + l.val) / 192, by omega⟩ ⟨(p.val * 128 + l.val) % 192, by omega⟩ := by
  show rot2 _ _ _ _ _ = _
  unfold rot2 yS
  refine sum_par (n := 96) (⟨w.val % 2, by omega⟩ : Fin 2) _ _ fun a d => ?_
  have hw := w.isLt
  have hd := d.isLt
  have ha := a.isLt
  obtain ⟨M, hM⟩ : ∃ M, M = p.val * 128 + l.val := ⟨_, rfl⟩
  have hM' : M < 18432 := by omega
  rw [hK, emul_ite, ite_mul']
  have c1 : (⟨(2 * ((p.val * 128 + l.val) / 192) + w.val % 2) % 2, by omega⟩ : Fin 2) = ⟨w.val % 2, by omega⟩ := Fin.ext (by dsimp only; omega)
  have c2 : (⟨(2 * a.val + d.val) % 2, by omega⟩ : Fin 2) = d := Fin.ext (by dsimp only; omega)
  have c3 : (⟨(2 * a.val + d.val) / 2, by omega⟩ : Fin 96) = a := Fin.ext (by dsimp only; omega)
  have c4 : (⟨(2 * ((p.val * 128 + l.val) / 192) + w.val % 2) / 2, by omega⟩ : Fin 96) = ⟨(p.val * 128 + l.val) / 192, by omega⟩ := Fin.ext (by dsimp only; omega)
  refine Eq.trans (b := if (⟨w.val % 2, by omega⟩ : Fin 2) = d then (u1 (ix2 ⟨(p.val * 128 + l.val) / 192, by omega⟩ a) * r ⟨g.val * 8 + (2 * (w.val / 2) + d.val), by omega⟩ a ⟨(p.val * 128 + l.val) % 192, by omega⟩ : EReal) else 0) (if_congr (iff_of_eq (congr (congrArg Eq c1) c2)) ?_ rfl) ?_
  · refine congr (congrArg HMul.hMul (congrArg u1 (congr (congrArg ix2 c4) c3))) ?_
    refine (hA _ _ _ _ ?_).trans ?_
    · show ((2 * a.val + d.val) / 2 * 2 + (p.val * 128 + l.val) % 192 / 128) % 2 * 128 + (p.val * 128 + l.val) % 192 % 128 < 192
      rw [← hM]; omega
    · refine congr (congr (congrArg r (Fin.ext ?_)) (Fin.ext ?_)) (Fin.ext ?_)
      · show g.val * 8 + (2 * (w.val / 2) + (2 * a.val + d.val) % 2) = g.val * 8 + (2 * (w.val / 2) + d.val)
        omega
      · show ((2 * a.val + d.val) / 2 * 2 + (p.val * 128 + l.val) % 192 / 128) / 2 = a.val
        rw [← hM]; omega
      · show ((2 * a.val + d.val) / 2 * 2 + (p.val * 128 + l.val) % 192 / 128) % 2 * 128 + (p.val * 128 + l.val) % 192 % 128 = (p.val * 128 + l.val) % 192
        rw [← hM]; omega
  · split
    · rename_i h
      have h' : w.val % 2 = d.val := congrArg Fin.val h
      rw [mul_comm]
      refine congrArg (· * _) (congrFun (congrFun (congrArg r (Fin.ext ?_)) _) _)
      show g.val * 8 + (2 * (w.val / 2) + d.val) = g.val * 8 + w.val
      omega
    · rfl

end Cert.KernelIdeal.Val

end
-- ==== Proof.KernelIdeal.Result.lean ====
/-
The whole program's result, element by element: the three calls and the operations between them, composed.
-/
module

public import proofs.«01_k».proof.Proof.KernelIdeal.Run
public import proofs.«01_k».proof.Proof.KernelIdeal.Sums

@[expose] public section

set_option maxRecDepth 16384

noncomputable section

namespace Cert.KernelIdeal.Val

open Idealize.ShloMosaic Idealize.ShloMosaic.TcCoe Cert.KernelIdeal Cert.KernelIdeal.Gen Cert.KernelIdeal.Run Cert.Quip

variable (m : (ℓ : Loc nD τ sig) → Buf (Elt Ideal) ℓ) (ρ : Dev nD → PrngReg) (c : Dev nD)

/-- The arguments, as the layer's formula takes them. -/
abbrev a0 : (⟨3, ![6, 1024, 7168]⟩ : Shape).Idx → EReal := m ((c.tc : Thread nD τ).loc main_arg0)
abbrev a1 : (⟨2, ![56, 56]⟩ : Shape).Idx → EReal := m ((c.tc : Thread nD τ).loc main_arg1)
abbrev a2 : (⟨2, ![128, 128]⟩ : Shape).Idx → EReal := m ((c.tc : Thread nD τ).loc main_arg2)
abbrev a3 : (⟨2, ![7168, 4608]⟩ : Shape).Idx → BitVec 8 := m ((c.tc : Thread nD τ).loc main_arg3)
abbrev a4 : (⟨1, ![18432]⟩ : Shape).Idx → EReal := m ((c.tc : Thread nD τ).loc main_arg4)
abbrev a5 : (⟨2, ![96, 96]⟩ : Shape).Idx → EReal := m ((c.tc : Thread nD τ).loc main_arg5)
abbrev a6 : (⟨2, ![192, 192]⟩ : Shape).Idx → EReal := m ((c.tc : Thread nD τ).loc main_arg6)

/-- The two-by-two identity. -/
theorem W1_v5 (p q : Fin 2) : (W1 m ρ c (Proc.devRef .tc main_v5) : Vec Ideal S2x2 .bf16) (ix2 p q) = (if p = q then 1 else 0 : EReal) := h_v5 _ p q

theorem W3_v8 (j k : Fin 128) : (W3 m ρ c (Proc.devRef .tc main_v8) : Vec Ideal S128x128 .bf16) (ix2 j k) = a2 m c (ix2 j ⟨2 * (k.val % 64) + k.val / 64, by omega⟩) := by
  rw [W3_of m ρ c main_v8 (by decide), W2_of m ρ c main_v8 (by decide)]
  exact h_v8 _ j k

theorem W3_v10 (p a : Fin 112) : (W3 m ρ c (Proc.devRef .tc main_v10) : Vec Ideal S112x112 .bf16) (ix2 p a)
    = emul (a1 m c (ix2 ⟨a.val / 2, by omega⟩ ⟨p.val / 2, by omega⟩)) (if (⟨p.val % 2, by omega⟩ : Fin 2) = ⟨a.val % 2, by omega⟩ then 1 else 0) := by
  rw [W3_of m ρ c main_v10 (by decide)]
  refine (h_v10 _ p a).trans (congr (congrArg emul ?_) ?_)
  · exact h_v9 _ _ _
  · exact W1_v5 m ρ c _ _

theorem W3_v12 (g : Fin 768) (a : Fin 56) (w : Fin 8) (j : Fin 128) : (W3 m ρ c (Proc.devRef .tc main_v12) : Vec Ideal S768x56x8x128 .bf16) (ix4 g a w j)
    = xS (a0 m c) ⟨g.val * 8 + w.val, by omega⟩ a j := by
  refine (h_v12 _ g a w j).trans ?_
  rw [W2_args m ρ c main_arg0 (by decide)]
  rfl

theorem W4_v13 (g : Fin 768) (b : Fin 56) (w : Fin 8) (k : Fin 128) : (W4 m ρ c (Proc.devRef .tc main_v13) : Vec Ideal S768x56x8x128 .bf16) (ix4 g b w k)
    = zS (xS (a0 m c)) (a1 m c) (a2 m c) ⟨g.val * 8 + w.val, by omega⟩ b ⟨2 * (k.val % 64) + k.val / 64, by omega⟩ := by
  have h := (W4_arr m ρ c 3).trans (arr0 (V3 m ρ) c)
  refine (congrFun h (ix4 g b w k)).trans ?_
  exact G0_eq _ _ _ _ _ _ (W3_v12 m ρ c) (W3_v8 m ρ c) (W3_v10 m ρ c) g b w k

theorem W6_v15 (t : Fin 6144) (k : Fin 7168) : (W6 m ρ c (Proc.devRef .tc main_v15) : Vec Ideal S6144x7168 .bf16) (ix2 t k)
    = zS (xS (a0 m c)) (a1 m c) (a2 m c) t ⟨k.val / 128, by omega⟩ ⟨2 * (k.val % 128 % 64) + k.val % 128 / 64, by omega⟩ := by
  rw [W6_of m ρ c main_v15 (by decide)]
  refine (h_v15 _ t k).trans ((W4_v13 m ρ c _ _ _ _).trans ?_)
  refine congrFun (congrFun (congrArg _ (Fin.ext ?_)) _) _
  show t.val / 8 * 8 + t.val % 8 = t.val
  omega

theorem W6_v18 (q : Fin 4) (n : Fin 4608) : (W6 m ρ c (Proc.devRef .tc main_v18) : Vec Ideal S1x4x4608 .f32) (ix3 0 q n) = a4 m c (ix1 ⟨n.val * 4 + q.val, by omega⟩) := by
  rw [W6_of m ρ c main_v18 (by decide)]
  refine (h_v18 _ q n).trans ?_
  rw [W4_args m ρ c main_arg4 (by decide)]

theorem W6_v23 (l n : Fin 192) : (W6 m ρ c (Proc.devRef .tc main_v23) : Vec Ideal S192x256 .bf16) (ix2 l ⟨n.val, by omega⟩) = a6 m c (ix2 n ⟨l.val % 48 * 4 + l.val / 48, by omega⟩) := by
  refine (h_v23 _ l ⟨n.val, by omega⟩ n.isLt).trans ((h_v22 _ l n).trans ?_)
  rw [W4_args m ρ c main_arg6 (by decide)]

theorem W7_v24 (t : Fin 6144) (b : Fin 96) (n : Fin 192) : (W7 m ρ c (Proc.devRef .tc main_v24) : Vec Ideal S6144x24576 .bf16) (ix2 t ⟨b.val * 256 + n.val, by omega⟩)
    = rS (hS (zS (xS (a0 m c)) (a1 m c) (a2 m c)) (a3 m c) (a4 m c)) (a6 m c) t b n := by
  have h := (W7_arr m ρ c 4).trans (arr1 (V6 m ρ) c)
  refine (congrFun h (ix2 t ⟨b.val * 256 + n.val, by omega⟩)).trans ?_
  have h3 : V6 m ρ c main_arg3 = m ((c.tc : Thread nD τ).loc main_arg3) := W6_args m ρ c main_arg3 (by decide)
  rw [h3]
  exact G1_eq _ _ _ _ _ _ _ (W6_v15 m ρ c) (W6_v18 m ρ c) (W6_v23 m ρ c) t b n

theorem W7_v5 : W7 m ρ c (Proc.devRef .tc main_v5) = W1 m ρ c (Proc.devRef .tc main_v5) :=
  (W7_of m ρ c main_v5 (by decide)).trans ((W6_of m ρ c main_v5 (by decide)).trans ((W5_of m ρ c main_v5 (by decide)).trans
    ((W4_of m ρ c main_v5 (by decide)).trans ((W3_of m ρ c main_v5 (by decide)).trans (W2_of m ρ c main_v5 (by decide))))))

theorem W9_v25 (p a : Fin 192) : (W9 m ρ c (Proc.devRef .tc main_v25) : Vec Ideal S192x192 .bf16) (ix2 p a)
    = emul (a5 m c (ix2 ⟨p.val / 2, by omega⟩ ⟨a.val / 2, by omega⟩)) (if (⟨p.val % 2, by omega⟩ : Fin 2) = ⟨a.val % 2, by omega⟩ then 1 else 0) := by
  rw [W9_of m ρ c main_v25 (by decide)]
  refine (h_v25 _ p a).trans (congr (congrArg emul ?_) ?_)
  · rw [W7_args m ρ c main_arg5 (by decide)]
  · rw [W7_v5]
    exact W1_v5 m ρ c _ _

theorem W9_v27 (g : Fin 768) (a : Fin 192) (w : Fin 8) (j : Fin 128) (h : a.val % 2 * 128 + j.val < 192) : (W9 m ρ c (Proc.devRef .tc main_v27) : Vec Ideal S768x192x8x128 .bf16) (ix4 g a w j)
    = rS (hS (zS (xS (a0 m c)) (a1 m c) (a2 m c)) (a3 m c) (a4 m c)) (a6 m c) ⟨g.val * 8 + w.val, by omega⟩ ⟨a.val / 2, by omega⟩ ⟨a.val % 2 * 128 + j.val, h⟩ := by
  refine (h_v27 _ g a w j).trans ?_
  rw [W8_of m ρ c main_v24 (by decide)]
  refine Eq.trans ?_ (W7_v24 m ρ c _ _ _)
  refine congrArg (W7 m ρ c (Proc.devRef .tc main_v24)) (congrArg (ix2 _) (Fin.ext ?_))
  show a.val * 128 + j.val = a.val / 2 * 256 + (a.val % 2 * 128 + j.val)
  omega

theorem W10_v28 (g : Fin 768) (p : Fin 144) (w : Fin 8) (l : Fin 128) : (W10 m ρ c (Proc.devRef .tc main_v28) : Vec Ideal S768x144x8x128 .bf16) (ix4 g p w l)
    = yS (rS (hS (zS (xS (a0 m c)) (a1 m c) (a2 m c)) (a3 m c) (a4 m c)) (a6 m c)) (a5 m c) ⟨g.val * 8 + w.val, by omega⟩ ⟨(p.val * 128 + l.val) / 192, by omega⟩ ⟨(p.val * 128 + l.val) % 192, by omega⟩ := by
  have h := (W10_arr m ρ c 2).trans (arr2 (V9 m ρ) c)
  refine (congrFun h (ix4 g p w l)).trans ?_
  exact G2_eq _ _ _ _ (W9_v27 m ρ c) (W9_v25 m ρ c) g p w l

/-- The result the kernel leaves is the layer's formula of its arguments. -/
theorem result_apply (i : Fin 6) (s : Fin 1024) (n : Fin 18432) : (W11 m ρ c (Proc.devRef .tc main_v30) : Vec Ideal S6x1024x18432 .bf16) (ix3 i s n)
    = outS (a0 m c) (a1 m c) (a2 m c) (a3 m c) (a4 m c) (a5 m c) (a6 m c) ⟨i.val * 1024 + s.val, by omega⟩ n := by
  refine (h_v30 _ i s n).trans ((W10_v28 m ρ c _ _ _ _).trans ?_)
  unfold outS
  refine congr (congr (congrArg _ (Fin.ext ?_)) (Fin.ext ?_)) (Fin.ext ?_)
  · show (i.val * 1024 + s.val) / 8 * 8 + (i.val * 1024 + s.val) % 8 = i.val * 1024 + s.val
    omega
  · show (n.val / 128 * 128 + n.val % 128) / 192 = n.val / 192
    omega
  · show (n.val / 128 * 128 + n.val % 128) % 192 = n.val % 192
    omega

end Cert.KernelIdeal.Val

end
-- ==== Proof.lean ====
/-
The proof of `Cert.Claim`: the frames of the kernel, of its idealized program and of the reference, that the
idealized program preserves the kernel, and that it computes the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Ref
public import proofs.«01_k».proof.Proof.KernelIdeal.Result
public import Idealize.ShloMosaic.Lib.Bf16Pair
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The idealized program differs from the kernel by rewrites of the rule `bf16_pair` alone. -/
theorem preserves : preserves_Kernel_KernelIdeal :=
  ⟨IdealRules.bf16_pair.statement Cert.KernelIdeal.S1x56x2x128 Cert.KernelIdeal.S1x56x1x128, IdealRules.bf16_pair.statement Cert.KernelIdeal.S112x128 Cert.KernelIdeal.S56x128, IdealRules.bf16_pair.statement Cert.KernelIdeal.S1x192x2x128 Cert.KernelIdeal.S1x192x1x128, IdealRules.bf16_pair.statement Cert.KernelIdeal.S192x128 Cert.KernelIdeal.S96x128, IdealRules.bf16_pair.statement Cert.KernelIdeal.S192x256 Cert.KernelIdeal.S96x256, IdealRules.bf16_pair.statement Cert.KernelIdeal.S1x144x2x128 Cert.KernelIdeal.S1x144x1x128⟩

open Cert.KernelIdeal.Run in
/-- From equal arguments the reference's result and the idealized kernel's are the same array. -/
theorem results_eq (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    (Cert.ReferenceIdeal.Value.res_main_v77 m' c : FVec Ideal ⟨3, ![6, 1024, 18432]⟩ .bf16) = W11 m g c (Proc.devRef .tc Cert.KernelIdeal.main_v30) := by
  funext y
  obtain ⟨i, s, n, rfl⟩ : ∃ (i : Fin 6) (s : Fin 1024) (n : Fin 18432), y = ix3 i s n := ⟨y 0, y 1, y 2, by
    funext d; match d with
    | 0 => rfl
    | 1 => rfl
    | 2 => rfl⟩
  refine (Cert.ReferenceIdeal.Value.res_apply m' c i s n).trans ?_
  refine Eq.trans ?_ (Cert.KernelIdeal.Val.result_apply m g c i s n).symm
  rw [h0, h1, h2, h3, h4, h5, h6]

/-- The idealized kernel computes the reference's result. -/
theorem algebraic : algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Run.W11 m g c (Proc.devRef .tc Cert.KernelIdeal.main_v30), Cert.KernelIdeal.Run.result m g, ?_⟩
  refine (θ_run Cert.ReferenceIdeal.defs _ _).mono (fun r h c => ⟨(h c).1.trans ?_, (h c).2⟩) (Cert.ReferenceIdeal.Value.run (F := Ideal) m' g')
  obtain ⟨h0, h1, h2, h3, h4, h5, h6⟩ := hargs c
  exact results_eq m g m' c h0 h1 h2 h3 h4 h5 h6

theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ,
  fun m ρ _ => (θ_run Cert.ReferenceIdeal.defs _ _).mono (fun r h => ⟨fun c => (h c).2, Idealize.ShloMosaic.sem_eq_zero_of_no_sems (by decide) r.2⟩) (Cert.ReferenceIdeal.Value.run (F := Ideal) m ρ), preserves, algebraic⟩

end Cert.Proof

end
